-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S4096x8192 : Shape := ⟨2, ![4096, 8192]⟩
abbrev S2x4x256x1024 : Shape := ⟨4, ![2, 4, 256, 1024]⟩
abbrev S8 : Shape := ⟨1, ![8]⟩
abbrev S_ : Shape := ⟨0, ![]⟩
abbrev S4 : Shape := ⟨1, ![4]⟩
abbrev S256x256 : Shape := ⟨2, ![256, 256]⟩
abbrev S256x4096 : Shape := ⟨2, ![256, 4096]⟩
abbrev S256x1024 : Shape := ⟨2, ![256, 1024]⟩
abbrev S1x1x256x1024 : Shape := ⟨4, ![1, 1, 256, 1024]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S4096x256, .f32⟩
  | .hbm, ⟨1, _⟩ => ⟨S256x8192, .f32⟩
  | .hbm, ⟨2, _⟩ => ⟨S4096x8192, .f32⟩
  | .local _ .vmem, ⟨0, _⟩ => ⟨S4096x256, .f32⟩
  | .local _ .vmem, ⟨1, _⟩ => ⟨S256x8192, .f32⟩
  | .local _ .vmem, ⟨2, _⟩ => ⟨S2x4x256x1024, .f32⟩
  | .local _ .vmem, ⟨3, _⟩ => ⟨S2x4x256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 9 42 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 8

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v13 : BitVec 32 := Scalar.muli v2 c256_i32
  let v14 : Index := Scalar.indexCast v13
  let c0 : Index := 0#32
  ![v14.toNat, 0]
def k0_dev3 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_50 : BitVec 32 := 1#32
  let v59 : BitVec 32 := Scalar.muli v4 c1_i32_50
  let v60 : BitVec 32 := Scalar.addi c0_i32_51 v59
  v60.toNat
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_62 : BitVec 32 := 1#32
  let v69 : BitVec 32 := Scalar.muli v7 c1_i32_62
  let v70 : BitVec 32 := Scalar.addi c0_i32_63 v69
  v70.toNat
def k0_dev5 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_73 : BitVec 32 := 1#32
  let v79 : BitVec 32 := Scalar.muli v4 c1_i32_73
  let v80 : BitVec 32 := Scalar.addi c0_i32_74 v79
  v80.toNat
def k0_dev6 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_85 : BitVec 32 := 1#32
  let v89 : BitVec 32 := Scalar.muli v7 c1_i32_85
  let v90 : BitVec 32 := Scalar.addi c0_i32_86 v89
  v90.toNat
def k0_dev7 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_96 : BitVec 32 := 1#32
  let v99 : BitVec 32 := Scalar.muli v4 c1_i32_96
  let v100 : BitVec 32 := Scalar.addi c0_i32_97 v99
  v100.toNat
def k0_dev8 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_108 : BitVec 32 := 1#32
  let v109 : BitVec 32 := Scalar.muli v7 c1_i32_108
  let v110 : BitVec 32 := Scalar.addi c0_i32_109 v109
  v110.toNat
def k0_dev9 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_118 : BitVec 32 := 1#32
  let v119 : BitVec 32 := Scalar.muli v4 c1_i32_118
  let v120 : BitVec 32 := Scalar.addi c0_i32_119 v119
  v120.toNat
def k0_dev10 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_130 : BitVec 32 := 1#32
  let v129 : BitVec 32 := Scalar.muli v7 c1_i32_130
  let v130 : BitVec 32 := Scalar.addi c0_i32_131 v129
  v130.toNat
def k0_off2 (d0 : Dev nD) (c1_i32_136 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v139 : BitVec 32 := Scalar.subi v2 c1_i32_136
  let c32_i32 : BitVec 32 := 32#32
  let v140 : BitVec 32 := Scalar.addi v139 c32_i32
  let c16_i32_137 : BitVec 32 := 16#32
  let v141 : BitVec 32 := Scalar.remsi v140 c16_i32_137
  let c256_i32_140 : BitVec 32 := 256#32
  let v144 : BitVec 32 := Scalar.muli v141 c256_i32_140
  let v145 : Index := Scalar.indexCast v144
  let c0_141 : Index := 0#32
  ![v145.toNat, 0]
def k0_off3 (d0 : Dev nD) (c1_i32_138 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v142 : BitVec 32 := Scalar.addi v2 c1_i32_138
  let c16_i32_139 : BitVec 32 := 16#32
  let v143 : BitVec 32 := Scalar.remsi v142 c16_i32_139
  let c256_i32_145 : BitVec 32 := 256#32
  let v151 : BitVec 32 := Scalar.muli v143 c256_i32_145
  let v152 : Index := Scalar.indexCast v151
  let c0_146 : Index := 0#32
  ![v152.toNat, 0]
def k0_dev11 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_182 : BitVec 32 := 1#32
  let v179 : BitVec 32 := Scalar.muli v7 c1_i32_182
  let v180 : BitVec 32 := Scalar.addi c0_i32_183 v179
  v180.toNat
def k0_dev12 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_216 : BitVec 32 := 1#32
  let v202 : BitVec 32 := Scalar.muli v4 c1_i32_216
  let v203 : BitVec 32 := Scalar.addi c0_i32_217 v202
  v203.toNat
def k0_dev13 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_250 : BitVec 32 := 1#32
  let v225 : BitVec 32 := Scalar.muli v7 c1_i32_250
  let v226 : BitVec 32 := Scalar.addi c0_i32_251 v225
  v226.toNat
def k0_dev14 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_284 : BitVec 32 := 1#32
  let v248 : BitVec 32 := Scalar.muli v4 c1_i32_284
  let v249 : BitVec 32 := Scalar.addi c0_i32_285 v248
  v249.toNat
def k0_dev15 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_318 : BitVec 32 := 1#32
  let v271 : BitVec 32 := Scalar.muli v7 c1_i32_318
  let v272 : BitVec 32 := Scalar.addi c0_i32_319 v271
  v272.toNat
def k0_dev16 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_352 : BitVec 32 := 1#32
  let v294 : BitVec 32 := Scalar.muli v4 c1_i32_352
  let v295 : BitVec 32 := Scalar.addi c0_i32_353 v294
  v295.toNat
def k0_dev17 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_386 : BitVec 32 := 1#32
  let v317 : BitVec 32 := Scalar.muli v7 c1_i32_386
  let v318 : BitVec 32 := Scalar.addi c0_i32_387 v317
  v318.toNat
def k0_dev18 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_420 : BitVec 32 := 1#32
  let v340 : BitVec 32 := Scalar.muli v4 c1_i32_420
  let v341 : BitVec 32 := Scalar.addi c0_i32_421 v340
  v341.toNat
def k0_dev19 (d0 : Dev nD) : Nat :=
  let c0_i32_431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_430 : BitVec 32 := 1#32
  let v342 : BitVec 32 := Scalar.muli v4 c1_i32_430
  let v343 : BitVec 32 := Scalar.addi c0_i32_431 v342
  v343.toNat
def k0_dev20 (d0 : Dev nD) : Nat :=
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_444 : BitVec 32 := 1#32
  let v352 : BitVec 32 := Scalar.muli v7 c1_i32_444
  let v353 : BitVec 32 := Scalar.addi c0_i32_445 v352
  v353.toNat
def k0_dev21 (d0 : Dev nD) : Nat :=
  let c0_i32_459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_458 : BitVec 32 := 1#32
  let v362 : BitVec 32 := Scalar.muli v4 c1_i32_458
  let v363 : BitVec 32 := Scalar.addi c0_i32_459 v362
  v363.toNat
def k0_dev22 (d0 : Dev nD) : Nat :=
  let c0_i32_473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_472 : BitVec 32 := 1#32
  let v372 : BitVec 32 := Scalar.muli v7 c1_i32_472
  let v373 : BitVec 32 := Scalar.addi c0_i32_473 v372
  v373.toNat
def k0_dev23 (d0 : Dev nD) : Nat :=
  let c0_i32_487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_486 : BitVec 32 := 1#32
  let v382 : BitVec 32 := Scalar.muli v4 c1_i32_486
  let v383 : BitVec 32 := Scalar.addi c0_i32_487 v382
  v383.toNat
def k0_dev24 (d0 : Dev nD) : Nat :=
  let c0_i32_501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_500 : BitVec 32 := 1#32
  let v392 : BitVec 32 := Scalar.muli v7 c1_i32_500
  let v393 : BitVec 32 := Scalar.addi c0_i32_501 v392
  v393.toNat
def k0_dev25 (d0 : Dev nD) : Nat :=
  let c0_i32_515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_514 : BitVec 32 := 1#32
  let v402 : BitVec 32 := Scalar.muli v4 c1_i32_514
  let v403 : BitVec 32 := Scalar.addi c0_i32_515 v402
  v403.toNat
def k0_dev26 (d0 : Dev nD) : Nat :=
  let c0_i32_529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_528 : BitVec 32 := 1#32
  let v412 : BitVec 32 := Scalar.muli v7 c1_i32_528
  let v413 : BitVec 32 := Scalar.addi c0_i32_529 v412
  v413.toNat
def k0_dev27 (d0 : Dev nD) : Nat :=
  let c0_i32_582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_581 : BitVec 32 := 1#32
  let v462 : BitVec 32 := Scalar.muli v7 c1_i32_581
  let v463 : BitVec 32 := Scalar.addi c0_i32_582 v462
  v463.toNat
def k0_dev28 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_615 : BitVec 32 := 1#32
  let v485 : BitVec 32 := Scalar.muli v4 c1_i32_615
  let v486 : BitVec 32 := Scalar.addi c0_i32_616 v485
  v486.toNat
def k0_dev29 (d0 : Dev nD) : Nat :=
  let c0_i32_650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_649 : BitVec 32 := 1#32
  let v508 : BitVec 32 := Scalar.muli v7 c1_i32_649
  let v509 : BitVec 32 := Scalar.addi c0_i32_650 v508
  v509.toNat
def k0_dev30 (d0 : Dev nD) : Nat :=
  let c0_i32_684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_683 : BitVec 32 := 1#32
  let v531 : BitVec 32 := Scalar.muli v4 c1_i32_683
  let v532 : BitVec 32 := Scalar.addi c0_i32_684 v531
  v532.toNat
def k0_dev31 (d0 : Dev nD) : Nat :=
  let c0_i32_718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_717 : BitVec 32 := 1#32
  let v554 : BitVec 32 := Scalar.muli v7 c1_i32_717
  let v555 : BitVec 32 := Scalar.addi c0_i32_718 v554
  v555.toNat
def k0_dev32 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_751 : BitVec 32 := 1#32
  let v577 : BitVec 32 := Scalar.muli v4 c1_i32_751
  let v578 : BitVec 32 := Scalar.addi c0_i32_752 v577
  v578.toNat
def k0_dev33 (d0 : Dev nD) : Nat :=
  let c0_i32_786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_785 : BitVec 32 := 1#32
  let v600 : BitVec 32 := Scalar.muli v7 c1_i32_785
  let v601 : BitVec 32 := Scalar.addi c0_i32_786 v600
  v601.toNat
def k0_dev34 (d0 : Dev nD) : Nat :=
  let c0_i32_820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_819 : BitVec 32 := 1#32
  let v623 : BitVec 32 := Scalar.muli v4 c1_i32_819
  let v624 : BitVec 32 := Scalar.addi c0_i32_820 v623
  v624.toNat
def k0_dev35 (d0 : Dev nD) : Nat :=
  let c0_i32_830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_829 : BitVec 32 := 1#32
  let v625 : BitVec 32 := Scalar.muli v4 c1_i32_829
  let v626 : BitVec 32 := Scalar.addi c0_i32_830 v625
  v626.toNat
def k0_dev36 (d0 : Dev nD) : Nat :=
  let c0_i32_844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_843 : BitVec 32 := 1#32
  let v635 : BitVec 32 := Scalar.muli v7 c1_i32_843
  let v636 : BitVec 32 := Scalar.addi c0_i32_844 v635
  v636.toNat
def k0_dev37 (d0 : Dev nD) : Nat :=
  let c0_i32_858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_857 : BitVec 32 := 1#32
  let v645 : BitVec 32 := Scalar.muli v4 c1_i32_857
  let v646 : BitVec 32 := Scalar.addi c0_i32_858 v645
  v646.toNat
def k0_dev38 (d0 : Dev nD) : Nat :=
  let c0_i32_872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_871 : BitVec 32 := 1#32
  let v655 : BitVec 32 := Scalar.muli v7 c1_i32_871
  let v656 : BitVec 32 := Scalar.addi c0_i32_872 v655
  v656.toNat
def k0_dev39 (d0 : Dev nD) : Nat :=
  let c0_i32_886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_885 : BitVec 32 := 1#32
  let v665 : BitVec 32 := Scalar.muli v4 c1_i32_885
  let v666 : BitVec 32 := Scalar.addi c0_i32_886 v665
  v666.toNat
def k0_dev40 (d0 : Dev nD) : Nat :=
  let c0_i32_900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_899 : BitVec 32 := 1#32
  let v675 : BitVec 32 := Scalar.muli v7 c1_i32_899
  let v676 : BitVec 32 := Scalar.addi c0_i32_900 v675
  v676.toNat
def k0_dev41 (d0 : Dev nD) : Nat :=
  let c0_i32_914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_913 : BitVec 32 := 1#32
  let v685 : BitVec 32 := Scalar.muli v4 c1_i32_913
  let v686 : BitVec 32 := Scalar.addi c0_i32_914 v685
  v686.toNat
def k0_dev42 (d0 : Dev nD) : Nat :=
  let c0_i32_928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_927 : BitVec 32 := 1#32
  let v695 : BitVec 32 := Scalar.muli v7 c1_i32_927
  let v696 : BitVec 32 := Scalar.addi c0_i32_928 v695
  v696.toNat
def k0_dev43 (d0 : Dev nD) : Nat :=
  let c0_i32_981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_980 : BitVec 32 := 1#32
  let v745 : BitVec 32 := Scalar.muli v7 c1_i32_980
  let v746 : BitVec 32 := Scalar.addi c0_i32_981 v745
  v746.toNat
def k0_dev44 (d0 : Dev nD) : Nat :=
  let c0_i32_1015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1014 : BitVec 32 := 1#32
  let v768 : BitVec 32 := Scalar.muli v4 c1_i32_1014
  let v769 : BitVec 32 := Scalar.addi c0_i32_1015 v768
  v769.toNat
def k0_dev45 (d0 : Dev nD) : Nat :=
  let c0_i32_1049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1048 : BitVec 32 := 1#32
  let v791 : BitVec 32 := Scalar.muli v7 c1_i32_1048
  let v792 : BitVec 32 := Scalar.addi c0_i32_1049 v791
  v792.toNat
def k0_dev46 (d0 : Dev nD) : Nat :=
  let c0_i32_1083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1082 : BitVec 32 := 1#32
  let v814 : BitVec 32 := Scalar.muli v4 c1_i32_1082
  let v815 : BitVec 32 := Scalar.addi c0_i32_1083 v814
  v815.toNat
def k0_dev47 (d0 : Dev nD) : Nat :=
  let c0_i32_1117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1116 : BitVec 32 := 1#32
  let v837 : BitVec 32 := Scalar.muli v7 c1_i32_1116
  let v838 : BitVec 32 := Scalar.addi c0_i32_1117 v837
  v838.toNat
def k0_dev48 (d0 : Dev nD) : Nat :=
  let c0_i32_1151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1150 : BitVec 32 := 1#32
  let v860 : BitVec 32 := Scalar.muli v4 c1_i32_1150
  let v861 : BitVec 32 := Scalar.addi c0_i32_1151 v860
  v861.toNat
def k0_dev49 (d0 : Dev nD) : Nat :=
  let c0_i32_1185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1184 : BitVec 32 := 1#32
  let v883 : BitVec 32 := Scalar.muli v7 c1_i32_1184
  let v884 : BitVec 32 := Scalar.addi c0_i32_1185 v883
  v884.toNat
def k0_dev50 (d0 : Dev nD) : Nat :=
  let c0_i32_1219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1218 : BitVec 32 := 1#32
  let v906 : BitVec 32 := Scalar.muli v4 c1_i32_1218
  let v907 : BitVec 32 := Scalar.addi c0_i32_1219 v906
  v907.toNat
def k0_dev51 (d0 : Dev nD) : Nat :=
  let c0_i32_1229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1228 : BitVec 32 := 1#32
  let v908 : BitVec 32 := Scalar.muli v4 c1_i32_1228
  let v909 : BitVec 32 := Scalar.addi c0_i32_1229 v908
  v909.toNat
def k0_dev52 (d0 : Dev nD) : Nat :=
  let c0_i32_1243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1242 : BitVec 32 := 1#32
  let v918 : BitVec 32 := Scalar.muli v7 c1_i32_1242
  let v919 : BitVec 32 := Scalar.addi c0_i32_1243 v918
  v919.toNat
def k0_dev53 (d0 : Dev nD) : Nat :=
  let c0_i32_1257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1256 : BitVec 32 := 1#32
  let v928 : BitVec 32 := Scalar.muli v4 c1_i32_1256
  let v929 : BitVec 32 := Scalar.addi c0_i32_1257 v928
  v929.toNat
def k0_dev54 (d0 : Dev nD) : Nat :=
  let c0_i32_1271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1270 : BitVec 32 := 1#32
  let v938 : BitVec 32 := Scalar.muli v7 c1_i32_1270
  let v939 : BitVec 32 := Scalar.addi c0_i32_1271 v938
  v939.toNat
def k0_dev55 (d0 : Dev nD) : Nat :=
  let c0_i32_1285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1284 : BitVec 32 := 1#32
  let v948 : BitVec 32 := Scalar.muli v4 c1_i32_1284
  let v949 : BitVec 32 := Scalar.addi c0_i32_1285 v948
  v949.toNat
def k0_dev56 (d0 : Dev nD) : Nat :=
  let c0_i32_1299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1298 : BitVec 32 := 1#32
  let v958 : BitVec 32 := Scalar.muli v7 c1_i32_1298
  let v959 : BitVec 32 := Scalar.addi c0_i32_1299 v958
  v959.toNat
def k0_dev57 (d0 : Dev nD) : Nat :=
  let c0_i32_1313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1312 : BitVec 32 := 1#32
  let v968 : BitVec 32 := Scalar.muli v4 c1_i32_1312
  let v969 : BitVec 32 := Scalar.addi c0_i32_1313 v968
  v969.toNat
def k0_dev58 (d0 : Dev nD) : Nat :=
  let c0_i32_1327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1326 : BitVec 32 := 1#32
  let v978 : BitVec 32 := Scalar.muli v7 c1_i32_1326
  let v979 : BitVec 32 := Scalar.addi c0_i32_1327 v978
  v979.toNat
def k0_dev59 (d0 : Dev nD) : Nat :=
  let c0_i32_1380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1379 : BitVec 32 := 1#32
  let v1028 : BitVec 32 := Scalar.muli v7 c1_i32_1379
  let v1029 : BitVec 32 := Scalar.addi c0_i32_1380 v1028
  v1029.toNat
def k0_dev60 (d0 : Dev nD) : Nat :=
  let c0_i32_1414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1413 : BitVec 32 := 1#32
  let v1051 : BitVec 32 := Scalar.muli v4 c1_i32_1413
  let v1052 : BitVec 32 := Scalar.addi c0_i32_1414 v1051
  v1052.toNat
def k0_dev61 (d0 : Dev nD) : Nat :=
  let c0_i32_1448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1447 : BitVec 32 := 1#32
  let v1074 : BitVec 32 := Scalar.muli v7 c1_i32_1447
  let v1075 : BitVec 32 := Scalar.addi c0_i32_1448 v1074
  v1075.toNat
def k0_dev62 (d0 : Dev nD) : Nat :=
  let c0_i32_1482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1481 : BitVec 32 := 1#32
  let v1097 : BitVec 32 := Scalar.muli v4 c1_i32_1481
  let v1098 : BitVec 32 := Scalar.addi c0_i32_1482 v1097
  v1098.toNat
def k0_dev63 (d0 : Dev nD) : Nat :=
  let c0_i32_1516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1515 : BitVec 32 := 1#32
  let v1120 : BitVec 32 := Scalar.muli v7 c1_i32_1515
  let v1121 : BitVec 32 := Scalar.addi c0_i32_1516 v1120
  v1121.toNat
def k0_dev64 (d0 : Dev nD) : Nat :=
  let c0_i32_1550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1549 : BitVec 32 := 1#32
  let v1143 : BitVec 32 := Scalar.muli v4 c1_i32_1549
  let v1144 : BitVec 32 := Scalar.addi c0_i32_1550 v1143
  v1144.toNat
def k0_dev65 (d0 : Dev nD) : Nat :=
  let c0_i32_1584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1583 : BitVec 32 := 1#32
  let v1166 : BitVec 32 := Scalar.muli v7 c1_i32_1583
  let v1167 : BitVec 32 := Scalar.addi c0_i32_1584 v1166
  v1167.toNat
def k0_dev66 (d0 : Dev nD) : Nat :=
  let c0_i32_1618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1617 : BitVec 32 := 1#32
  let v1189 : BitVec 32 := Scalar.muli v4 c1_i32_1617
  let v1190 : BitVec 32 := Scalar.addi c0_i32_1618 v1189
  v1190.toNat
def k0_dev67 (d0 : Dev nD) : Nat :=
  let c0_i32_1628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1627 : BitVec 32 := 1#32
  let v1191 : BitVec 32 := Scalar.muli v4 c1_i32_1627
  let v1192 : BitVec 32 := Scalar.addi c0_i32_1628 v1191
  v1192.toNat
def k0_dev68 (d0 : Dev nD) : Nat :=
  let c0_i32_1642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1641 : BitVec 32 := 1#32
  let v1201 : BitVec 32 := Scalar.muli v7 c1_i32_1641
  let v1202 : BitVec 32 := Scalar.addi c0_i32_1642 v1201
  v1202.toNat
def k0_dev69 (d0 : Dev nD) : Nat :=
  let c0_i32_1656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1655 : BitVec 32 := 1#32
  let v1211 : BitVec 32 := Scalar.muli v4 c1_i32_1655
  let v1212 : BitVec 32 := Scalar.addi c0_i32_1656 v1211
  v1212.toNat
def k0_dev70 (d0 : Dev nD) : Nat :=
  let c0_i32_1670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1669 : BitVec 32 := 1#32
  let v1221 : BitVec 32 := Scalar.muli v7 c1_i32_1669
  let v1222 : BitVec 32 := Scalar.addi c0_i32_1670 v1221
  v1222.toNat
def k0_dev71 (d0 : Dev nD) : Nat :=
  let c0_i32_1684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1683 : BitVec 32 := 1#32
  let v1231 : BitVec 32 := Scalar.muli v4 c1_i32_1683
  let v1232 : BitVec 32 := Scalar.addi c0_i32_1684 v1231
  v1232.toNat
def k0_dev72 (d0 : Dev nD) : Nat :=
  let c0_i32_1698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1697 : BitVec 32 := 1#32
  let v1241 : BitVec 32 := Scalar.muli v7 c1_i32_1697
  let v1242 : BitVec 32 := Scalar.addi c0_i32_1698 v1241
  v1242.toNat
def k0_dev73 (d0 : Dev nD) : Nat :=
  let c0_i32_1712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1711 : BitVec 32 := 1#32
  let v1251 : BitVec 32 := Scalar.muli v4 c1_i32_1711
  let v1252 : BitVec 32 := Scalar.addi c0_i32_1712 v1251
  v1252.toNat
def k0_dev74 (d0 : Dev nD) : Nat :=
  let c0_i32_1726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1725 : BitVec 32 := 1#32
  let v1261 : BitVec 32 := Scalar.muli v7 c1_i32_1725
  let v1262 : BitVec 32 := Scalar.addi c0_i32_1726 v1261
  v1262.toNat
def k0_dev75 (d0 : Dev nD) : Nat :=
  let c0_i32_1779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1778 : BitVec 32 := 1#32
  let v1311 : BitVec 32 := Scalar.muli v7 c1_i32_1778
  let v1312 : BitVec 32 := Scalar.addi c0_i32_1779 v1311
  v1312.toNat
def k0_dev76 (d0 : Dev nD) : Nat :=
  let c0_i32_1813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1812 : BitVec 32 := 1#32
  let v1334 : BitVec 32 := Scalar.muli v4 c1_i32_1812
  let v1335 : BitVec 32 := Scalar.addi c0_i32_1813 v1334
  v1335.toNat
def k0_dev77 (d0 : Dev nD) : Nat :=
  let c0_i32_1847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1846 : BitVec 32 := 1#32
  let v1357 : BitVec 32 := Scalar.muli v7 c1_i32_1846
  let v1358 : BitVec 32 := Scalar.addi c0_i32_1847 v1357
  v1358.toNat
def k0_dev78 (d0 : Dev nD) : Nat :=
  let c0_i32_1881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1880 : BitVec 32 := 1#32
  let v1380 : BitVec 32 := Scalar.muli v4 c1_i32_1880
  let v1381 : BitVec 32 := Scalar.addi c0_i32_1881 v1380
  v1381.toNat
def k0_dev79 (d0 : Dev nD) : Nat :=
  let c0_i32_1915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1914 : BitVec 32 := 1#32
  let v1403 : BitVec 32 := Scalar.muli v7 c1_i32_1914
  let v1404 : BitVec 32 := Scalar.addi c0_i32_1915 v1403
  v1404.toNat
def k0_dev80 (d0 : Dev nD) : Nat :=
  let c0_i32_1949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1948 : BitVec 32 := 1#32
  let v1426 : BitVec 32 := Scalar.muli v4 c1_i32_1948
  let v1427 : BitVec 32 := Scalar.addi c0_i32_1949 v1426
  v1427.toNat
def k0_dev81 (d0 : Dev nD) : Nat :=
  let c0_i32_1983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1982 : BitVec 32 := 1#32
  let v1449 : BitVec 32 := Scalar.muli v7 c1_i32_1982
  let v1450 : BitVec 32 := Scalar.addi c0_i32_1983 v1449
  v1450.toNat
def k0_dev82 (d0 : Dev nD) : Nat :=
  let c0_i32_2017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2016 : BitVec 32 := 1#32
  let v1472 : BitVec 32 := Scalar.muli v4 c1_i32_2016
  let v1473 : BitVec 32 := Scalar.addi c0_i32_2017 v1472
  v1473.toNat
def k0_dev83 (d0 : Dev nD) : Nat :=
  let c0_i32_2027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2026 : BitVec 32 := 1#32
  let v1474 : BitVec 32 := Scalar.muli v4 c1_i32_2026
  let v1475 : BitVec 32 := Scalar.addi c0_i32_2027 v1474
  v1475.toNat
def k0_dev84 (d0 : Dev nD) : Nat :=
  let c0_i32_2041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2040 : BitVec 32 := 1#32
  let v1484 : BitVec 32 := Scalar.muli v7 c1_i32_2040
  let v1485 : BitVec 32 := Scalar.addi c0_i32_2041 v1484
  v1485.toNat
def k0_dev85 (d0 : Dev nD) : Nat :=
  let c0_i32_2055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2054 : BitVec 32 := 1#32
  let v1494 : BitVec 32 := Scalar.muli v4 c1_i32_2054
  let v1495 : BitVec 32 := Scalar.addi c0_i32_2055 v1494
  v1495.toNat
def k0_dev86 (d0 : Dev nD) : Nat :=
  let c0_i32_2069 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2068 : BitVec 32 := 1#32
  let v1504 : BitVec 32 := Scalar.muli v7 c1_i32_2068
  let v1505 : BitVec 32 := Scalar.addi c0_i32_2069 v1504
  v1505.toNat
def k0_dev87 (d0 : Dev nD) : Nat :=
  let c0_i32_2083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2082 : BitVec 32 := 1#32
  let v1514 : BitVec 32 := Scalar.muli v4 c1_i32_2082
  let v1515 : BitVec 32 := Scalar.addi c0_i32_2083 v1514
  v1515.toNat
def k0_dev88 (d0 : Dev nD) : Nat :=
  let c0_i32_2097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2096 : BitVec 32 := 1#32
  let v1524 : BitVec 32 := Scalar.muli v7 c1_i32_2096
  let v1525 : BitVec 32 := Scalar.addi c0_i32_2097 v1524
  v1525.toNat
def k0_dev89 (d0 : Dev nD) : Nat :=
  let c0_i32_2111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2110 : BitVec 32 := 1#32
  let v1534 : BitVec 32 := Scalar.muli v4 c1_i32_2110
  let v1535 : BitVec 32 := Scalar.addi c0_i32_2111 v1534
  v1535.toNat
def k0_dev90 (d0 : Dev nD) : Nat :=
  let c0_i32_2125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2124 : BitVec 32 := 1#32
  let v1544 : BitVec 32 := Scalar.muli v7 c1_i32_2124
  let v1545 : BitVec 32 := Scalar.addi c0_i32_2125 v1544
  v1545.toNat
def k0_dev91 (d0 : Dev nD) : Nat :=
  let c0_i32_2178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2177 : BitVec 32 := 1#32
  let v1594 : BitVec 32 := Scalar.muli v7 c1_i32_2177
  let v1595 : BitVec 32 := Scalar.addi c0_i32_2178 v1594
  v1595.toNat
def k0_dev92 (d0 : Dev nD) : Nat :=
  let c0_i32_2212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2211 : BitVec 32 := 1#32
  let v1617 : BitVec 32 := Scalar.muli v4 c1_i32_2211
  let v1618 : BitVec 32 := Scalar.addi c0_i32_2212 v1617
  v1618.toNat
def k0_dev93 (d0 : Dev nD) : Nat :=
  let c0_i32_2246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2245 : BitVec 32 := 1#32
  let v1640 : BitVec 32 := Scalar.muli v7 c1_i32_2245
  let v1641 : BitVec 32 := Scalar.addi c0_i32_2246 v1640
  v1641.toNat
def k0_dev94 (d0 : Dev nD) : Nat :=
  let c0_i32_2280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2279 : BitVec 32 := 1#32
  let v1663 : BitVec 32 := Scalar.muli v4 c1_i32_2279
  let v1664 : BitVec 32 := Scalar.addi c0_i32_2280 v1663
  v1664.toNat
def k0_dev95 (d0 : Dev nD) : Nat :=
  let c0_i32_2314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2313 : BitVec 32 := 1#32
  let v1686 : BitVec 32 := Scalar.muli v7 c1_i32_2313
  let v1687 : BitVec 32 := Scalar.addi c0_i32_2314 v1686
  v1687.toNat
def k0_dev96 (d0 : Dev nD) : Nat :=
  let c0_i32_2348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2347 : BitVec 32 := 1#32
  let v1709 : BitVec 32 := Scalar.muli v4 c1_i32_2347
  let v1710 : BitVec 32 := Scalar.addi c0_i32_2348 v1709
  v1710.toNat
def k0_dev97 (d0 : Dev nD) : Nat :=
  let c0_i32_2382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2381 : BitVec 32 := 1#32
  let v1732 : BitVec 32 := Scalar.muli v7 c1_i32_2381
  let v1733 : BitVec 32 := Scalar.addi c0_i32_2382 v1732
  v1733.toNat
def k0_dev98 (d0 : Dev nD) : Nat :=
  let c0_i32_2416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2415 : BitVec 32 := 1#32
  let v1755 : BitVec 32 := Scalar.muli v4 c1_i32_2415
  let v1756 : BitVec 32 := Scalar.addi c0_i32_2416 v1755
  v1756.toNat
def k0_dev99 (d0 : Dev nD) : Nat :=
  let c0_i32_2426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2425 : BitVec 32 := 1#32
  let v1757 : BitVec 32 := Scalar.muli v4 c1_i32_2425
  let v1758 : BitVec 32 := Scalar.addi c0_i32_2426 v1757
  v1758.toNat
def k0_dev100 (d0 : Dev nD) : Nat :=
  let c0_i32_2440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2439 : BitVec 32 := 1#32
  let v1767 : BitVec 32 := Scalar.muli v7 c1_i32_2439
  let v1768 : BitVec 32 := Scalar.addi c0_i32_2440 v1767
  v1768.toNat
def k0_dev101 (d0 : Dev nD) : Nat :=
  let c0_i32_2454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2453 : BitVec 32 := 1#32
  let v1777 : BitVec 32 := Scalar.muli v4 c1_i32_2453
  let v1778 : BitVec 32 := Scalar.addi c0_i32_2454 v1777
  v1778.toNat
def k0_dev102 (d0 : Dev nD) : Nat :=
  let c0_i32_2468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2467 : BitVec 32 := 1#32
  let v1787 : BitVec 32 := Scalar.muli v7 c1_i32_2467
  let v1788 : BitVec 32 := Scalar.addi c0_i32_2468 v1787
  v1788.toNat
def k0_dev103 (d0 : Dev nD) : Nat :=
  let c0_i32_2482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2481 : BitVec 32 := 1#32
  let v1797 : BitVec 32 := Scalar.muli v4 c1_i32_2481
  let v1798 : BitVec 32 := Scalar.addi c0_i32_2482 v1797
  v1798.toNat
def k0_dev104 (d0 : Dev nD) : Nat :=
  let c0_i32_2496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2495 : BitVec 32 := 1#32
  let v1807 : BitVec 32 := Scalar.muli v7 c1_i32_2495
  let v1808 : BitVec 32 := Scalar.addi c0_i32_2496 v1807
  v1808.toNat
def k0_dev105 (d0 : Dev nD) : Nat :=
  let c0_i32_2510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2509 : BitVec 32 := 1#32
  let v1817 : BitVec 32 := Scalar.muli v4 c1_i32_2509
  let v1818 : BitVec 32 := Scalar.addi c0_i32_2510 v1817
  v1818.toNat
def k0_dev106 (d0 : Dev nD) : Nat :=
  let c0_i32_2524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2523 : BitVec 32 := 1#32
  let v1827 : BitVec 32 := Scalar.muli v7 c1_i32_2523
  let v1828 : BitVec 32 := Scalar.addi c0_i32_2524 v1827
  v1828.toNat
def k0_dev107 (d0 : Dev nD) : Nat :=
  let c0_i32_2577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2576 : BitVec 32 := 1#32
  let v1877 : BitVec 32 := Scalar.muli v7 c1_i32_2576
  let v1878 : BitVec 32 := Scalar.addi c0_i32_2577 v1877
  v1878.toNat
def k0_dev108 (d0 : Dev nD) : Nat :=
  let c0_i32_2611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2610 : BitVec 32 := 1#32
  let v1900 : BitVec 32 := Scalar.muli v4 c1_i32_2610
  let v1901 : BitVec 32 := Scalar.addi c0_i32_2611 v1900
  v1901.toNat
def k0_dev109 (d0 : Dev nD) : Nat :=
  let c0_i32_2645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2644 : BitVec 32 := 1#32
  let v1923 : BitVec 32 := Scalar.muli v7 c1_i32_2644
  let v1924 : BitVec 32 := Scalar.addi c0_i32_2645 v1923
  v1924.toNat
def k0_dev110 (d0 : Dev nD) : Nat :=
  let c0_i32_2679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2678 : BitVec 32 := 1#32
  let v1946 : BitVec 32 := Scalar.muli v4 c1_i32_2678
  let v1947 : BitVec 32 := Scalar.addi c0_i32_2679 v1946
  v1947.toNat
def k0_dev111 (d0 : Dev nD) : Nat :=
  let c0_i32_2713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2712 : BitVec 32 := 1#32
  let v1969 : BitVec 32 := Scalar.muli v7 c1_i32_2712
  let v1970 : BitVec 32 := Scalar.addi c0_i32_2713 v1969
  v1970.toNat
def k0_dev112 (d0 : Dev nD) : Nat :=
  let c0_i32_2747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2746 : BitVec 32 := 1#32
  let v1992 : BitVec 32 := Scalar.muli v4 c1_i32_2746
  let v1993 : BitVec 32 := Scalar.addi c0_i32_2747 v1992
  v1993.toNat
def k0_dev113 (d0 : Dev nD) : Nat :=
  let c0_i32_2781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2780 : BitVec 32 := 1#32
  let v2015 : BitVec 32 := Scalar.muli v7 c1_i32_2780
  let v2016 : BitVec 32 := Scalar.addi c0_i32_2781 v2015
  v2016.toNat
def k0_dev114 (d0 : Dev nD) : Nat :=
  let c0_i32_2815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2814 : BitVec 32 := 1#32
  let v2038 : BitVec 32 := Scalar.muli v4 c1_i32_2814
  let v2039 : BitVec 32 := Scalar.addi c0_i32_2815 v2038
  v2039.toNat
def k0_dev115 (d0 : Dev nD) : Nat :=
  let c0_i32_2825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2824 : BitVec 32 := 1#32
  let v2040 : BitVec 32 := Scalar.muli v4 c1_i32_2824
  let v2041 : BitVec 32 := Scalar.addi c0_i32_2825 v2040
  v2041.toNat
def k0_dev116 (d0 : Dev nD) : Nat :=
  let c0_i32_2839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2838 : BitVec 32 := 1#32
  let v2050 : BitVec 32 := Scalar.muli v7 c1_i32_2838
  let v2051 : BitVec 32 := Scalar.addi c0_i32_2839 v2050
  v2051.toNat
def k0_dev117 (d0 : Dev nD) : Nat :=
  let c0_i32_2853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2852 : BitVec 32 := 1#32
  let v2060 : BitVec 32 := Scalar.muli v4 c1_i32_2852
  let v2061 : BitVec 32 := Scalar.addi c0_i32_2853 v2060
  v2061.toNat
def k0_dev118 (d0 : Dev nD) : Nat :=
  let c0_i32_2867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2866 : BitVec 32 := 1#32
  let v2070 : BitVec 32 := Scalar.muli v7 c1_i32_2866
  let v2071 : BitVec 32 := Scalar.addi c0_i32_2867 v2070
  v2071.toNat
def k0_dev119 (d0 : Dev nD) : Nat :=
  let c0_i32_2881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2880 : BitVec 32 := 1#32
  let v2080 : BitVec 32 := Scalar.muli v4 c1_i32_2880
  let v2081 : BitVec 32 := Scalar.addi c0_i32_2881 v2080
  v2081.toNat
def k0_dev120 (d0 : Dev nD) : Nat :=
  let c0_i32_2895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2894 : BitVec 32 := 1#32
  let v2090 : BitVec 32 := Scalar.muli v7 c1_i32_2894
  let v2091 : BitVec 32 := Scalar.addi c0_i32_2895 v2090
  v2091.toNat
def k0_dev121 (d0 : Dev nD) : Nat :=
  let c0_i32_2909 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2908 : BitVec 32 := 1#32
  let v2100 : BitVec 32 := Scalar.muli v4 c1_i32_2908
  let v2101 : BitVec 32 := Scalar.addi c0_i32_2909 v2100
  v2101.toNat
def k0_dev122 (d0 : Dev nD) : Nat :=
  let c0_i32_2923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2922 : BitVec 32 := 1#32
  let v2110 : BitVec 32 := Scalar.muli v7 c1_i32_2922
  let v2111 : BitVec 32 := Scalar.addi c0_i32_2923 v2110
  v2111.toNat
def k0_dev123 (d0 : Dev nD) : Nat :=
  let c0_i32_2975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2974 : BitVec 32 := 1#32
  let v2160 : BitVec 32 := Scalar.muli v7 c1_i32_2974
  let v2161 : BitVec 32 := Scalar.addi c0_i32_2975 v2160
  v2161.toNat
def k0_dev124 (d0 : Dev nD) : Nat :=
  let c0_i32_3009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3008 : BitVec 32 := 1#32
  let v2183 : BitVec 32 := Scalar.muli v4 c1_i32_3008
  let v2184 : BitVec 32 := Scalar.addi c0_i32_3009 v2183
  v2184.toNat
def k0_dev125 (d0 : Dev nD) : Nat :=
  let c0_i32_3043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3042 : BitVec 32 := 1#32
  let v2206 : BitVec 32 := Scalar.muli v7 c1_i32_3042
  let v2207 : BitVec 32 := Scalar.addi c0_i32_3043 v2206
  v2207.toNat
def k0_dev126 (d0 : Dev nD) : Nat :=
  let c0_i32_3077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3076 : BitVec 32 := 1#32
  let v2229 : BitVec 32 := Scalar.muli v4 c1_i32_3076
  let v2230 : BitVec 32 := Scalar.addi c0_i32_3077 v2229
  v2230.toNat
def k0_dev127 (d0 : Dev nD) : Nat :=
  let c0_i32_3111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3110 : BitVec 32 := 1#32
  let v2252 : BitVec 32 := Scalar.muli v7 c1_i32_3110
  let v2253 : BitVec 32 := Scalar.addi c0_i32_3111 v2252
  v2253.toNat
def k0_dev128 (d0 : Dev nD) : Nat :=
  let c0_i32_3145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3144 : BitVec 32 := 1#32
  let v2275 : BitVec 32 := Scalar.muli v4 c1_i32_3144
  let v2276 : BitVec 32 := Scalar.addi c0_i32_3145 v2275
  v2276.toNat
def k0_dev129 (d0 : Dev nD) : Nat :=
  let c0_i32_3179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3178 : BitVec 32 := 1#32
  let v2298 : BitVec 32 := Scalar.muli v7 c1_i32_3178
  let v2299 : BitVec 32 := Scalar.addi c0_i32_3179 v2298
  v2299.toNat
def k0_dev130 (d0 : Dev nD) : Nat :=
  let c0_i32_3213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3212 : BitVec 32 := 1#32
  let v2321 : BitVec 32 := Scalar.muli v4 c1_i32_3212
  let v2322 : BitVec 32 := Scalar.addi c0_i32_3213 v2321
  v2322.toNat
def k0_dev131 (d0 : Dev nD) : Nat :=
  let c0_i32_3223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3222 : BitVec 32 := 1#32
  let v2323 : BitVec 32 := Scalar.muli v4 c1_i32_3222
  let v2324 : BitVec 32 := Scalar.addi c0_i32_3223 v2323
  v2324.toNat
def k0_dev132 (d0 : Dev nD) : Nat :=
  let c0_i32_3237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3236 : BitVec 32 := 1#32
  let v2333 : BitVec 32 := Scalar.muli v7 c1_i32_3236
  let v2334 : BitVec 32 := Scalar.addi c0_i32_3237 v2333
  v2334.toNat
def k0_dev133 (d0 : Dev nD) : Nat :=
  let c0_i32_3251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3250 : BitVec 32 := 1#32
  let v2343 : BitVec 32 := Scalar.muli v4 c1_i32_3250
  let v2344 : BitVec 32 := Scalar.addi c0_i32_3251 v2343
  v2344.toNat
def k0_dev134 (d0 : Dev nD) : Nat :=
  let c0_i32_3265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3264 : BitVec 32 := 1#32
  let v2353 : BitVec 32 := Scalar.muli v7 c1_i32_3264
  let v2354 : BitVec 32 := Scalar.addi c0_i32_3265 v2353
  v2354.toNat
def k0_dev135 (d0 : Dev nD) : Nat :=
  let c0_i32_3279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3278 : BitVec 32 := 1#32
  let v2363 : BitVec 32 := Scalar.muli v4 c1_i32_3278
  let v2364 : BitVec 32 := Scalar.addi c0_i32_3279 v2363
  v2364.toNat
def k0_dev136 (d0 : Dev nD) : Nat :=
  let c0_i32_3293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3292 : BitVec 32 := 1#32
  let v2373 : BitVec 32 := Scalar.muli v7 c1_i32_3292
  let v2374 : BitVec 32 := Scalar.addi c0_i32_3293 v2373
  v2374.toNat
def k0_dev137 (d0 : Dev nD) : Nat :=
  let c0_i32_3307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3306 : BitVec 32 := 1#32
  let v2383 : BitVec 32 := Scalar.muli v4 c1_i32_3306
  let v2384 : BitVec 32 := Scalar.addi c0_i32_3307 v2383
  v2384.toNat
def k0_dev138 (d0 : Dev nD) : Nat :=
  let c0_i32_3321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3320 : BitVec 32 := 1#32
  let v2393 : BitVec 32 := Scalar.muli v7 c1_i32_3320
  let v2394 : BitVec 32 := Scalar.addi c0_i32_3321 v2393
  v2394.toNat
def k0_dev139 (d0 : Dev nD) : Nat :=
  let c0_i32_3373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3372 : BitVec 32 := 1#32
  let v2443 : BitVec 32 := Scalar.muli v7 c1_i32_3372
  let v2444 : BitVec 32 := Scalar.addi c0_i32_3373 v2443
  v2444.toNat
def k0_dev140 (d0 : Dev nD) : Nat :=
  let c0_i32_3407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3406 : BitVec 32 := 1#32
  let v2466 : BitVec 32 := Scalar.muli v4 c1_i32_3406
  let v2467 : BitVec 32 := Scalar.addi c0_i32_3407 v2466
  v2467.toNat
def k0_dev141 (d0 : Dev nD) : Nat :=
  let c0_i32_3441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3440 : BitVec 32 := 1#32
  let v2489 : BitVec 32 := Scalar.muli v7 c1_i32_3440
  let v2490 : BitVec 32 := Scalar.addi c0_i32_3441 v2489
  v2490.toNat
def k0_dev142 (d0 : Dev nD) : Nat :=
  let c0_i32_3475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3474 : BitVec 32 := 1#32
  let v2512 : BitVec 32 := Scalar.muli v4 c1_i32_3474
  let v2513 : BitVec 32 := Scalar.addi c0_i32_3475 v2512
  v2513.toNat
def k0_dev143 (d0 : Dev nD) : Nat :=
  let c0_i32_3509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3508 : BitVec 32 := 1#32
  let v2535 : BitVec 32 := Scalar.muli v7 c1_i32_3508
  let v2536 : BitVec 32 := Scalar.addi c0_i32_3509 v2535
  v2536.toNat
def k0_dev144 (d0 : Dev nD) : Nat :=
  let c0_i32_3543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3542 : BitVec 32 := 1#32
  let v2558 : BitVec 32 := Scalar.muli v4 c1_i32_3542
  let v2559 : BitVec 32 := Scalar.addi c0_i32_3543 v2558
  v2559.toNat
def k0_dev145 (d0 : Dev nD) : Nat :=
  let c0_i32_3577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3576 : BitVec 32 := 1#32
  let v2581 : BitVec 32 := Scalar.muli v7 c1_i32_3576
  let v2582 : BitVec 32 := Scalar.addi c0_i32_3577 v2581
  v2582.toNat
def k0_dev146 (d0 : Dev nD) : Nat :=
  let c0_i32_3611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3610 : BitVec 32 := 1#32
  let v2604 : BitVec 32 := Scalar.muli v4 c1_i32_3610
  let v2605 : BitVec 32 := Scalar.addi c0_i32_3611 v2604
  v2605.toNat
def k0_dev147 (d0 : Dev nD) : Nat :=
  let c0_i32_3621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3620 : BitVec 32 := 1#32
  let v2606 : BitVec 32 := Scalar.muli v4 c1_i32_3620
  let v2607 : BitVec 32 := Scalar.addi c0_i32_3621 v2606
  v2607.toNat
def k0_dev148 (d0 : Dev nD) : Nat :=
  let c0_i32_3635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3634 : BitVec 32 := 1#32
  let v2616 : BitVec 32 := Scalar.muli v7 c1_i32_3634
  let v2617 : BitVec 32 := Scalar.addi c0_i32_3635 v2616
  v2617.toNat
def k0_dev149 (d0 : Dev nD) : Nat :=
  let c0_i32_3649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3648 : BitVec 32 := 1#32
  let v2626 : BitVec 32 := Scalar.muli v4 c1_i32_3648
  let v2627 : BitVec 32 := Scalar.addi c0_i32_3649 v2626
  v2627.toNat
def k0_dev150 (d0 : Dev nD) : Nat :=
  let c0_i32_3663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3662 : BitVec 32 := 1#32
  let v2636 : BitVec 32 := Scalar.muli v7 c1_i32_3662
  let v2637 : BitVec 32 := Scalar.addi c0_i32_3663 v2636
  v2637.toNat
def k0_dev151 (d0 : Dev nD) : Nat :=
  let c0_i32_3677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3676 : BitVec 32 := 1#32
  let v2646 : BitVec 32 := Scalar.muli v4 c1_i32_3676
  let v2647 : BitVec 32 := Scalar.addi c0_i32_3677 v2646
  v2647.toNat
def k0_dev152 (d0 : Dev nD) : Nat :=
  let c0_i32_3691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3690 : BitVec 32 := 1#32
  let v2656 : BitVec 32 := Scalar.muli v7 c1_i32_3690
  let v2657 : BitVec 32 := Scalar.addi c0_i32_3691 v2656
  v2657.toNat
def k0_dev153 (d0 : Dev nD) : Nat :=
  let c0_i32_3705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3704 : BitVec 32 := 1#32
  let v2666 : BitVec 32 := Scalar.muli v4 c1_i32_3704
  let v2667 : BitVec 32 := Scalar.addi c0_i32_3705 v2666
  v2667.toNat
def k0_dev154 (d0 : Dev nD) : Nat :=
  let c0_i32_3719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3718 : BitVec 32 := 1#32
  let v2676 : BitVec 32 := Scalar.muli v7 c1_i32_3718
  let v2677 : BitVec 32 := Scalar.addi c0_i32_3719 v2676
  v2677.toNat
def k0_dev155 (d0 : Dev nD) : Nat :=
  let c0_i32_3771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3770 : BitVec 32 := 1#32
  let v2726 : BitVec 32 := Scalar.muli v7 c1_i32_3770
  let v2727 : BitVec 32 := Scalar.addi c0_i32_3771 v2726
  v2727.toNat
def k0_dev156 (d0 : Dev nD) : Nat :=
  let c0_i32_3805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3804 : BitVec 32 := 1#32
  let v2749 : BitVec 32 := Scalar.muli v4 c1_i32_3804
  let v2750 : BitVec 32 := Scalar.addi c0_i32_3805 v2749
  v2750.toNat
def k0_dev157 (d0 : Dev nD) : Nat :=
  let c0_i32_3839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3838 : BitVec 32 := 1#32
  let v2772 : BitVec 32 := Scalar.muli v7 c1_i32_3838
  let v2773 : BitVec 32 := Scalar.addi c0_i32_3839 v2772
  v2773.toNat
def k0_dev158 (d0 : Dev nD) : Nat :=
  let c0_i32_3873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3872 : BitVec 32 := 1#32
  let v2795 : BitVec 32 := Scalar.muli v4 c1_i32_3872
  let v2796 : BitVec 32 := Scalar.addi c0_i32_3873 v2795
  v2796.toNat
def k0_dev159 (d0 : Dev nD) : Nat :=
  let c0_i32_3907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3906 : BitVec 32 := 1#32
  let v2818 : BitVec 32 := Scalar.muli v7 c1_i32_3906
  let v2819 : BitVec 32 := Scalar.addi c0_i32_3907 v2818
  v2819.toNat
def k0_dev160 (d0 : Dev nD) : Nat :=
  let c0_i32_3941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3940 : BitVec 32 := 1#32
  let v2841 : BitVec 32 := Scalar.muli v4 c1_i32_3940
  let v2842 : BitVec 32 := Scalar.addi c0_i32_3941 v2841
  v2842.toNat
def k0_dev161 (d0 : Dev nD) : Nat :=
  let c0_i32_3975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3974 : BitVec 32 := 1#32
  let v2864 : BitVec 32 := Scalar.muli v7 c1_i32_3974
  let v2865 : BitVec 32 := Scalar.addi c0_i32_3975 v2864
  v2865.toNat
def k0_dev162 (d0 : Dev nD) : Nat :=
  let c0_i32_4009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4008 : BitVec 32 := 1#32
  let v2887 : BitVec 32 := Scalar.muli v4 c1_i32_4008
  let v2888 : BitVec 32 := Scalar.addi c0_i32_4009 v2887
  v2888.toNat
def k0_dev163 (d0 : Dev nD) : Nat :=
  let c0_i32_4019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4018 : BitVec 32 := 1#32
  let v2889 : BitVec 32 := Scalar.muli v4 c1_i32_4018
  let v2890 : BitVec 32 := Scalar.addi c0_i32_4019 v2889
  v2890.toNat
def k0_dev164 (d0 : Dev nD) : Nat :=
  let c0_i32_4033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4032 : BitVec 32 := 1#32
  let v2899 : BitVec 32 := Scalar.muli v7 c1_i32_4032
  let v2900 : BitVec 32 := Scalar.addi c0_i32_4033 v2899
  v2900.toNat
def k0_dev165 (d0 : Dev nD) : Nat :=
  let c0_i32_4047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4046 : BitVec 32 := 1#32
  let v2909 : BitVec 32 := Scalar.muli v4 c1_i32_4046
  let v2910 : BitVec 32 := Scalar.addi c0_i32_4047 v2909
  v2910.toNat
def k0_dev166 (d0 : Dev nD) : Nat :=
  let c0_i32_4061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4060 : BitVec 32 := 1#32
  let v2919 : BitVec 32 := Scalar.muli v7 c1_i32_4060
  let v2920 : BitVec 32 := Scalar.addi c0_i32_4061 v2919
  v2920.toNat
def k0_dev167 (d0 : Dev nD) : Nat :=
  let c0_i32_4075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4074 : BitVec 32 := 1#32
  let v2929 : BitVec 32 := Scalar.muli v4 c1_i32_4074
  let v2930 : BitVec 32 := Scalar.addi c0_i32_4075 v2929
  v2930.toNat
def k0_dev168 (d0 : Dev nD) : Nat :=
  let c0_i32_4089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4088 : BitVec 32 := 1#32
  let v2939 : BitVec 32 := Scalar.muli v7 c1_i32_4088
  let v2940 : BitVec 32 := Scalar.addi c0_i32_4089 v2939
  v2940.toNat
def k0_dev169 (d0 : Dev nD) : Nat :=
  let c0_i32_4103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4102 : BitVec 32 := 1#32
  let v2949 : BitVec 32 := Scalar.muli v4 c1_i32_4102
  let v2950 : BitVec 32 := Scalar.addi c0_i32_4103 v2949
  v2950.toNat
def k0_dev170 (d0 : Dev nD) : Nat :=
  let c0_i32_4117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4116 : BitVec 32 := 1#32
  let v2959 : BitVec 32 := Scalar.muli v7 c1_i32_4116
  let v2960 : BitVec 32 := Scalar.addi c0_i32_4117 v2959
  v2960.toNat
def k0_dev171 (d0 : Dev nD) : Nat :=
  let c0_i32_4169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4168 : BitVec 32 := 1#32
  let v3009 : BitVec 32 := Scalar.muli v7 c1_i32_4168
  let v3010 : BitVec 32 := Scalar.addi c0_i32_4169 v3009
  v3010.toNat
def k0_dev172 (d0 : Dev nD) : Nat :=
  let c0_i32_4203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4202 : BitVec 32 := 1#32
  let v3032 : BitVec 32 := Scalar.muli v4 c1_i32_4202
  let v3033 : BitVec 32 := Scalar.addi c0_i32_4203 v3032
  v3033.toNat
def k0_dev173 (d0 : Dev nD) : Nat :=
  let c0_i32_4237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4236 : BitVec 32 := 1#32
  let v3055 : BitVec 32 := Scalar.muli v7 c1_i32_4236
  let v3056 : BitVec 32 := Scalar.addi c0_i32_4237 v3055
  v3056.toNat
def k0_dev174 (d0 : Dev nD) : Nat :=
  let c0_i32_4271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4270 : BitVec 32 := 1#32
  let v3078 : BitVec 32 := Scalar.muli v4 c1_i32_4270
  let v3079 : BitVec 32 := Scalar.addi c0_i32_4271 v3078
  v3079.toNat
def k0_dev175 (d0 : Dev nD) : Nat :=
  let c0_i32_4305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4304 : BitVec 32 := 1#32
  let v3101 : BitVec 32 := Scalar.muli v7 c1_i32_4304
  let v3102 : BitVec 32 := Scalar.addi c0_i32_4305 v3101
  v3102.toNat
def k0_dev176 (d0 : Dev nD) : Nat :=
  let c0_i32_4339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4338 : BitVec 32 := 1#32
  let v3124 : BitVec 32 := Scalar.muli v4 c1_i32_4338
  let v3125 : BitVec 32 := Scalar.addi c0_i32_4339 v3124
  v3125.toNat
def k0_dev177 (d0 : Dev nD) : Nat :=
  let c0_i32_4373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4372 : BitVec 32 := 1#32
  let v3147 : BitVec 32 := Scalar.muli v7 c1_i32_4372
  let v3148 : BitVec 32 := Scalar.addi c0_i32_4373 v3147
  v3148.toNat
def k0_dev178 (d0 : Dev nD) : Nat :=
  let c0_i32_4407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4406 : BitVec 32 := 1#32
  let v3170 : BitVec 32 := Scalar.muli v4 c1_i32_4406
  let v3171 : BitVec 32 := Scalar.addi c0_i32_4407 v3170
  v3171.toNat
def k0_dev179 (d0 : Dev nD) : Nat :=
  let c0_i32_4417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4416 : BitVec 32 := 1#32
  let v3172 : BitVec 32 := Scalar.muli v4 c1_i32_4416
  let v3173 : BitVec 32 := Scalar.addi c0_i32_4417 v3172
  v3173.toNat
def k0_dev180 (d0 : Dev nD) : Nat :=
  let c0_i32_4431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4430 : BitVec 32 := 1#32
  let v3182 : BitVec 32 := Scalar.muli v7 c1_i32_4430
  let v3183 : BitVec 32 := Scalar.addi c0_i32_4431 v3182
  v3183.toNat
def k0_dev181 (d0 : Dev nD) : Nat :=
  let c0_i32_4445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4444 : BitVec 32 := 1#32
  let v3192 : BitVec 32 := Scalar.muli v4 c1_i32_4444
  let v3193 : BitVec 32 := Scalar.addi c0_i32_4445 v3192
  v3193.toNat
def k0_dev182 (d0 : Dev nD) : Nat :=
  let c0_i32_4459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4458 : BitVec 32 := 1#32
  let v3202 : BitVec 32 := Scalar.muli v7 c1_i32_4458
  let v3203 : BitVec 32 := Scalar.addi c0_i32_4459 v3202
  v3203.toNat
def k0_dev183 (d0 : Dev nD) : Nat :=
  let c0_i32_4473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4472 : BitVec 32 := 1#32
  let v3212 : BitVec 32 := Scalar.muli v4 c1_i32_4472
  let v3213 : BitVec 32 := Scalar.addi c0_i32_4473 v3212
  v3213.toNat
def k0_dev184 (d0 : Dev nD) : Nat :=
  let c0_i32_4487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4486 : BitVec 32 := 1#32
  let v3222 : BitVec 32 := Scalar.muli v7 c1_i32_4486
  let v3223 : BitVec 32 := Scalar.addi c0_i32_4487 v3222
  v3223.toNat
def k0_dev185 (d0 : Dev nD) : Nat :=
  let c0_i32_4501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4500 : BitVec 32 := 1#32
  let v3232 : BitVec 32 := Scalar.muli v4 c1_i32_4500
  let v3233 : BitVec 32 := Scalar.addi c0_i32_4501 v3232
  v3233.toNat
def k0_dev186 (d0 : Dev nD) : Nat :=
  let c0_i32_4515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4514 : BitVec 32 := 1#32
  let v3242 : BitVec 32 := Scalar.muli v7 c1_i32_4514
  let v3243 : BitVec 32 := Scalar.addi c0_i32_4515 v3242
  v3243.toNat
def k0_dev187 (d0 : Dev nD) : Nat :=
  let c0_i32_4567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4566 : BitVec 32 := 1#32
  let v3292 : BitVec 32 := Scalar.muli v7 c1_i32_4566
  let v3293 : BitVec 32 := Scalar.addi c0_i32_4567 v3292
  v3293.toNat
def k0_dev188 (d0 : Dev nD) : Nat :=
  let c0_i32_4601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4600 : BitVec 32 := 1#32
  let v3315 : BitVec 32 := Scalar.muli v4 c1_i32_4600
  let v3316 : BitVec 32 := Scalar.addi c0_i32_4601 v3315
  v3316.toNat
def k0_dev189 (d0 : Dev nD) : Nat :=
  let c0_i32_4635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4634 : BitVec 32 := 1#32
  let v3338 : BitVec 32 := Scalar.muli v7 c1_i32_4634
  let v3339 : BitVec 32 := Scalar.addi c0_i32_4635 v3338
  v3339.toNat
def k0_dev190 (d0 : Dev nD) : Nat :=
  let c0_i32_4669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4668 : BitVec 32 := 1#32
  let v3361 : BitVec 32 := Scalar.muli v4 c1_i32_4668
  let v3362 : BitVec 32 := Scalar.addi c0_i32_4669 v3361
  v3362.toNat
def k0_dev191 (d0 : Dev nD) : Nat :=
  let c0_i32_4703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4702 : BitVec 32 := 1#32
  let v3384 : BitVec 32 := Scalar.muli v7 c1_i32_4702
  let v3385 : BitVec 32 := Scalar.addi c0_i32_4703 v3384
  v3385.toNat
def k0_dev192 (d0 : Dev nD) : Nat :=
  let c0_i32_4737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4736 : BitVec 32 := 1#32
  let v3407 : BitVec 32 := Scalar.muli v4 c1_i32_4736
  let v3408 : BitVec 32 := Scalar.addi c0_i32_4737 v3407
  v3408.toNat
def k0_dev193 (d0 : Dev nD) : Nat :=
  let c0_i32_4771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4770 : BitVec 32 := 1#32
  let v3430 : BitVec 32 := Scalar.muli v7 c1_i32_4770
  let v3431 : BitVec 32 := Scalar.addi c0_i32_4771 v3430
  v3431.toNat
def k0_dev194 (d0 : Dev nD) : Nat :=
  let c0_i32_4805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4804 : BitVec 32 := 1#32
  let v3453 : BitVec 32 := Scalar.muli v4 c1_i32_4804
  let v3454 : BitVec 32 := Scalar.addi c0_i32_4805 v3453
  v3454.toNat
def k0_dev195 (d0 : Dev nD) : Nat :=
  let c0_i32_4815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4814 : BitVec 32 := 1#32
  let v3455 : BitVec 32 := Scalar.muli v4 c1_i32_4814
  let v3456 : BitVec 32 := Scalar.addi c0_i32_4815 v3455
  v3456.toNat
def k0_dev196 (d0 : Dev nD) : Nat :=
  let c0_i32_4829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4828 : BitVec 32 := 1#32
  let v3465 : BitVec 32 := Scalar.muli v7 c1_i32_4828
  let v3466 : BitVec 32 := Scalar.addi c0_i32_4829 v3465
  v3466.toNat
def k0_dev197 (d0 : Dev nD) : Nat :=
  let c0_i32_4843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4842 : BitVec 32 := 1#32
  let v3475 : BitVec 32 := Scalar.muli v4 c1_i32_4842
  let v3476 : BitVec 32 := Scalar.addi c0_i32_4843 v3475
  v3476.toNat
def k0_dev198 (d0 : Dev nD) : Nat :=
  let c0_i32_4857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4856 : BitVec 32 := 1#32
  let v3485 : BitVec 32 := Scalar.muli v7 c1_i32_4856
  let v3486 : BitVec 32 := Scalar.addi c0_i32_4857 v3485
  v3486.toNat
def k0_dev199 (d0 : Dev nD) : Nat :=
  let c0_i32_4871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4870 : BitVec 32 := 1#32
  let v3495 : BitVec 32 := Scalar.muli v4 c1_i32_4870
  let v3496 : BitVec 32 := Scalar.addi c0_i32_4871 v3495
  v3496.toNat
def k0_dev200 (d0 : Dev nD) : Nat :=
  let c0_i32_4885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4884 : BitVec 32 := 1#32
  let v3505 : BitVec 32 := Scalar.muli v7 c1_i32_4884
  let v3506 : BitVec 32 := Scalar.addi c0_i32_4885 v3505
  v3506.toNat
def k0_dev201 (d0 : Dev nD) : Nat :=
  let c0_i32_4899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4898 : BitVec 32 := 1#32
  let v3515 : BitVec 32 := Scalar.muli v4 c1_i32_4898
  let v3516 : BitVec 32 := Scalar.addi c0_i32_4899 v3515
  v3516.toNat
def k0_dev202 (d0 : Dev nD) : Nat :=
  let c0_i32_4913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4912 : BitVec 32 := 1#32
  let v3525 : BitVec 32 := Scalar.muli v7 c1_i32_4912
  let v3526 : BitVec 32 := Scalar.addi c0_i32_4913 v3525
  v3526.toNat
def k0_dev203 (d0 : Dev nD) : Nat :=
  let c0_i32_4965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4964 : BitVec 32 := 1#32
  let v3575 : BitVec 32 := Scalar.muli v7 c1_i32_4964
  let v3576 : BitVec 32 := Scalar.addi c0_i32_4965 v3575
  v3576.toNat
def k0_dev204 (d0 : Dev nD) : Nat :=
  let c0_i32_4999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4998 : BitVec 32 := 1#32
  let v3598 : BitVec 32 := Scalar.muli v4 c1_i32_4998
  let v3599 : BitVec 32 := Scalar.addi c0_i32_4999 v3598
  v3599.toNat
def k0_dev205 (d0 : Dev nD) : Nat :=
  let c0_i32_5033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5032 : BitVec 32 := 1#32
  let v3621 : BitVec 32 := Scalar.muli v7 c1_i32_5032
  let v3622 : BitVec 32 := Scalar.addi c0_i32_5033 v3621
  v3622.toNat
def k0_dev206 (d0 : Dev nD) : Nat :=
  let c0_i32_5067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5066 : BitVec 32 := 1#32
  let v3644 : BitVec 32 := Scalar.muli v4 c1_i32_5066
  let v3645 : BitVec 32 := Scalar.addi c0_i32_5067 v3644
  v3645.toNat
def k0_dev207 (d0 : Dev nD) : Nat :=
  let c0_i32_5101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5100 : BitVec 32 := 1#32
  let v3667 : BitVec 32 := Scalar.muli v7 c1_i32_5100
  let v3668 : BitVec 32 := Scalar.addi c0_i32_5101 v3667
  v3668.toNat
def k0_dev208 (d0 : Dev nD) : Nat :=
  let c0_i32_5135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5134 : BitVec 32 := 1#32
  let v3690 : BitVec 32 := Scalar.muli v4 c1_i32_5134
  let v3691 : BitVec 32 := Scalar.addi c0_i32_5135 v3690
  v3691.toNat
def k0_dev209 (d0 : Dev nD) : Nat :=
  let c0_i32_5169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5168 : BitVec 32 := 1#32
  let v3713 : BitVec 32 := Scalar.muli v7 c1_i32_5168
  let v3714 : BitVec 32 := Scalar.addi c0_i32_5169 v3713
  v3714.toNat
def k0_dev210 (d0 : Dev nD) : Nat :=
  let c0_i32_5203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5202 : BitVec 32 := 1#32
  let v3736 : BitVec 32 := Scalar.muli v4 c1_i32_5202
  let v3737 : BitVec 32 := Scalar.addi c0_i32_5203 v3736
  v3737.toNat
def k0_dev211 (d0 : Dev nD) : Nat :=
  let c0_i32_5213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5212 : BitVec 32 := 1#32
  let v3738 : BitVec 32 := Scalar.muli v4 c1_i32_5212
  let v3739 : BitVec 32 := Scalar.addi c0_i32_5213 v3738
  v3739.toNat
def k0_dev212 (d0 : Dev nD) : Nat :=
  let c0_i32_5227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5226 : BitVec 32 := 1#32
  let v3748 : BitVec 32 := Scalar.muli v7 c1_i32_5226
  let v3749 : BitVec 32 := Scalar.addi c0_i32_5227 v3748
  v3749.toNat
def k0_dev213 (d0 : Dev nD) : Nat :=
  let c0_i32_5241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5240 : BitVec 32 := 1#32
  let v3758 : BitVec 32 := Scalar.muli v4 c1_i32_5240
  let v3759 : BitVec 32 := Scalar.addi c0_i32_5241 v3758
  v3759.toNat
def k0_dev214 (d0 : Dev nD) : Nat :=
  let c0_i32_5255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5254 : BitVec 32 := 1#32
  let v3768 : BitVec 32 := Scalar.muli v7 c1_i32_5254
  let v3769 : BitVec 32 := Scalar.addi c0_i32_5255 v3768
  v3769.toNat
def k0_dev215 (d0 : Dev nD) : Nat :=
  let c0_i32_5269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5268 : BitVec 32 := 1#32
  let v3778 : BitVec 32 := Scalar.muli v4 c1_i32_5268
  let v3779 : BitVec 32 := Scalar.addi c0_i32_5269 v3778
  v3779.toNat
def k0_dev216 (d0 : Dev nD) : Nat :=
  let c0_i32_5283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5282 : BitVec 32 := 1#32
  let v3788 : BitVec 32 := Scalar.muli v7 c1_i32_5282
  let v3789 : BitVec 32 := Scalar.addi c0_i32_5283 v3788
  v3789.toNat
def k0_dev217 (d0 : Dev nD) : Nat :=
  let c0_i32_5297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5296 : BitVec 32 := 1#32
  let v3798 : BitVec 32 := Scalar.muli v4 c1_i32_5296
  let v3799 : BitVec 32 := Scalar.addi c0_i32_5297 v3798
  v3799.toNat
def k0_dev218 (d0 : Dev nD) : Nat :=
  let c0_i32_5311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5310 : BitVec 32 := 1#32
  let v3808 : BitVec 32 := Scalar.muli v7 c1_i32_5310
  let v3809 : BitVec 32 := Scalar.addi c0_i32_5311 v3808
  v3809.toNat
def k0_dev219 (d0 : Dev nD) : Nat :=
  let c0_i32_5363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5362 : BitVec 32 := 1#32
  let v3858 : BitVec 32 := Scalar.muli v7 c1_i32_5362
  let v3859 : BitVec 32 := Scalar.addi c0_i32_5363 v3858
  v3859.toNat
def k0_dev220 (d0 : Dev nD) : Nat :=
  let c0_i32_5397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5396 : BitVec 32 := 1#32
  let v3881 : BitVec 32 := Scalar.muli v4 c1_i32_5396
  let v3882 : BitVec 32 := Scalar.addi c0_i32_5397 v3881
  v3882.toNat
def k0_dev221 (d0 : Dev nD) : Nat :=
  let c0_i32_5431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5430 : BitVec 32 := 1#32
  let v3904 : BitVec 32 := Scalar.muli v7 c1_i32_5430
  let v3905 : BitVec 32 := Scalar.addi c0_i32_5431 v3904
  v3905.toNat
def k0_dev222 (d0 : Dev nD) : Nat :=
  let c0_i32_5465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5464 : BitVec 32 := 1#32
  let v3927 : BitVec 32 := Scalar.muli v4 c1_i32_5464
  let v3928 : BitVec 32 := Scalar.addi c0_i32_5465 v3927
  v3928.toNat
def k0_dev223 (d0 : Dev nD) : Nat :=
  let c0_i32_5499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5498 : BitVec 32 := 1#32
  let v3950 : BitVec 32 := Scalar.muli v7 c1_i32_5498
  let v3951 : BitVec 32 := Scalar.addi c0_i32_5499 v3950
  v3951.toNat
def k0_dev224 (d0 : Dev nD) : Nat :=
  let c0_i32_5533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5532 : BitVec 32 := 1#32
  let v3973 : BitVec 32 := Scalar.muli v4 c1_i32_5532
  let v3974 : BitVec 32 := Scalar.addi c0_i32_5533 v3973
  v3974.toNat
def k0_dev225 (d0 : Dev nD) : Nat :=
  let c0_i32_5567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5566 : BitVec 32 := 1#32
  let v3996 : BitVec 32 := Scalar.muli v7 c1_i32_5566
  let v3997 : BitVec 32 := Scalar.addi c0_i32_5567 v3996
  v3997.toNat
def k0_dev226 (d0 : Dev nD) : Nat :=
  let c0_i32_5601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5600 : BitVec 32 := 1#32
  let v4019 : BitVec 32 := Scalar.muli v4 c1_i32_5600
  let v4020 : BitVec 32 := Scalar.addi c0_i32_5601 v4019
  v4020.toNat
def k0_dev227 (d0 : Dev nD) : Nat :=
  let c0_i32_5611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5610 : BitVec 32 := 1#32
  let v4021 : BitVec 32 := Scalar.muli v4 c1_i32_5610
  let v4022 : BitVec 32 := Scalar.addi c0_i32_5611 v4021
  v4022.toNat
def k0_dev228 (d0 : Dev nD) : Nat :=
  let c0_i32_5625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5624 : BitVec 32 := 1#32
  let v4031 : BitVec 32 := Scalar.muli v7 c1_i32_5624
  let v4032 : BitVec 32 := Scalar.addi c0_i32_5625 v4031
  v4032.toNat
def k0_dev229 (d0 : Dev nD) : Nat :=
  let c0_i32_5639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5638 : BitVec 32 := 1#32
  let v4041 : BitVec 32 := Scalar.muli v4 c1_i32_5638
  let v4042 : BitVec 32 := Scalar.addi c0_i32_5639 v4041
  v4042.toNat
def k0_dev230 (d0 : Dev nD) : Nat :=
  let c0_i32_5653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5652 : BitVec 32 := 1#32
  let v4051 : BitVec 32 := Scalar.muli v7 c1_i32_5652
  let v4052 : BitVec 32 := Scalar.addi c0_i32_5653 v4051
  v4052.toNat
def k0_dev231 (d0 : Dev nD) : Nat :=
  let c0_i32_5667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5666 : BitVec 32 := 1#32
  let v4061 : BitVec 32 := Scalar.muli v4 c1_i32_5666
  let v4062 : BitVec 32 := Scalar.addi c0_i32_5667 v4061
  v4062.toNat
def k0_dev232 (d0 : Dev nD) : Nat :=
  let c0_i32_5681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5680 : BitVec 32 := 1#32
  let v4071 : BitVec 32 := Scalar.muli v7 c1_i32_5680
  let v4072 : BitVec 32 := Scalar.addi c0_i32_5681 v4071
  v4072.toNat
def k0_dev233 (d0 : Dev nD) : Nat :=
  let c0_i32_5695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5694 : BitVec 32 := 1#32
  let v4081 : BitVec 32 := Scalar.muli v4 c1_i32_5694
  let v4082 : BitVec 32 := Scalar.addi c0_i32_5695 v4081
  v4082.toNat
def k0_dev234 (d0 : Dev nD) : Nat :=
  let c0_i32_5709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5708 : BitVec 32 := 1#32
  let v4091 : BitVec 32 := Scalar.muli v7 c1_i32_5708
  let v4092 : BitVec 32 := Scalar.addi c0_i32_5709 v4091
  v4092.toNat
def k0_off4 (d0 : Dev nD) (c15_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4101 : BitVec 32 := Scalar.subi v2 c15_i32
  let c32_i32_5714 : BitVec 32 := 32#32
  let v4102 : BitVec 32 := Scalar.addi v4101 c32_i32_5714
  let c16_i32_5715 : BitVec 32 := 16#32
  let v4103 : BitVec 32 := Scalar.remsi v4102 c16_i32_5715
  let c256_i32_5752 : BitVec 32 := 256#32
  let v4145 : BitVec 32 := Scalar.muli v4103 c256_i32_5752
  let c0_i32_5756 : BitVec 32 := 0#32
  ![v4145.toNat, 0]
def k0_dev235 (d0 : Dev nD) : Nat :=
  let c0_i32_5772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5771 : BitVec 32 := 1#32
  let v4157 : BitVec 32 := Scalar.muli v7 c1_i32_5771
  let v4158 : BitVec 32 := Scalar.addi c0_i32_5772 v4157
  v4158.toNat
def k0_off5 (d0 : Dev nD) (c15_i32_5716 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4104 : BitVec 32 := Scalar.addi v2 c15_i32_5716
  let c16_i32_5717 : BitVec 32 := 16#32
  let v4105 : BitVec 32 := Scalar.remsi v4104 c16_i32_5717
  let c256_i32_5797 : BitVec 32 := 256#32
  let v4184 : BitVec 32 := Scalar.muli v4105 c256_i32_5797
  let c4096_i32 : BitVec 32 := 4096#32
  ![v4184.toNat, 4096]
def k0_dev236 (d0 : Dev nD) : Nat :=
  let c0_i32_5816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5815 : BitVec 32 := 1#32
  let v4196 : BitVec 32 := Scalar.muli v4 c1_i32_5815
  let v4197 : BitVec 32 := Scalar.addi c0_i32_5816 v4196
  v4197.toNat
def k0_off6 (d0 : Dev nD) (c15_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4101 : BitVec 32 := Scalar.subi v2 c15_i32
  let c32_i32_5714 : BitVec 32 := 32#32
  let v4102 : BitVec 32 := Scalar.addi v4101 c32_i32_5714
  let c16_i32_5715 : BitVec 32 := 16#32
  let v4103 : BitVec 32 := Scalar.remsi v4102 c16_i32_5715
  let c256_i32_5841 : BitVec 32 := 256#32
  let v4223 : BitVec 32 := Scalar.muli v4103 c256_i32_5841
  let c1024_i32 : BitVec 32 := 1024#32
  ![v4223.toNat, 1024]
def k0_dev237 (d0 : Dev nD) : Nat :=
  let c0_i32_5860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5859 : BitVec 32 := 1#32
  let v4235 : BitVec 32 := Scalar.muli v7 c1_i32_5859
  let v4236 : BitVec 32 := Scalar.addi c0_i32_5860 v4235
  v4236.toNat
def k0_off7 (d0 : Dev nD) (c15_i32_5716 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4104 : BitVec 32 := Scalar.addi v2 c15_i32_5716
  let c16_i32_5717 : BitVec 32 := 16#32
  let v4105 : BitVec 32 := Scalar.remsi v4104 c16_i32_5717
  let c256_i32_5885 : BitVec 32 := 256#32
  let v4262 : BitVec 32 := Scalar.muli v4105 c256_i32_5885
  let c5120_i32 : BitVec 32 := 5120#32
  ![v4262.toNat, 5120]
def k0_dev238 (d0 : Dev nD) : Nat :=
  let c0_i32_5904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5903 : BitVec 32 := 1#32
  let v4274 : BitVec 32 := Scalar.muli v4 c1_i32_5903
  let v4275 : BitVec 32 := Scalar.addi c0_i32_5904 v4274
  v4275.toNat
def k0_off8 (d0 : Dev nD) (c15_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4101 : BitVec 32 := Scalar.subi v2 c15_i32
  let c32_i32_5714 : BitVec 32 := 32#32
  let v4102 : BitVec 32 := Scalar.addi v4101 c32_i32_5714
  let c16_i32_5715 : BitVec 32 := 16#32
  let v4103 : BitVec 32 := Scalar.remsi v4102 c16_i32_5715
  let c256_i32_5929 : BitVec 32 := 256#32
  let v4301 : BitVec 32 := Scalar.muli v4103 c256_i32_5929
  let c2048_i32 : BitVec 32 := 2048#32
  ![v4301.toNat, 2048]
def k0_dev239 (d0 : Dev nD) : Nat :=
  let c0_i32_5948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5947 : BitVec 32 := 1#32
  let v4313 : BitVec 32 := Scalar.muli v7 c1_i32_5947
  let v4314 : BitVec 32 := Scalar.addi c0_i32_5948 v4313
  v4314.toNat
def k0_off9 (d0 : Dev nD) (c15_i32_5716 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4104 : BitVec 32 := Scalar.addi v2 c15_i32_5716
  let c16_i32_5717 : BitVec 32 := 16#32
  let v4105 : BitVec 32 := Scalar.remsi v4104 c16_i32_5717
  let c256_i32_5973 : BitVec 32 := 256#32
  let v4340 : BitVec 32 := Scalar.muli v4105 c256_i32_5973
  let c6144_i32 : BitVec 32 := 6144#32
  ![v4340.toNat, 6144]
def k0_dev240 (d0 : Dev nD) : Nat :=
  let c0_i32_5992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5991 : BitVec 32 := 1#32
  let v4352 : BitVec 32 := Scalar.muli v4 c1_i32_5991
  let v4353 : BitVec 32 := Scalar.addi c0_i32_5992 v4352
  v4353.toNat
def k0_off10 (d0 : Dev nD) (c15_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4101 : BitVec 32 := Scalar.subi v2 c15_i32
  let c32_i32_5714 : BitVec 32 := 32#32
  let v4102 : BitVec 32 := Scalar.addi v4101 c32_i32_5714
  let c16_i32_5715 : BitVec 32 := 16#32
  let v4103 : BitVec 32 := Scalar.remsi v4102 c16_i32_5715
  let c256_i32_6017 : BitVec 32 := 256#32
  let v4379 : BitVec 32 := Scalar.muli v4103 c256_i32_6017
  let c3072_i32 : BitVec 32 := 3072#32
  ![v4379.toNat, 3072]
def k0_dev241 (d0 : Dev nD) : Nat :=
  let c0_i32_6036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6035 : BitVec 32 := 1#32
  let v4391 : BitVec 32 := Scalar.muli v7 c1_i32_6035
  let v4392 : BitVec 32 := Scalar.addi c0_i32_6036 v4391
  v4392.toNat
def k0_off11 (d0 : Dev nD) (c15_i32_5716 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4104 : BitVec 32 := Scalar.addi v2 c15_i32_5716
  let c16_i32_5717 : BitVec 32 := 16#32
  let v4105 : BitVec 32 := Scalar.remsi v4104 c16_i32_5717
  let c256_i32_6061 : BitVec 32 := 256#32
  let v4418 : BitVec 32 := Scalar.muli v4105 c256_i32_6061
  let c7168_i32 : BitVec 32 := 7168#32
  ![v4418.toNat, 7168]
def k0_dev242 (d0 : Dev nD) : Nat :=
  let c0_i32_6080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6079 : BitVec 32 := 1#32
  let v4430 : BitVec 32 := Scalar.muli v4 c1_i32_6079
  let v4431 : BitVec 32 := Scalar.addi c0_i32_6080 v4430
  v4431.toNat
def k0_dev243 (d0 : Dev nD) : Nat :=
  let c0_i32_6090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6089 : BitVec 32 := 1#32
  let v4432 : BitVec 32 := Scalar.muli v4 c1_i32_6089
  let v4433 : BitVec 32 := Scalar.addi c0_i32_6090 v4432
  v4433.toNat
def k0_dev244 (d0 : Dev nD) : Nat :=
  let c0_i32_6104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6103 : BitVec 32 := 1#32
  let v4442 : BitVec 32 := Scalar.muli v7 c1_i32_6103
  let v4443 : BitVec 32 := Scalar.addi c0_i32_6104 v4442
  v4443.toNat
def k0_dev245 (d0 : Dev nD) : Nat :=
  let c0_i32_6118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6117 : BitVec 32 := 1#32
  let v4452 : BitVec 32 := Scalar.muli v4 c1_i32_6117
  let v4453 : BitVec 32 := Scalar.addi c0_i32_6118 v4452
  v4453.toNat
def k0_dev246 (d0 : Dev nD) : Nat :=
  let c0_i32_6132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6131 : BitVec 32 := 1#32
  let v4462 : BitVec 32 := Scalar.muli v7 c1_i32_6131
  let v4463 : BitVec 32 := Scalar.addi c0_i32_6132 v4462
  v4463.toNat
def k0_dev247 (d0 : Dev nD) : Nat :=
  let c0_i32_6146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6145 : BitVec 32 := 1#32
  let v4472 : BitVec 32 := Scalar.muli v4 c1_i32_6145
  let v4473 : BitVec 32 := Scalar.addi c0_i32_6146 v4472
  v4473.toNat
def k0_dev248 (d0 : Dev nD) : Nat :=
  let c0_i32_6160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6159 : BitVec 32 := 1#32
  let v4482 : BitVec 32 := Scalar.muli v7 c1_i32_6159
  let v4483 : BitVec 32 := Scalar.addi c0_i32_6160 v4482
  v4483.toNat
def k0_dev249 (d0 : Dev nD) : Nat :=
  let c0_i32_6174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6173 : BitVec 32 := 1#32
  let v4492 : BitVec 32 := Scalar.muli v4 c1_i32_6173
  let v4493 : BitVec 32 := Scalar.addi c0_i32_6174 v4492
  v4493.toNat
def k0_dev250 (d0 : Dev nD) : Nat :=
  let c0_i32_6188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6187 : BitVec 32 := 1#32
  let v4502 : BitVec 32 := Scalar.muli v7 c1_i32_6187
  let v4503 : BitVec 32 := Scalar.addi c0_i32_6188 v4502
  v4503.toNat
def k0_dev251 (d0 : Dev nD) : Nat :=
  let c0_i32_6236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6235 : BitVec 32 := 1#32
  let v4542 : BitVec 32 := Scalar.muli v7 c1_i32_6235
  let v4543 : BitVec 32 := Scalar.addi c0_i32_6236 v4542
  v4543.toNat
def k0_dev252 (d0 : Dev nD) : Nat :=
  let c0_i32_6275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6274 : BitVec 32 := 1#32
  let v4569 : BitVec 32 := Scalar.muli v4 c1_i32_6274
  let v4570 : BitVec 32 := Scalar.addi c0_i32_6275 v4569
  v4570.toNat
def k0_dev253 (d0 : Dev nD) : Nat :=
  let c0_i32_6314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6313 : BitVec 32 := 1#32
  let v4596 : BitVec 32 := Scalar.muli v7 c1_i32_6313
  let v4597 : BitVec 32 := Scalar.addi c0_i32_6314 v4596
  v4597.toNat
def k0_dev254 (d0 : Dev nD) : Nat :=
  let c0_i32_6353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6352 : BitVec 32 := 1#32
  let v4623 : BitVec 32 := Scalar.muli v4 c1_i32_6352
  let v4624 : BitVec 32 := Scalar.addi c0_i32_6353 v4623
  v4624.toNat
def k0_dev255 (d0 : Dev nD) : Nat :=
  let c0_i32_6392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6391 : BitVec 32 := 1#32
  let v4650 : BitVec 32 := Scalar.muli v7 c1_i32_6391
  let v4651 : BitVec 32 := Scalar.addi c0_i32_6392 v4650
  v4651.toNat
def k0_dev256 (d0 : Dev nD) : Nat :=
  let c0_i32_6431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6430 : BitVec 32 := 1#32
  let v4677 : BitVec 32 := Scalar.muli v4 c1_i32_6430
  let v4678 : BitVec 32 := Scalar.addi c0_i32_6431 v4677
  v4678.toNat
def k0_dev257 (d0 : Dev nD) : Nat :=
  let c0_i32_6470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6469 : BitVec 32 := 1#32
  let v4704 : BitVec 32 := Scalar.muli v7 c1_i32_6469
  let v4705 : BitVec 32 := Scalar.addi c0_i32_6470 v4704
  v4705.toNat
def k0_dev258 (d0 : Dev nD) : Nat :=
  let c0_i32_6509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6508 : BitVec 32 := 1#32
  let v4731 : BitVec 32 := Scalar.muli v4 c1_i32_6508
  let v4732 : BitVec 32 := Scalar.addi c0_i32_6509 v4731
  v4732.toNat
def k0_dev259 (d0 : Dev nD) : Nat :=
  let c0_i32_6519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6518 : BitVec 32 := 1#32
  let v4733 : BitVec 32 := Scalar.muli v4 c1_i32_6518
  let v4734 : BitVec 32 := Scalar.addi c0_i32_6519 v4733
  v4734.toNat
def k0_dev260 (d0 : Dev nD) : Nat :=
  let c0_i32_6533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6532 : BitVec 32 := 1#32
  let v4743 : BitVec 32 := Scalar.muli v7 c1_i32_6532
  let v4744 : BitVec 32 := Scalar.addi c0_i32_6533 v4743
  v4744.toNat
def k0_dev261 (d0 : Dev nD) : Nat :=
  let c0_i32_6547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6546 : BitVec 32 := 1#32
  let v4753 : BitVec 32 := Scalar.muli v4 c1_i32_6546
  let v4754 : BitVec 32 := Scalar.addi c0_i32_6547 v4753
  v4754.toNat
def k0_dev262 (d0 : Dev nD) : Nat :=
  let c0_i32_6561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6560 : BitVec 32 := 1#32
  let v4763 : BitVec 32 := Scalar.muli v7 c1_i32_6560
  let v4764 : BitVec 32 := Scalar.addi c0_i32_6561 v4763
  v4764.toNat
def k0_dev263 (d0 : Dev nD) : Nat :=
  let c0_i32_6575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6574 : BitVec 32 := 1#32
  let v4773 : BitVec 32 := Scalar.muli v4 c1_i32_6574
  let v4774 : BitVec 32 := Scalar.addi c0_i32_6575 v4773
  v4774.toNat
def k0_dev264 (d0 : Dev nD) : Nat :=
  let c0_i32_6589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6588 : BitVec 32 := 1#32
  let v4783 : BitVec 32 := Scalar.muli v7 c1_i32_6588
  let v4784 : BitVec 32 := Scalar.addi c0_i32_6589 v4783
  v4784.toNat
def k0_dev265 (d0 : Dev nD) : Nat :=
  let c0_i32_6603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6602 : BitVec 32 := 1#32
  let v4793 : BitVec 32 := Scalar.muli v4 c1_i32_6602
  let v4794 : BitVec 32 := Scalar.addi c0_i32_6603 v4793
  v4794.toNat
def k0_dev266 (d0 : Dev nD) : Nat :=
  let c0_i32_6617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6616 : BitVec 32 := 1#32
  let v4803 : BitVec 32 := Scalar.muli v7 c1_i32_6616
  let v4804 : BitVec 32 := Scalar.addi c0_i32_6617 v4803
  v4804.toNat
def k0_dev267 (d0 : Dev nD) : Nat :=
  let c0_i32_6664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6663 : BitVec 32 := 1#32
  let v4843 : BitVec 32 := Scalar.muli v7 c1_i32_6663
  let v4844 : BitVec 32 := Scalar.addi c0_i32_6664 v4843
  v4844.toNat
def k0_dev268 (d0 : Dev nD) : Nat :=
  let c0_i32_6703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6702 : BitVec 32 := 1#32
  let v4870 : BitVec 32 := Scalar.muli v4 c1_i32_6702
  let v4871 : BitVec 32 := Scalar.addi c0_i32_6703 v4870
  v4871.toNat
def k0_dev269 (d0 : Dev nD) : Nat :=
  let c0_i32_6742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6741 : BitVec 32 := 1#32
  let v4897 : BitVec 32 := Scalar.muli v7 c1_i32_6741
  let v4898 : BitVec 32 := Scalar.addi c0_i32_6742 v4897
  v4898.toNat
def k0_dev270 (d0 : Dev nD) : Nat :=
  let c0_i32_6781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6780 : BitVec 32 := 1#32
  let v4924 : BitVec 32 := Scalar.muli v4 c1_i32_6780
  let v4925 : BitVec 32 := Scalar.addi c0_i32_6781 v4924
  v4925.toNat
def k0_dev271 (d0 : Dev nD) : Nat :=
  let c0_i32_6820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6819 : BitVec 32 := 1#32
  let v4951 : BitVec 32 := Scalar.muli v7 c1_i32_6819
  let v4952 : BitVec 32 := Scalar.addi c0_i32_6820 v4951
  v4952.toNat
def k0_dev272 (d0 : Dev nD) : Nat :=
  let c0_i32_6859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6858 : BitVec 32 := 1#32
  let v4978 : BitVec 32 := Scalar.muli v4 c1_i32_6858
  let v4979 : BitVec 32 := Scalar.addi c0_i32_6859 v4978
  v4979.toNat
def k0_dev273 (d0 : Dev nD) : Nat :=
  let c0_i32_6898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6897 : BitVec 32 := 1#32
  let v5005 : BitVec 32 := Scalar.muli v7 c1_i32_6897
  let v5006 : BitVec 32 := Scalar.addi c0_i32_6898 v5005
  v5006.toNat
def k0_dev274 (d0 : Dev nD) : Nat :=
  let c0_i32_6937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6936 : BitVec 32 := 1#32
  let v5032 : BitVec 32 := Scalar.muli v4 c1_i32_6936
  let v5033 : BitVec 32 := Scalar.addi c0_i32_6937 v5032
  v5033.toNat
def k0_dev275 (d0 : Dev nD) : Nat :=
  let c0_i32_6947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6946 : BitVec 32 := 1#32
  let v5034 : BitVec 32 := Scalar.muli v4 c1_i32_6946
  let v5035 : BitVec 32 := Scalar.addi c0_i32_6947 v5034
  v5035.toNat
def k0_dev276 (d0 : Dev nD) : Nat :=
  let c0_i32_6961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6960 : BitVec 32 := 1#32
  let v5044 : BitVec 32 := Scalar.muli v7 c1_i32_6960
  let v5045 : BitVec 32 := Scalar.addi c0_i32_6961 v5044
  v5045.toNat
def k0_dev277 (d0 : Dev nD) : Nat :=
  let c0_i32_6975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_6974 : BitVec 32 := 1#32
  let v5054 : BitVec 32 := Scalar.muli v4 c1_i32_6974
  let v5055 : BitVec 32 := Scalar.addi c0_i32_6975 v5054
  v5055.toNat
def k0_dev278 (d0 : Dev nD) : Nat :=
  let c0_i32_6989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6988 : BitVec 32 := 1#32
  let v5064 : BitVec 32 := Scalar.muli v7 c1_i32_6988
  let v5065 : BitVec 32 := Scalar.addi c0_i32_6989 v5064
  v5065.toNat
def k0_dev279 (d0 : Dev nD) : Nat :=
  let c0_i32_7003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7002 : BitVec 32 := 1#32
  let v5074 : BitVec 32 := Scalar.muli v4 c1_i32_7002
  let v5075 : BitVec 32 := Scalar.addi c0_i32_7003 v5074
  v5075.toNat
def k0_dev280 (d0 : Dev nD) : Nat :=
  let c0_i32_7017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7016 : BitVec 32 := 1#32
  let v5084 : BitVec 32 := Scalar.muli v7 c1_i32_7016
  let v5085 : BitVec 32 := Scalar.addi c0_i32_7017 v5084
  v5085.toNat
def k0_dev281 (d0 : Dev nD) : Nat :=
  let c0_i32_7031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7030 : BitVec 32 := 1#32
  let v5094 : BitVec 32 := Scalar.muli v4 c1_i32_7030
  let v5095 : BitVec 32 := Scalar.addi c0_i32_7031 v5094
  v5095.toNat
def k0_dev282 (d0 : Dev nD) : Nat :=
  let c0_i32_7045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7044 : BitVec 32 := 1#32
  let v5104 : BitVec 32 := Scalar.muli v7 c1_i32_7044
  let v5105 : BitVec 32 := Scalar.addi c0_i32_7045 v5104
  v5105.toNat
def k0_dev283 (d0 : Dev nD) : Nat :=
  let c0_i32_7092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7091 : BitVec 32 := 1#32
  let v5144 : BitVec 32 := Scalar.muli v7 c1_i32_7091
  let v5145 : BitVec 32 := Scalar.addi c0_i32_7092 v5144
  v5145.toNat
def k0_dev284 (d0 : Dev nD) : Nat :=
  let c0_i32_7131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7130 : BitVec 32 := 1#32
  let v5171 : BitVec 32 := Scalar.muli v4 c1_i32_7130
  let v5172 : BitVec 32 := Scalar.addi c0_i32_7131 v5171
  v5172.toNat
def k0_dev285 (d0 : Dev nD) : Nat :=
  let c0_i32_7170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7169 : BitVec 32 := 1#32
  let v5198 : BitVec 32 := Scalar.muli v7 c1_i32_7169
  let v5199 : BitVec 32 := Scalar.addi c0_i32_7170 v5198
  v5199.toNat
def k0_dev286 (d0 : Dev nD) : Nat :=
  let c0_i32_7209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7208 : BitVec 32 := 1#32
  let v5225 : BitVec 32 := Scalar.muli v4 c1_i32_7208
  let v5226 : BitVec 32 := Scalar.addi c0_i32_7209 v5225
  v5226.toNat
def k0_dev287 (d0 : Dev nD) : Nat :=
  let c0_i32_7248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7247 : BitVec 32 := 1#32
  let v5252 : BitVec 32 := Scalar.muli v7 c1_i32_7247
  let v5253 : BitVec 32 := Scalar.addi c0_i32_7248 v5252
  v5253.toNat
def k0_dev288 (d0 : Dev nD) : Nat :=
  let c0_i32_7287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7286 : BitVec 32 := 1#32
  let v5279 : BitVec 32 := Scalar.muli v4 c1_i32_7286
  let v5280 : BitVec 32 := Scalar.addi c0_i32_7287 v5279
  v5280.toNat
def k0_dev289 (d0 : Dev nD) : Nat :=
  let c0_i32_7326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7325 : BitVec 32 := 1#32
  let v5306 : BitVec 32 := Scalar.muli v7 c1_i32_7325
  let v5307 : BitVec 32 := Scalar.addi c0_i32_7326 v5306
  v5307.toNat
def k0_dev290 (d0 : Dev nD) : Nat :=
  let c0_i32_7365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7364 : BitVec 32 := 1#32
  let v5333 : BitVec 32 := Scalar.muli v4 c1_i32_7364
  let v5334 : BitVec 32 := Scalar.addi c0_i32_7365 v5333
  v5334.toNat
def k0_dev291 (d0 : Dev nD) : Nat :=
  let c0_i32_7375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7374 : BitVec 32 := 1#32
  let v5335 : BitVec 32 := Scalar.muli v4 c1_i32_7374
  let v5336 : BitVec 32 := Scalar.addi c0_i32_7375 v5335
  v5336.toNat
def k0_dev292 (d0 : Dev nD) : Nat :=
  let c0_i32_7389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7388 : BitVec 32 := 1#32
  let v5345 : BitVec 32 := Scalar.muli v7 c1_i32_7388
  let v5346 : BitVec 32 := Scalar.addi c0_i32_7389 v5345
  v5346.toNat
def k0_dev293 (d0 : Dev nD) : Nat :=
  let c0_i32_7403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7402 : BitVec 32 := 1#32
  let v5355 : BitVec 32 := Scalar.muli v4 c1_i32_7402
  let v5356 : BitVec 32 := Scalar.addi c0_i32_7403 v5355
  v5356.toNat
def k0_dev294 (d0 : Dev nD) : Nat :=
  let c0_i32_7417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7416 : BitVec 32 := 1#32
  let v5365 : BitVec 32 := Scalar.muli v7 c1_i32_7416
  let v5366 : BitVec 32 := Scalar.addi c0_i32_7417 v5365
  v5366.toNat
def k0_dev295 (d0 : Dev nD) : Nat :=
  let c0_i32_7431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7430 : BitVec 32 := 1#32
  let v5375 : BitVec 32 := Scalar.muli v4 c1_i32_7430
  let v5376 : BitVec 32 := Scalar.addi c0_i32_7431 v5375
  v5376.toNat
def k0_dev296 (d0 : Dev nD) : Nat :=
  let c0_i32_7445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7444 : BitVec 32 := 1#32
  let v5385 : BitVec 32 := Scalar.muli v7 c1_i32_7444
  let v5386 : BitVec 32 := Scalar.addi c0_i32_7445 v5385
  v5386.toNat
def k0_dev297 (d0 : Dev nD) : Nat :=
  let c0_i32_7459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7458 : BitVec 32 := 1#32
  let v5395 : BitVec 32 := Scalar.muli v4 c1_i32_7458
  let v5396 : BitVec 32 := Scalar.addi c0_i32_7459 v5395
  v5396.toNat
def k0_dev298 (d0 : Dev nD) : Nat :=
  let c0_i32_7473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7472 : BitVec 32 := 1#32
  let v5405 : BitVec 32 := Scalar.muli v7 c1_i32_7472
  let v5406 : BitVec 32 := Scalar.addi c0_i32_7473 v5405
  v5406.toNat
def k0_dev299 (d0 : Dev nD) : Nat :=
  let c0_i32_7520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7519 : BitVec 32 := 1#32
  let v5445 : BitVec 32 := Scalar.muli v7 c1_i32_7519
  let v5446 : BitVec 32 := Scalar.addi c0_i32_7520 v5445
  v5446.toNat
def k0_dev300 (d0 : Dev nD) : Nat :=
  let c0_i32_7559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7558 : BitVec 32 := 1#32
  let v5472 : BitVec 32 := Scalar.muli v4 c1_i32_7558
  let v5473 : BitVec 32 := Scalar.addi c0_i32_7559 v5472
  v5473.toNat
def k0_dev301 (d0 : Dev nD) : Nat :=
  let c0_i32_7598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7597 : BitVec 32 := 1#32
  let v5499 : BitVec 32 := Scalar.muli v7 c1_i32_7597
  let v5500 : BitVec 32 := Scalar.addi c0_i32_7598 v5499
  v5500.toNat
def k0_dev302 (d0 : Dev nD) : Nat :=
  let c0_i32_7637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7636 : BitVec 32 := 1#32
  let v5526 : BitVec 32 := Scalar.muli v4 c1_i32_7636
  let v5527 : BitVec 32 := Scalar.addi c0_i32_7637 v5526
  v5527.toNat
def k0_dev303 (d0 : Dev nD) : Nat :=
  let c0_i32_7676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7675 : BitVec 32 := 1#32
  let v5553 : BitVec 32 := Scalar.muli v7 c1_i32_7675
  let v5554 : BitVec 32 := Scalar.addi c0_i32_7676 v5553
  v5554.toNat
def k0_dev304 (d0 : Dev nD) : Nat :=
  let c0_i32_7715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7714 : BitVec 32 := 1#32
  let v5580 : BitVec 32 := Scalar.muli v4 c1_i32_7714
  let v5581 : BitVec 32 := Scalar.addi c0_i32_7715 v5580
  v5581.toNat
def k0_dev305 (d0 : Dev nD) : Nat :=
  let c0_i32_7754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7753 : BitVec 32 := 1#32
  let v5607 : BitVec 32 := Scalar.muli v7 c1_i32_7753
  let v5608 : BitVec 32 := Scalar.addi c0_i32_7754 v5607
  v5608.toNat
def k0_dev306 (d0 : Dev nD) : Nat :=
  let c0_i32_7793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7792 : BitVec 32 := 1#32
  let v5634 : BitVec 32 := Scalar.muli v4 c1_i32_7792
  let v5635 : BitVec 32 := Scalar.addi c0_i32_7793 v5634
  v5635.toNat
def k0_dev307 (d0 : Dev nD) : Nat :=
  let c0_i32_7803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7802 : BitVec 32 := 1#32
  let v5636 : BitVec 32 := Scalar.muli v4 c1_i32_7802
  let v5637 : BitVec 32 := Scalar.addi c0_i32_7803 v5636
  v5637.toNat
def k0_dev308 (d0 : Dev nD) : Nat :=
  let c0_i32_7817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7816 : BitVec 32 := 1#32
  let v5646 : BitVec 32 := Scalar.muli v7 c1_i32_7816
  let v5647 : BitVec 32 := Scalar.addi c0_i32_7817 v5646
  v5647.toNat
def k0_dev309 (d0 : Dev nD) : Nat :=
  let c0_i32_7831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7830 : BitVec 32 := 1#32
  let v5656 : BitVec 32 := Scalar.muli v4 c1_i32_7830
  let v5657 : BitVec 32 := Scalar.addi c0_i32_7831 v5656
  v5657.toNat
def k0_dev310 (d0 : Dev nD) : Nat :=
  let c0_i32_7845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7844 : BitVec 32 := 1#32
  let v5666 : BitVec 32 := Scalar.muli v7 c1_i32_7844
  let v5667 : BitVec 32 := Scalar.addi c0_i32_7845 v5666
  v5667.toNat
def k0_dev311 (d0 : Dev nD) : Nat :=
  let c0_i32_7859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7858 : BitVec 32 := 1#32
  let v5676 : BitVec 32 := Scalar.muli v4 c1_i32_7858
  let v5677 : BitVec 32 := Scalar.addi c0_i32_7859 v5676
  v5677.toNat
def k0_dev312 (d0 : Dev nD) : Nat :=
  let c0_i32_7873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7872 : BitVec 32 := 1#32
  let v5686 : BitVec 32 := Scalar.muli v7 c1_i32_7872
  let v5687 : BitVec 32 := Scalar.addi c0_i32_7873 v5686
  v5687.toNat
def k0_dev313 (d0 : Dev nD) : Nat :=
  let c0_i32_7887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7886 : BitVec 32 := 1#32
  let v5696 : BitVec 32 := Scalar.muli v4 c1_i32_7886
  let v5697 : BitVec 32 := Scalar.addi c0_i32_7887 v5696
  v5697.toNat
def k0_dev314 (d0 : Dev nD) : Nat :=
  let c0_i32_7901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7900 : BitVec 32 := 1#32
  let v5706 : BitVec 32 := Scalar.muli v7 c1_i32_7900
  let v5707 : BitVec 32 := Scalar.addi c0_i32_7901 v5706
  v5707.toNat
def k0_dev315 (d0 : Dev nD) : Nat :=
  let c0_i32_7948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_7947 : BitVec 32 := 1#32
  let v5746 : BitVec 32 := Scalar.muli v7 c1_i32_7947
  let v5747 : BitVec 32 := Scalar.addi c0_i32_7948 v5746
  v5747.toNat
def k0_dev316 (d0 : Dev nD) : Nat :=
  let c0_i32_7987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_7986 : BitVec 32 := 1#32
  let v5773 : BitVec 32 := Scalar.muli v4 c1_i32_7986
  let v5774 : BitVec 32 := Scalar.addi c0_i32_7987 v5773
  v5774.toNat
def k0_dev317 (d0 : Dev nD) : Nat :=
  let c0_i32_8026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8025 : BitVec 32 := 1#32
  let v5800 : BitVec 32 := Scalar.muli v7 c1_i32_8025
  let v5801 : BitVec 32 := Scalar.addi c0_i32_8026 v5800
  v5801.toNat
def k0_dev318 (d0 : Dev nD) : Nat :=
  let c0_i32_8065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8064 : BitVec 32 := 1#32
  let v5827 : BitVec 32 := Scalar.muli v4 c1_i32_8064
  let v5828 : BitVec 32 := Scalar.addi c0_i32_8065 v5827
  v5828.toNat
def k0_dev319 (d0 : Dev nD) : Nat :=
  let c0_i32_8104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8103 : BitVec 32 := 1#32
  let v5854 : BitVec 32 := Scalar.muli v7 c1_i32_8103
  let v5855 : BitVec 32 := Scalar.addi c0_i32_8104 v5854
  v5855.toNat
def k0_dev320 (d0 : Dev nD) : Nat :=
  let c0_i32_8143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8142 : BitVec 32 := 1#32
  let v5881 : BitVec 32 := Scalar.muli v4 c1_i32_8142
  let v5882 : BitVec 32 := Scalar.addi c0_i32_8143 v5881
  v5882.toNat
def k0_dev321 (d0 : Dev nD) : Nat :=
  let c0_i32_8182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8181 : BitVec 32 := 1#32
  let v5908 : BitVec 32 := Scalar.muli v7 c1_i32_8181
  let v5909 : BitVec 32 := Scalar.addi c0_i32_8182 v5908
  v5909.toNat
def k0_dev322 (d0 : Dev nD) : Nat :=
  let c0_i32_8221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8220 : BitVec 32 := 1#32
  let v5935 : BitVec 32 := Scalar.muli v4 c1_i32_8220
  let v5936 : BitVec 32 := Scalar.addi c0_i32_8221 v5935
  v5936.toNat
def k0_dev323 (d0 : Dev nD) : Nat :=
  let c0_i32_8231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8230 : BitVec 32 := 1#32
  let v5937 : BitVec 32 := Scalar.muli v4 c1_i32_8230
  let v5938 : BitVec 32 := Scalar.addi c0_i32_8231 v5937
  v5938.toNat
def k0_dev324 (d0 : Dev nD) : Nat :=
  let c0_i32_8245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8244 : BitVec 32 := 1#32
  let v5947 : BitVec 32 := Scalar.muli v7 c1_i32_8244
  let v5948 : BitVec 32 := Scalar.addi c0_i32_8245 v5947
  v5948.toNat
def k0_dev325 (d0 : Dev nD) : Nat :=
  let c0_i32_8259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8258 : BitVec 32 := 1#32
  let v5957 : BitVec 32 := Scalar.muli v4 c1_i32_8258
  let v5958 : BitVec 32 := Scalar.addi c0_i32_8259 v5957
  v5958.toNat
def k0_dev326 (d0 : Dev nD) : Nat :=
  let c0_i32_8273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8272 : BitVec 32 := 1#32
  let v5967 : BitVec 32 := Scalar.muli v7 c1_i32_8272
  let v5968 : BitVec 32 := Scalar.addi c0_i32_8273 v5967
  v5968.toNat
def k0_dev327 (d0 : Dev nD) : Nat :=
  let c0_i32_8287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8286 : BitVec 32 := 1#32
  let v5977 : BitVec 32 := Scalar.muli v4 c1_i32_8286
  let v5978 : BitVec 32 := Scalar.addi c0_i32_8287 v5977
  v5978.toNat
def k0_dev328 (d0 : Dev nD) : Nat :=
  let c0_i32_8301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8300 : BitVec 32 := 1#32
  let v5987 : BitVec 32 := Scalar.muli v7 c1_i32_8300
  let v5988 : BitVec 32 := Scalar.addi c0_i32_8301 v5987
  v5988.toNat
def k0_dev329 (d0 : Dev nD) : Nat :=
  let c0_i32_8315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8314 : BitVec 32 := 1#32
  let v5997 : BitVec 32 := Scalar.muli v4 c1_i32_8314
  let v5998 : BitVec 32 := Scalar.addi c0_i32_8315 v5997
  v5998.toNat
def k0_dev330 (d0 : Dev nD) : Nat :=
  let c0_i32_8329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8328 : BitVec 32 := 1#32
  let v6007 : BitVec 32 := Scalar.muli v7 c1_i32_8328
  let v6008 : BitVec 32 := Scalar.addi c0_i32_8329 v6007
  v6008.toNat
def k0_dev331 (d0 : Dev nD) : Nat :=
  let c0_i32_8376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8375 : BitVec 32 := 1#32
  let v6047 : BitVec 32 := Scalar.muli v7 c1_i32_8375
  let v6048 : BitVec 32 := Scalar.addi c0_i32_8376 v6047
  v6048.toNat
def k0_dev332 (d0 : Dev nD) : Nat :=
  let c0_i32_8415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8414 : BitVec 32 := 1#32
  let v6074 : BitVec 32 := Scalar.muli v4 c1_i32_8414
  let v6075 : BitVec 32 := Scalar.addi c0_i32_8415 v6074
  v6075.toNat
def k0_dev333 (d0 : Dev nD) : Nat :=
  let c0_i32_8454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8453 : BitVec 32 := 1#32
  let v6101 : BitVec 32 := Scalar.muli v7 c1_i32_8453
  let v6102 : BitVec 32 := Scalar.addi c0_i32_8454 v6101
  v6102.toNat
def k0_dev334 (d0 : Dev nD) : Nat :=
  let c0_i32_8493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8492 : BitVec 32 := 1#32
  let v6128 : BitVec 32 := Scalar.muli v4 c1_i32_8492
  let v6129 : BitVec 32 := Scalar.addi c0_i32_8493 v6128
  v6129.toNat
def k0_dev335 (d0 : Dev nD) : Nat :=
  let c0_i32_8532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8531 : BitVec 32 := 1#32
  let v6155 : BitVec 32 := Scalar.muli v7 c1_i32_8531
  let v6156 : BitVec 32 := Scalar.addi c0_i32_8532 v6155
  v6156.toNat
def k0_dev336 (d0 : Dev nD) : Nat :=
  let c0_i32_8571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8570 : BitVec 32 := 1#32
  let v6182 : BitVec 32 := Scalar.muli v4 c1_i32_8570
  let v6183 : BitVec 32 := Scalar.addi c0_i32_8571 v6182
  v6183.toNat
def k0_dev337 (d0 : Dev nD) : Nat :=
  let c0_i32_8610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8609 : BitVec 32 := 1#32
  let v6209 : BitVec 32 := Scalar.muli v7 c1_i32_8609
  let v6210 : BitVec 32 := Scalar.addi c0_i32_8610 v6209
  v6210.toNat
def k0_dev338 (d0 : Dev nD) : Nat :=
  let c0_i32_8649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8648 : BitVec 32 := 1#32
  let v6236 : BitVec 32 := Scalar.muli v4 c1_i32_8648
  let v6237 : BitVec 32 := Scalar.addi c0_i32_8649 v6236
  v6237.toNat
def k0_dev339 (d0 : Dev nD) : Nat :=
  let c0_i32_8659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8658 : BitVec 32 := 1#32
  let v6238 : BitVec 32 := Scalar.muli v4 c1_i32_8658
  let v6239 : BitVec 32 := Scalar.addi c0_i32_8659 v6238
  v6239.toNat
def k0_dev340 (d0 : Dev nD) : Nat :=
  let c0_i32_8673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8672 : BitVec 32 := 1#32
  let v6248 : BitVec 32 := Scalar.muli v7 c1_i32_8672
  let v6249 : BitVec 32 := Scalar.addi c0_i32_8673 v6248
  v6249.toNat
def k0_dev341 (d0 : Dev nD) : Nat :=
  let c0_i32_8687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8686 : BitVec 32 := 1#32
  let v6258 : BitVec 32 := Scalar.muli v4 c1_i32_8686
  let v6259 : BitVec 32 := Scalar.addi c0_i32_8687 v6258
  v6259.toNat
def k0_dev342 (d0 : Dev nD) : Nat :=
  let c0_i32_8701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8700 : BitVec 32 := 1#32
  let v6268 : BitVec 32 := Scalar.muli v7 c1_i32_8700
  let v6269 : BitVec 32 := Scalar.addi c0_i32_8701 v6268
  v6269.toNat
def k0_dev343 (d0 : Dev nD) : Nat :=
  let c0_i32_8715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8714 : BitVec 32 := 1#32
  let v6278 : BitVec 32 := Scalar.muli v4 c1_i32_8714
  let v6279 : BitVec 32 := Scalar.addi c0_i32_8715 v6278
  v6279.toNat
def k0_dev344 (d0 : Dev nD) : Nat :=
  let c0_i32_8729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8728 : BitVec 32 := 1#32
  let v6288 : BitVec 32 := Scalar.muli v7 c1_i32_8728
  let v6289 : BitVec 32 := Scalar.addi c0_i32_8729 v6288
  v6289.toNat
def k0_dev345 (d0 : Dev nD) : Nat :=
  let c0_i32_8743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8742 : BitVec 32 := 1#32
  let v6298 : BitVec 32 := Scalar.muli v4 c1_i32_8742
  let v6299 : BitVec 32 := Scalar.addi c0_i32_8743 v6298
  v6299.toNat
def k0_dev346 (d0 : Dev nD) : Nat :=
  let c0_i32_8757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8756 : BitVec 32 := 1#32
  let v6308 : BitVec 32 := Scalar.muli v7 c1_i32_8756
  let v6309 : BitVec 32 := Scalar.addi c0_i32_8757 v6308
  v6309.toNat
def k0_dev347 (d0 : Dev nD) : Nat :=
  let c0_i32_8804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8803 : BitVec 32 := 1#32
  let v6348 : BitVec 32 := Scalar.muli v7 c1_i32_8803
  let v6349 : BitVec 32 := Scalar.addi c0_i32_8804 v6348
  v6349.toNat
def k0_dev348 (d0 : Dev nD) : Nat :=
  let c0_i32_8843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8842 : BitVec 32 := 1#32
  let v6375 : BitVec 32 := Scalar.muli v4 c1_i32_8842
  let v6376 : BitVec 32 := Scalar.addi c0_i32_8843 v6375
  v6376.toNat
def k0_dev349 (d0 : Dev nD) : Nat :=
  let c0_i32_8882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8881 : BitVec 32 := 1#32
  let v6402 : BitVec 32 := Scalar.muli v7 c1_i32_8881
  let v6403 : BitVec 32 := Scalar.addi c0_i32_8882 v6402
  v6403.toNat
def k0_dev350 (d0 : Dev nD) : Nat :=
  let c0_i32_8921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8920 : BitVec 32 := 1#32
  let v6429 : BitVec 32 := Scalar.muli v4 c1_i32_8920
  let v6430 : BitVec 32 := Scalar.addi c0_i32_8921 v6429
  v6430.toNat
def k0_dev351 (d0 : Dev nD) : Nat :=
  let c0_i32_8960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_8959 : BitVec 32 := 1#32
  let v6456 : BitVec 32 := Scalar.muli v7 c1_i32_8959
  let v6457 : BitVec 32 := Scalar.addi c0_i32_8960 v6456
  v6457.toNat
def k0_dev352 (d0 : Dev nD) : Nat :=
  let c0_i32_8999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8998 : BitVec 32 := 1#32
  let v6483 : BitVec 32 := Scalar.muli v4 c1_i32_8998
  let v6484 : BitVec 32 := Scalar.addi c0_i32_8999 v6483
  v6484.toNat
def k0_dev353 (d0 : Dev nD) : Nat :=
  let c0_i32_9038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9037 : BitVec 32 := 1#32
  let v6510 : BitVec 32 := Scalar.muli v7 c1_i32_9037
  let v6511 : BitVec 32 := Scalar.addi c0_i32_9038 v6510
  v6511.toNat
def k0_dev354 (d0 : Dev nD) : Nat :=
  let c0_i32_9077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9076 : BitVec 32 := 1#32
  let v6537 : BitVec 32 := Scalar.muli v4 c1_i32_9076
  let v6538 : BitVec 32 := Scalar.addi c0_i32_9077 v6537
  v6538.toNat
def k0_dev355 (d0 : Dev nD) : Nat :=
  let c0_i32_9087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9086 : BitVec 32 := 1#32
  let v6539 : BitVec 32 := Scalar.muli v4 c1_i32_9086
  let v6540 : BitVec 32 := Scalar.addi c0_i32_9087 v6539
  v6540.toNat
def k0_dev356 (d0 : Dev nD) : Nat :=
  let c0_i32_9101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9100 : BitVec 32 := 1#32
  let v6549 : BitVec 32 := Scalar.muli v7 c1_i32_9100
  let v6550 : BitVec 32 := Scalar.addi c0_i32_9101 v6549
  v6550.toNat
def k0_dev357 (d0 : Dev nD) : Nat :=
  let c0_i32_9115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9114 : BitVec 32 := 1#32
  let v6559 : BitVec 32 := Scalar.muli v4 c1_i32_9114
  let v6560 : BitVec 32 := Scalar.addi c0_i32_9115 v6559
  v6560.toNat
def k0_dev358 (d0 : Dev nD) : Nat :=
  let c0_i32_9129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9128 : BitVec 32 := 1#32
  let v6569 : BitVec 32 := Scalar.muli v7 c1_i32_9128
  let v6570 : BitVec 32 := Scalar.addi c0_i32_9129 v6569
  v6570.toNat
def k0_dev359 (d0 : Dev nD) : Nat :=
  let c0_i32_9143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9142 : BitVec 32 := 1#32
  let v6579 : BitVec 32 := Scalar.muli v4 c1_i32_9142
  let v6580 : BitVec 32 := Scalar.addi c0_i32_9143 v6579
  v6580.toNat
def k0_dev360 (d0 : Dev nD) : Nat :=
  let c0_i32_9157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9156 : BitVec 32 := 1#32
  let v6589 : BitVec 32 := Scalar.muli v7 c1_i32_9156
  let v6590 : BitVec 32 := Scalar.addi c0_i32_9157 v6589
  v6590.toNat
def k0_dev361 (d0 : Dev nD) : Nat :=
  let c0_i32_9171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9170 : BitVec 32 := 1#32
  let v6599 : BitVec 32 := Scalar.muli v4 c1_i32_9170
  let v6600 : BitVec 32 := Scalar.addi c0_i32_9171 v6599
  v6600.toNat
def k0_dev362 (d0 : Dev nD) : Nat :=
  let c0_i32_9185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9184 : BitVec 32 := 1#32
  let v6609 : BitVec 32 := Scalar.muli v7 c1_i32_9184
  let v6610 : BitVec 32 := Scalar.addi c0_i32_9185 v6609
  v6610.toNat
def k0_dev363 (d0 : Dev nD) : Nat :=
  let c0_i32_9232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9231 : BitVec 32 := 1#32
  let v6649 : BitVec 32 := Scalar.muli v7 c1_i32_9231
  let v6650 : BitVec 32 := Scalar.addi c0_i32_9232 v6649
  v6650.toNat
def k0_dev364 (d0 : Dev nD) : Nat :=
  let c0_i32_9271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9270 : BitVec 32 := 1#32
  let v6676 : BitVec 32 := Scalar.muli v4 c1_i32_9270
  let v6677 : BitVec 32 := Scalar.addi c0_i32_9271 v6676
  v6677.toNat
def k0_dev365 (d0 : Dev nD) : Nat :=
  let c0_i32_9310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9309 : BitVec 32 := 1#32
  let v6703 : BitVec 32 := Scalar.muli v7 c1_i32_9309
  let v6704 : BitVec 32 := Scalar.addi c0_i32_9310 v6703
  v6704.toNat
def k0_dev366 (d0 : Dev nD) : Nat :=
  let c0_i32_9349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9348 : BitVec 32 := 1#32
  let v6730 : BitVec 32 := Scalar.muli v4 c1_i32_9348
  let v6731 : BitVec 32 := Scalar.addi c0_i32_9349 v6730
  v6731.toNat
def k0_dev367 (d0 : Dev nD) : Nat :=
  let c0_i32_9388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9387 : BitVec 32 := 1#32
  let v6757 : BitVec 32 := Scalar.muli v7 c1_i32_9387
  let v6758 : BitVec 32 := Scalar.addi c0_i32_9388 v6757
  v6758.toNat
def k0_dev368 (d0 : Dev nD) : Nat :=
  let c0_i32_9427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9426 : BitVec 32 := 1#32
  let v6784 : BitVec 32 := Scalar.muli v4 c1_i32_9426
  let v6785 : BitVec 32 := Scalar.addi c0_i32_9427 v6784
  v6785.toNat
def k0_dev369 (d0 : Dev nD) : Nat :=
  let c0_i32_9466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9465 : BitVec 32 := 1#32
  let v6811 : BitVec 32 := Scalar.muli v7 c1_i32_9465
  let v6812 : BitVec 32 := Scalar.addi c0_i32_9466 v6811
  v6812.toNat
def k0_dev370 (d0 : Dev nD) : Nat :=
  let c0_i32_9505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9504 : BitVec 32 := 1#32
  let v6838 : BitVec 32 := Scalar.muli v4 c1_i32_9504
  let v6839 : BitVec 32 := Scalar.addi c0_i32_9505 v6838
  v6839.toNat
def k0_dev371 (d0 : Dev nD) : Nat :=
  let c0_i32_9515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9514 : BitVec 32 := 1#32
  let v6840 : BitVec 32 := Scalar.muli v4 c1_i32_9514
  let v6841 : BitVec 32 := Scalar.addi c0_i32_9515 v6840
  v6841.toNat
def k0_dev372 (d0 : Dev nD) : Nat :=
  let c0_i32_9529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9528 : BitVec 32 := 1#32
  let v6850 : BitVec 32 := Scalar.muli v7 c1_i32_9528
  let v6851 : BitVec 32 := Scalar.addi c0_i32_9529 v6850
  v6851.toNat
def k0_dev373 (d0 : Dev nD) : Nat :=
  let c0_i32_9543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9542 : BitVec 32 := 1#32
  let v6860 : BitVec 32 := Scalar.muli v4 c1_i32_9542
  let v6861 : BitVec 32 := Scalar.addi c0_i32_9543 v6860
  v6861.toNat
def k0_dev374 (d0 : Dev nD) : Nat :=
  let c0_i32_9557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9556 : BitVec 32 := 1#32
  let v6870 : BitVec 32 := Scalar.muli v7 c1_i32_9556
  let v6871 : BitVec 32 := Scalar.addi c0_i32_9557 v6870
  v6871.toNat
def k0_dev375 (d0 : Dev nD) : Nat :=
  let c0_i32_9571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9570 : BitVec 32 := 1#32
  let v6880 : BitVec 32 := Scalar.muli v4 c1_i32_9570
  let v6881 : BitVec 32 := Scalar.addi c0_i32_9571 v6880
  v6881.toNat
def k0_dev376 (d0 : Dev nD) : Nat :=
  let c0_i32_9585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9584 : BitVec 32 := 1#32
  let v6890 : BitVec 32 := Scalar.muli v7 c1_i32_9584
  let v6891 : BitVec 32 := Scalar.addi c0_i32_9585 v6890
  v6891.toNat
def k0_dev377 (d0 : Dev nD) : Nat :=
  let c0_i32_9599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9598 : BitVec 32 := 1#32
  let v6900 : BitVec 32 := Scalar.muli v4 c1_i32_9598
  let v6901 : BitVec 32 := Scalar.addi c0_i32_9599 v6900
  v6901.toNat
def k0_dev378 (d0 : Dev nD) : Nat :=
  let c0_i32_9613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9612 : BitVec 32 := 1#32
  let v6910 : BitVec 32 := Scalar.muli v7 c1_i32_9612
  let v6911 : BitVec 32 := Scalar.addi c0_i32_9613 v6910
  v6911.toNat
def k0_dev379 (d0 : Dev nD) : Nat :=
  let c0_i32_9660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9659 : BitVec 32 := 1#32
  let v6950 : BitVec 32 := Scalar.muli v7 c1_i32_9659
  let v6951 : BitVec 32 := Scalar.addi c0_i32_9660 v6950
  v6951.toNat
def k0_dev380 (d0 : Dev nD) : Nat :=
  let c0_i32_9699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9698 : BitVec 32 := 1#32
  let v6977 : BitVec 32 := Scalar.muli v4 c1_i32_9698
  let v6978 : BitVec 32 := Scalar.addi c0_i32_9699 v6977
  v6978.toNat
def k0_dev381 (d0 : Dev nD) : Nat :=
  let c0_i32_9738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9737 : BitVec 32 := 1#32
  let v7004 : BitVec 32 := Scalar.muli v7 c1_i32_9737
  let v7005 : BitVec 32 := Scalar.addi c0_i32_9738 v7004
  v7005.toNat
def k0_dev382 (d0 : Dev nD) : Nat :=
  let c0_i32_9777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9776 : BitVec 32 := 1#32
  let v7031 : BitVec 32 := Scalar.muli v4 c1_i32_9776
  let v7032 : BitVec 32 := Scalar.addi c0_i32_9777 v7031
  v7032.toNat
def k0_dev383 (d0 : Dev nD) : Nat :=
  let c0_i32_9816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9815 : BitVec 32 := 1#32
  let v7058 : BitVec 32 := Scalar.muli v7 c1_i32_9815
  let v7059 : BitVec 32 := Scalar.addi c0_i32_9816 v7058
  v7059.toNat
def k0_dev384 (d0 : Dev nD) : Nat :=
  let c0_i32_9855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9854 : BitVec 32 := 1#32
  let v7085 : BitVec 32 := Scalar.muli v4 c1_i32_9854
  let v7086 : BitVec 32 := Scalar.addi c0_i32_9855 v7085
  v7086.toNat
def k0_dev385 (d0 : Dev nD) : Nat :=
  let c0_i32_9894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9893 : BitVec 32 := 1#32
  let v7112 : BitVec 32 := Scalar.muli v7 c1_i32_9893
  let v7113 : BitVec 32 := Scalar.addi c0_i32_9894 v7112
  v7113.toNat
def k0_dev386 (d0 : Dev nD) : Nat :=
  let c0_i32_9933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9932 : BitVec 32 := 1#32
  let v7139 : BitVec 32 := Scalar.muli v4 c1_i32_9932
  let v7140 : BitVec 32 := Scalar.addi c0_i32_9933 v7139
  v7140.toNat
def k0_dev387 (d0 : Dev nD) : Nat :=
  let c0_i32_9943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9942 : BitVec 32 := 1#32
  let v7141 : BitVec 32 := Scalar.muli v4 c1_i32_9942
  let v7142 : BitVec 32 := Scalar.addi c0_i32_9943 v7141
  v7142.toNat
def k0_dev388 (d0 : Dev nD) : Nat :=
  let c0_i32_9957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9956 : BitVec 32 := 1#32
  let v7151 : BitVec 32 := Scalar.muli v7 c1_i32_9956
  let v7152 : BitVec 32 := Scalar.addi c0_i32_9957 v7151
  v7152.toNat
def k0_dev389 (d0 : Dev nD) : Nat :=
  let c0_i32_9971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9970 : BitVec 32 := 1#32
  let v7161 : BitVec 32 := Scalar.muli v4 c1_i32_9970
  let v7162 : BitVec 32 := Scalar.addi c0_i32_9971 v7161
  v7162.toNat
def k0_dev390 (d0 : Dev nD) : Nat :=
  let c0_i32_9985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_9984 : BitVec 32 := 1#32
  let v7171 : BitVec 32 := Scalar.muli v7 c1_i32_9984
  let v7172 : BitVec 32 := Scalar.addi c0_i32_9985 v7171
  v7172.toNat
def k0_dev391 (d0 : Dev nD) : Nat :=
  let c0_i32_9999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_9998 : BitVec 32 := 1#32
  let v7181 : BitVec 32 := Scalar.muli v4 c1_i32_9998
  let v7182 : BitVec 32 := Scalar.addi c0_i32_9999 v7181
  v7182.toNat
def k0_dev392 (d0 : Dev nD) : Nat :=
  let c0_i32_10013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10012 : BitVec 32 := 1#32
  let v7191 : BitVec 32 := Scalar.muli v7 c1_i32_10012
  let v7192 : BitVec 32 := Scalar.addi c0_i32_10013 v7191
  v7192.toNat
def k0_dev393 (d0 : Dev nD) : Nat :=
  let c0_i32_10027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10026 : BitVec 32 := 1#32
  let v7201 : BitVec 32 := Scalar.muli v4 c1_i32_10026
  let v7202 : BitVec 32 := Scalar.addi c0_i32_10027 v7201
  v7202.toNat
def k0_dev394 (d0 : Dev nD) : Nat :=
  let c0_i32_10041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10040 : BitVec 32 := 1#32
  let v7211 : BitVec 32 := Scalar.muli v7 c1_i32_10040
  let v7212 : BitVec 32 := Scalar.addi c0_i32_10041 v7211
  v7212.toNat
def k0_dev395 (d0 : Dev nD) : Nat :=
  let c0_i32_10088 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10087 : BitVec 32 := 1#32
  let v7251 : BitVec 32 := Scalar.muli v7 c1_i32_10087
  let v7252 : BitVec 32 := Scalar.addi c0_i32_10088 v7251
  v7252.toNat
def k0_dev396 (d0 : Dev nD) : Nat :=
  let c0_i32_10127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10126 : BitVec 32 := 1#32
  let v7278 : BitVec 32 := Scalar.muli v4 c1_i32_10126
  let v7279 : BitVec 32 := Scalar.addi c0_i32_10127 v7278
  v7279.toNat
def k0_dev397 (d0 : Dev nD) : Nat :=
  let c0_i32_10166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10165 : BitVec 32 := 1#32
  let v7305 : BitVec 32 := Scalar.muli v7 c1_i32_10165
  let v7306 : BitVec 32 := Scalar.addi c0_i32_10166 v7305
  v7306.toNat
def k0_dev398 (d0 : Dev nD) : Nat :=
  let c0_i32_10205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10204 : BitVec 32 := 1#32
  let v7332 : BitVec 32 := Scalar.muli v4 c1_i32_10204
  let v7333 : BitVec 32 := Scalar.addi c0_i32_10205 v7332
  v7333.toNat
def k0_dev399 (d0 : Dev nD) : Nat :=
  let c0_i32_10244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10243 : BitVec 32 := 1#32
  let v7359 : BitVec 32 := Scalar.muli v7 c1_i32_10243
  let v7360 : BitVec 32 := Scalar.addi c0_i32_10244 v7359
  v7360.toNat
def k0_dev400 (d0 : Dev nD) : Nat :=
  let c0_i32_10283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10282 : BitVec 32 := 1#32
  let v7386 : BitVec 32 := Scalar.muli v4 c1_i32_10282
  let v7387 : BitVec 32 := Scalar.addi c0_i32_10283 v7386
  v7387.toNat
def k0_dev401 (d0 : Dev nD) : Nat :=
  let c0_i32_10322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10321 : BitVec 32 := 1#32
  let v7413 : BitVec 32 := Scalar.muli v7 c1_i32_10321
  let v7414 : BitVec 32 := Scalar.addi c0_i32_10322 v7413
  v7414.toNat
def k0_dev402 (d0 : Dev nD) : Nat :=
  let c0_i32_10361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10360 : BitVec 32 := 1#32
  let v7440 : BitVec 32 := Scalar.muli v4 c1_i32_10360
  let v7441 : BitVec 32 := Scalar.addi c0_i32_10361 v7440
  v7441.toNat
def k0_dev403 (d0 : Dev nD) : Nat :=
  let c0_i32_10371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10370 : BitVec 32 := 1#32
  let v7442 : BitVec 32 := Scalar.muli v4 c1_i32_10370
  let v7443 : BitVec 32 := Scalar.addi c0_i32_10371 v7442
  v7443.toNat
def k0_dev404 (d0 : Dev nD) : Nat :=
  let c0_i32_10385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10384 : BitVec 32 := 1#32
  let v7452 : BitVec 32 := Scalar.muli v7 c1_i32_10384
  let v7453 : BitVec 32 := Scalar.addi c0_i32_10385 v7452
  v7453.toNat
def k0_dev405 (d0 : Dev nD) : Nat :=
  let c0_i32_10399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10398 : BitVec 32 := 1#32
  let v7462 : BitVec 32 := Scalar.muli v4 c1_i32_10398
  let v7463 : BitVec 32 := Scalar.addi c0_i32_10399 v7462
  v7463.toNat
def k0_dev406 (d0 : Dev nD) : Nat :=
  let c0_i32_10413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10412 : BitVec 32 := 1#32
  let v7472 : BitVec 32 := Scalar.muli v7 c1_i32_10412
  let v7473 : BitVec 32 := Scalar.addi c0_i32_10413 v7472
  v7473.toNat
def k0_dev407 (d0 : Dev nD) : Nat :=
  let c0_i32_10427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10426 : BitVec 32 := 1#32
  let v7482 : BitVec 32 := Scalar.muli v4 c1_i32_10426
  let v7483 : BitVec 32 := Scalar.addi c0_i32_10427 v7482
  v7483.toNat
def k0_dev408 (d0 : Dev nD) : Nat :=
  let c0_i32_10441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10440 : BitVec 32 := 1#32
  let v7492 : BitVec 32 := Scalar.muli v7 c1_i32_10440
  let v7493 : BitVec 32 := Scalar.addi c0_i32_10441 v7492
  v7493.toNat
def k0_dev409 (d0 : Dev nD) : Nat :=
  let c0_i32_10455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10454 : BitVec 32 := 1#32
  let v7502 : BitVec 32 := Scalar.muli v4 c1_i32_10454
  let v7503 : BitVec 32 := Scalar.addi c0_i32_10455 v7502
  v7503.toNat
def k0_dev410 (d0 : Dev nD) : Nat :=
  let c0_i32_10469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10468 : BitVec 32 := 1#32
  let v7512 : BitVec 32 := Scalar.muli v7 c1_i32_10468
  let v7513 : BitVec 32 := Scalar.addi c0_i32_10469 v7512
  v7513.toNat
def k0_dev411 (d0 : Dev nD) : Nat :=
  let c0_i32_10516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10515 : BitVec 32 := 1#32
  let v7552 : BitVec 32 := Scalar.muli v7 c1_i32_10515
  let v7553 : BitVec 32 := Scalar.addi c0_i32_10516 v7552
  v7553.toNat
def k0_dev412 (d0 : Dev nD) : Nat :=
  let c0_i32_10555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10554 : BitVec 32 := 1#32
  let v7579 : BitVec 32 := Scalar.muli v4 c1_i32_10554
  let v7580 : BitVec 32 := Scalar.addi c0_i32_10555 v7579
  v7580.toNat
def k0_dev413 (d0 : Dev nD) : Nat :=
  let c0_i32_10594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10593 : BitVec 32 := 1#32
  let v7606 : BitVec 32 := Scalar.muli v7 c1_i32_10593
  let v7607 : BitVec 32 := Scalar.addi c0_i32_10594 v7606
  v7607.toNat
def k0_dev414 (d0 : Dev nD) : Nat :=
  let c0_i32_10633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10632 : BitVec 32 := 1#32
  let v7633 : BitVec 32 := Scalar.muli v4 c1_i32_10632
  let v7634 : BitVec 32 := Scalar.addi c0_i32_10633 v7633
  v7634.toNat
def k0_dev415 (d0 : Dev nD) : Nat :=
  let c0_i32_10672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10671 : BitVec 32 := 1#32
  let v7660 : BitVec 32 := Scalar.muli v7 c1_i32_10671
  let v7661 : BitVec 32 := Scalar.addi c0_i32_10672 v7660
  v7661.toNat
def k0_dev416 (d0 : Dev nD) : Nat :=
  let c0_i32_10711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10710 : BitVec 32 := 1#32
  let v7687 : BitVec 32 := Scalar.muli v4 c1_i32_10710
  let v7688 : BitVec 32 := Scalar.addi c0_i32_10711 v7687
  v7688.toNat
def k0_dev417 (d0 : Dev nD) : Nat :=
  let c0_i32_10750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10749 : BitVec 32 := 1#32
  let v7714 : BitVec 32 := Scalar.muli v7 c1_i32_10749
  let v7715 : BitVec 32 := Scalar.addi c0_i32_10750 v7714
  v7715.toNat
def k0_dev418 (d0 : Dev nD) : Nat :=
  let c0_i32_10789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10788 : BitVec 32 := 1#32
  let v7741 : BitVec 32 := Scalar.muli v4 c1_i32_10788
  let v7742 : BitVec 32 := Scalar.addi c0_i32_10789 v7741
  v7742.toNat
def k0_dev419 (d0 : Dev nD) : Nat :=
  let c0_i32_10799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10798 : BitVec 32 := 1#32
  let v7743 : BitVec 32 := Scalar.muli v4 c1_i32_10798
  let v7744 : BitVec 32 := Scalar.addi c0_i32_10799 v7743
  v7744.toNat
def k0_dev420 (d0 : Dev nD) : Nat :=
  let c0_i32_10813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10812 : BitVec 32 := 1#32
  let v7753 : BitVec 32 := Scalar.muli v7 c1_i32_10812
  let v7754 : BitVec 32 := Scalar.addi c0_i32_10813 v7753
  v7754.toNat
def k0_dev421 (d0 : Dev nD) : Nat :=
  let c0_i32_10827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10826 : BitVec 32 := 1#32
  let v7763 : BitVec 32 := Scalar.muli v4 c1_i32_10826
  let v7764 : BitVec 32 := Scalar.addi c0_i32_10827 v7763
  v7764.toNat
def k0_dev422 (d0 : Dev nD) : Nat :=
  let c0_i32_10841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10840 : BitVec 32 := 1#32
  let v7773 : BitVec 32 := Scalar.muli v7 c1_i32_10840
  let v7774 : BitVec 32 := Scalar.addi c0_i32_10841 v7773
  v7774.toNat
def k0_dev423 (d0 : Dev nD) : Nat :=
  let c0_i32_10855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10854 : BitVec 32 := 1#32
  let v7783 : BitVec 32 := Scalar.muli v4 c1_i32_10854
  let v7784 : BitVec 32 := Scalar.addi c0_i32_10855 v7783
  v7784.toNat
def k0_dev424 (d0 : Dev nD) : Nat :=
  let c0_i32_10869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10868 : BitVec 32 := 1#32
  let v7793 : BitVec 32 := Scalar.muli v7 c1_i32_10868
  let v7794 : BitVec 32 := Scalar.addi c0_i32_10869 v7793
  v7794.toNat
def k0_dev425 (d0 : Dev nD) : Nat :=
  let c0_i32_10883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10882 : BitVec 32 := 1#32
  let v7803 : BitVec 32 := Scalar.muli v4 c1_i32_10882
  let v7804 : BitVec 32 := Scalar.addi c0_i32_10883 v7803
  v7804.toNat
def k0_dev426 (d0 : Dev nD) : Nat :=
  let c0_i32_10897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10896 : BitVec 32 := 1#32
  let v7813 : BitVec 32 := Scalar.muli v7 c1_i32_10896
  let v7814 : BitVec 32 := Scalar.addi c0_i32_10897 v7813
  v7814.toNat
def k0_dev427 (d0 : Dev nD) : Nat :=
  let c0_i32_10944 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_10943 : BitVec 32 := 1#32
  let v7853 : BitVec 32 := Scalar.muli v7 c1_i32_10943
  let v7854 : BitVec 32 := Scalar.addi c0_i32_10944 v7853
  v7854.toNat
def k0_dev428 (d0 : Dev nD) : Nat :=
  let c0_i32_10983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_10982 : BitVec 32 := 1#32
  let v7880 : BitVec 32 := Scalar.muli v4 c1_i32_10982
  let v7881 : BitVec 32 := Scalar.addi c0_i32_10983 v7880
  v7881.toNat
def k0_dev429 (d0 : Dev nD) : Nat :=
  let c0_i32_11022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_11021 : BitVec 32 := 1#32
  let v7907 : BitVec 32 := Scalar.muli v7 c1_i32_11021
  let v7908 : BitVec 32 := Scalar.addi c0_i32_11022 v7907
  v7908.toNat
def k0_dev430 (d0 : Dev nD) : Nat :=
  let c0_i32_11061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_11060 : BitVec 32 := 1#32
  let v7934 : BitVec 32 := Scalar.muli v4 c1_i32_11060
  let v7935 : BitVec 32 := Scalar.addi c0_i32_11061 v7934
  v7935.toNat
def k0_dev431 (d0 : Dev nD) : Nat :=
  let c0_i32_11100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_11099 : BitVec 32 := 1#32
  let v7961 : BitVec 32 := Scalar.muli v7 c1_i32_11099
  let v7962 : BitVec 32 := Scalar.addi c0_i32_11100 v7961
  v7962.toNat
def k0_dev432 (d0 : Dev nD) : Nat :=
  let c0_i32_11139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_11138 : BitVec 32 := 1#32
  let v7988 : BitVec 32 := Scalar.muli v4 c1_i32_11138
  let v7989 : BitVec 32 := Scalar.addi c0_i32_11139 v7988
  v7989.toNat
def k0_dev433 (d0 : Dev nD) : Nat :=
  let c0_i32_11178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_11177 : BitVec 32 := 1#32
  let v8015 : BitVec 32 := Scalar.muli v7 c1_i32_11177
  let v8016 : BitVec 32 := Scalar.addi c0_i32_11178 v8015
  v8016.toNat
def k0_dev434 (d0 : Dev nD) : Nat :=
  let c0_i32_11217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_11216 : BitVec 32 := 1#32
  let v8042 : BitVec 32 := Scalar.muli v4 c1_i32_11216
  let v8043 : BitVec 32 := Scalar.addi c0_i32_11217 v8042
  v8043.toNat
def k0_dev435 (d0 : Dev nD) : Nat :=
  let c0_i32_11227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_11226 : BitVec 32 := 1#32
  let v8044 : BitVec 32 := Scalar.muli v4 c1_i32_11226
  let v8045 : BitVec 32 := Scalar.addi c0_i32_11227 v8044
  v8045.toNat
def k0_dev436 (d0 : Dev nD) : Nat :=
  let c0_i32_11241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_11240 : BitVec 32 := 1#32
  let v8054 : BitVec 32 := Scalar.muli v7 c1_i32_11240
  let v8055 : BitVec 32 := Scalar.addi c0_i32_11241 v8054
  v8055.toNat
def k0_dev437 (d0 : Dev nD) : Nat :=
  let c0_i32_11255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_11254 : BitVec 32 := 1#32
  let v8064 : BitVec 32 := Scalar.muli v4 c1_i32_11254
  let v8065 : BitVec 32 := Scalar.addi c0_i32_11255 v8064
  v8065.toNat
def k0_dev438 (d0 : Dev nD) : Nat :=
  let c0_i32_11269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_11268 : BitVec 32 := 1#32
  let v8074 : BitVec 32 := Scalar.muli v7 c1_i32_11268
  let v8075 : BitVec 32 := Scalar.addi c0_i32_11269 v8074
  v8075.toNat
def k0_dev439 (d0 : Dev nD) : Nat :=
  let c0_i32_11283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_11282 : BitVec 32 := 1#32
  let v8084 : BitVec 32 := Scalar.muli v4 c1_i32_11282
  let v8085 : BitVec 32 := Scalar.addi c0_i32_11283 v8084
  v8085.toNat
def k0_dev440 (d0 : Dev nD) : Nat :=
  let c0_i32_11297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_11296 : BitVec 32 := 1#32
  let v8094 : BitVec 32 := Scalar.muli v7 c1_i32_11296
  let v8095 : BitVec 32 := Scalar.addi c0_i32_11297 v8094
  v8095.toNat
def k0_dev441 (d0 : Dev nD) : Nat :=
  let c0_i32_11311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_11310 : BitVec 32 := 1#32
  let v8104 : BitVec 32 := Scalar.muli v4 c1_i32_11310
  let v8105 : BitVec 32 := Scalar.addi c0_i32_11311 v8104
  v8105.toNat
def k0_dev442 (d0 : Dev nD) : Nat :=
  let c0_i32_11325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_11324 : BitVec 32 := 1#32
  let v8114 : BitVec 32 := Scalar.muli v7 c1_i32_11324
  let v8115 : BitVec 32 := Scalar.addi c0_i32_11325 v8114
  v8115.toNat
def k0_dev443 (d0 : Dev nD) : Nat :=
  let c0_i32_11372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_11371 : BitVec 32 := 1#32
  let v8154 : BitVec 32 := Scalar.muli v7 c1_i32_11371
  let v8155 : BitVec 32 := Scalar.addi c0_i32_11372 v8154
  v8155.toNat
def k0_dev444 (d0 : Dev nD) : Nat :=
  let c0_i32_11411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_11410 : BitVec 32 := 1#32
  let v8181 : BitVec 32 := Scalar.muli v4 c1_i32_11410
  let v8182 : BitVec 32 := Scalar.addi c0_i32_11411 v8181
  v8182.toNat
def k0_dev445 (d0 : Dev nD) : Nat :=
  let c0_i32_11450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_11449 : BitVec 32 := 1#32
  let v8208 : BitVec 32 := Scalar.muli v7 c1_i32_11449
  let v8209 : BitVec 32 := Scalar.addi c0_i32_11450 v8208
  v8209.toNat
def k0_dev446 (d0 : Dev nD) : Nat :=
  let c0_i32_11489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_11488 : BitVec 32 := 1#32
  let v8235 : BitVec 32 := Scalar.muli v4 c1_i32_11488
  let v8236 : BitVec 32 := Scalar.addi c0_i32_11489 v8235
  v8236.toNat
def k0_dev447 (d0 : Dev nD) : Nat :=
  let c0_i32_11528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_11527 : BitVec 32 := 1#32
  let v8262 : BitVec 32 := Scalar.muli v7 c1_i32_11527
  let v8263 : BitVec 32 := Scalar.addi c0_i32_11528 v8262
  v8263.toNat
def k0_dev448 (d0 : Dev nD) : Nat :=
  let c0_i32_11567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_11566 : BitVec 32 := 1#32
  let v8289 : BitVec 32 := Scalar.muli v4 c1_i32_11566
  let v8290 : BitVec 32 := Scalar.addi c0_i32_11567 v8289
  v8290.toNat
def k0_dev449 (d0 : Dev nD) : Nat :=
  let c0_i32_11606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_11605 : BitVec 32 := 1#32
  let v8316 : BitVec 32 := Scalar.muli v7 c1_i32_11605
  let v8317 : BitVec 32 := Scalar.addi c0_i32_11606 v8316
  v8317.toNat
def k0_dev450 (d0 : Dev nD) : Nat :=
  let c0_i32_11645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_11644 : BitVec 32 := 1#32
  let v8343 : BitVec 32 := Scalar.muli v4 c1_i32_11644
  let v8344 : BitVec 32 := Scalar.addi c0_i32_11645 v8343
  v8344.toNat
def k0_dev451 (d0 : Dev nD) : Nat :=
  let c0_i32_11655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_11654 : BitVec 32 := 1#32
  let v8345 : BitVec 32 := Scalar.muli v4 c1_i32_11654
  let v8346 : BitVec 32 := Scalar.addi c0_i32_11655 v8345
  v8346.toNat
def k0_dev452 (d0 : Dev nD) : Nat :=
  let c0_i32_11669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_11668 : BitVec 32 := 1#32
  let v8355 : BitVec 32 := Scalar.muli v7 c1_i32_11668
  let v8356 : BitVec 32 := Scalar.addi c0_i32_11669 v8355
  v8356.toNat
def k0_dev453 (d0 : Dev nD) : Nat :=
  let c0_i32_11683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_11682 : BitVec 32 := 1#32
  let v8365 : BitVec 32 := Scalar.muli v4 c1_i32_11682
  let v8366 : BitVec 32 := Scalar.addi c0_i32_11683 v8365
  v8366.toNat
def k0_dev454 (d0 : Dev nD) : Nat :=
  let c0_i32_11697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_11696 : BitVec 32 := 1#32
  let v8375 : BitVec 32 := Scalar.muli v7 c1_i32_11696
  let v8376 : BitVec 32 := Scalar.addi c0_i32_11697 v8375
  v8376.toNat
def k0_dev455 (d0 : Dev nD) : Nat :=
  let c0_i32_11711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_11710 : BitVec 32 := 1#32
  let v8385 : BitVec 32 := Scalar.muli v4 c1_i32_11710
  let v8386 : BitVec 32 := Scalar.addi c0_i32_11711 v8385
  v8386.toNat
def k0_dev456 (d0 : Dev nD) : Nat :=
  let c0_i32_11725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_11724 : BitVec 32 := 1#32
  let v8395 : BitVec 32 := Scalar.muli v7 c1_i32_11724
  let v8396 : BitVec 32 := Scalar.addi c0_i32_11725 v8395
  v8396.toNat
def k0_dev457 (d0 : Dev nD) : Nat :=
  let c0_i32_11739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_11738 : BitVec 32 := 1#32
  let v8405 : BitVec 32 := Scalar.muli v4 c1_i32_11738
  let v8406 : BitVec 32 := Scalar.addi c0_i32_11739 v8405
  v8406.toNat
def k0_dev458 (d0 : Dev nD) : Nat :=
  let c0_i32_11753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_11752 : BitVec 32 := 1#32
  let v8415 : BitVec 32 := Scalar.muli v7 c1_i32_11752
  let v8416 : BitVec 32 := Scalar.addi c0_i32_11753 v8415
  v8416.toNat
def k0_dev459 (d0 : Dev nD) : Nat :=
  let c0_i32_11800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_11799 : BitVec 32 := 1#32
  let v8455 : BitVec 32 := Scalar.muli v7 c1_i32_11799
  let v8456 : BitVec 32 := Scalar.addi c0_i32_11800 v8455
  v8456.toNat
def k0_dev460 (d0 : Dev nD) : Nat :=
  let c0_i32_11839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_11838 : BitVec 32 := 1#32
  let v8482 : BitVec 32 := Scalar.muli v4 c1_i32_11838
  let v8483 : BitVec 32 := Scalar.addi c0_i32_11839 v8482
  v8483.toNat
def k0_dev461 (d0 : Dev nD) : Nat :=
  let c0_i32_11878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_11877 : BitVec 32 := 1#32
  let v8509 : BitVec 32 := Scalar.muli v7 c1_i32_11877
  let v8510 : BitVec 32 := Scalar.addi c0_i32_11878 v8509
  v8510.toNat
def k0_dev462 (d0 : Dev nD) : Nat :=
  let c0_i32_11917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_11916 : BitVec 32 := 1#32
  let v8536 : BitVec 32 := Scalar.muli v4 c1_i32_11916
  let v8537 : BitVec 32 := Scalar.addi c0_i32_11917 v8536
  v8537.toNat
def k0_dev463 (d0 : Dev nD) : Nat :=
  let c0_i32_11956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_11955 : BitVec 32 := 1#32
  let v8563 : BitVec 32 := Scalar.muli v7 c1_i32_11955
  let v8564 : BitVec 32 := Scalar.addi c0_i32_11956 v8563
  v8564.toNat
def k0_dev464 (d0 : Dev nD) : Nat :=
  let c0_i32_11995 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_11994 : BitVec 32 := 1#32
  let v8590 : BitVec 32 := Scalar.muli v4 c1_i32_11994
  let v8591 : BitVec 32 := Scalar.addi c0_i32_11995 v8590
  v8591.toNat
def k0_dev465 (d0 : Dev nD) : Nat :=
  let c0_i32_12034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_12033 : BitVec 32 := 1#32
  let v8617 : BitVec 32 := Scalar.muli v7 c1_i32_12033
  let v8618 : BitVec 32 := Scalar.addi c0_i32_12034 v8617
  v8618.toNat
def k0_dev466 (d0 : Dev nD) : Nat :=
  let c0_i32_12073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_12072 : BitVec 32 := 1#32
  let v8644 : BitVec 32 := Scalar.muli v4 c1_i32_12072
  let v8645 : BitVec 32 := Scalar.addi c0_i32_12073 v8644
  v8645.toNat
def k0_dev467 (d0 : Dev nD) : Nat :=
  let c0_i32_12083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_12082 : BitVec 32 := 1#32
  let v8646 : BitVec 32 := Scalar.muli v4 c1_i32_12082
  let v8647 : BitVec 32 := Scalar.addi c0_i32_12083 v8646
  v8647.toNat
def k0_dev468 (d0 : Dev nD) : Nat :=
  let c0_i32_12097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_12096 : BitVec 32 := 1#32
  let v8656 : BitVec 32 := Scalar.muli v7 c1_i32_12096
  let v8657 : BitVec 32 := Scalar.addi c0_i32_12097 v8656
  v8657.toNat
def k0_dev469 (d0 : Dev nD) : Nat :=
  let c0_i32_12111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_12110 : BitVec 32 := 1#32
  let v8666 : BitVec 32 := Scalar.muli v4 c1_i32_12110
  let v8667 : BitVec 32 := Scalar.addi c0_i32_12111 v8666
  v8667.toNat
def k0_dev470 (d0 : Dev nD) : Nat :=
  let c0_i32_12125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_12124 : BitVec 32 := 1#32
  let v8676 : BitVec 32 := Scalar.muli v7 c1_i32_12124
  let v8677 : BitVec 32 := Scalar.addi c0_i32_12125 v8676
  v8677.toNat
def k0_dev471 (d0 : Dev nD) : Nat :=
  let c0_i32_12139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_12138 : BitVec 32 := 1#32
  let v8686 : BitVec 32 := Scalar.muli v4 c1_i32_12138
  let v8687 : BitVec 32 := Scalar.addi c0_i32_12139 v8686
  v8687.toNat
def k0_dev472 (d0 : Dev nD) : Nat :=
  let c0_i32_12153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_12152 : BitVec 32 := 1#32
  let v8696 : BitVec 32 := Scalar.muli v7 c1_i32_12152
  let v8697 : BitVec 32 := Scalar.addi c0_i32_12153 v8696
  v8697.toNat
def k0_dev473 (d0 : Dev nD) : Nat :=
  let c0_i32_12167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_12166 : BitVec 32 := 1#32
  let v8706 : BitVec 32 := Scalar.muli v4 c1_i32_12166
  let v8707 : BitVec 32 := Scalar.addi c0_i32_12167 v8706
  v8707.toNat
def k0_dev474 (d0 : Dev nD) : Nat :=
  let c0_i32_12181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_12180 : BitVec 32 := 1#32
  let v8716 : BitVec 32 := Scalar.muli v7 c1_i32_12180
  let v8717 : BitVec 32 := Scalar.addi c0_i32_12181 v8716
  v8717.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Model.lean ====
/- The kernel's body written once for every lane and every step. A LANE is a direction of the ring and one of its
   four column blocks; each lane's slots, semaphores and copies are the same program at other names. This file gives
   that program as operations followed by a continuation, and shows the printed body is it. -/
module

public import proofs.«01_k».proof.Proof.Gen.KernelIdeal
public import Idealize.ShloMosaic.Lib.Pipeline.Regions

@[expose] public section

noncomputable section

namespace Cert.Ring

open Idealize.ShloMosaic Idealize.ShloMosaic.TcCoe
open Idealize.SL.Sem
open Cert.KernelIdeal Cert.KernelIdeal.Facts Cert.KernelIdeal.Facts₀

variable {F : FTy → Type} [FloatOps F]

/-- A program of the TensorCore that returns nothing. -/
abbrev Pg (F : FTy → Type) [FloatOps F] : Type 1 := Prog (TpuEff nD τ sig (Elt F) Λ₀ .tc) PUnit

/-- A lane: the direction (`false` the chunks that move to the right, `true` those that move to the left) and the
    column block. -/
abbrev Lane : Type := Bool × Fin 4

/-- The lanes in the order in which the body visits them. -/
def lanes : List Lane := [(false, 0), (true, 0), (false, 1), (true, 1), (false, 2), (true, 2), (false, 3), (true, 3)]

/-- The lanes in the order in which the last copies are awaited. -/
def lanesOut : List Lane := [(false, 0), (false, 1), (false, 2), (false, 3), (true, 0), (true, 1), (true, 2), (true, 3)]

/-- The slot a step reads: the parity of the step. -/
def par (k : ℕ) : Fin 2 := ⟨k % 2, Nat.mod_lt _ (by decide)⟩

/-! ## The operands -/

/-- A direction's pair of slots, each four blocks. -/
def bufM (d : Bool) : Memref sig .tc .vmem S2x4x256x1024 .f32 := match d with
  | false => Memref.whole cc0_scratch0
  | true => Memref.whole cc0_scratch1

theorem inb_slot (s : Fin 2) (j : Fin 4) :
    ∀ a, (![(s : ℕ), (j : ℕ), 0, 0] : Fin 4 → ℕ) a + S1x1x256x1024.size a ≤ S2x4x256x1024.size a := by
  revert s j; decide

/-- The rectangle of slot `s`, block `j` in a direction's buffer. -/
def slotR (s : Fin 2) (j : Fin 4) : Rect S2x4x256x1024 :=
  Rect.unit (s := S2x4x256x1024) ![(s : ℕ), (j : ℕ), 0, 0] S1x1x256x1024.size (inb_slot s j)

/-- Slot `s`, block `j` as the 256 by 1024 array the copies move. -/
def slotM (d : Bool) (s : Fin 2) (j : Fin 4) : Memref sig .tc .vmem S256x1024 .f32 :=
  ((bufM d).slice (Rect.unit (s := S2x4x256x1024) ![(s : ℕ), (j : ℕ), 0, 0] S1x1x256x1024.size (inb_slot s j))
    (fun _ => rfl)).squeeze S256x1024 squeezes_S1x1x256x1024_S256x1024

theorem inb_sem8 (s : Fin 2) (j : Fin 4) : ∀ a, (![(s : ℕ) * 4 + (j : ℕ)] : Fin 1 → ℕ) a + S1.size a ≤ S8.size a := by
  revert s j; decide

theorem inb_sem4 (j : Fin 4) : ∀ a, (![(j : ℕ)] : Fin 1 → ℕ) a + S1.size a ≤ S4.size a := by
  revert j; decide

/-- The semaphore of slot `s`, block `j` in an array of eight. -/
def semAt (A : DmaSems sig S8) (s : Fin 2) (j : Fin 4) : DmaSem sig :=
  ((A.slice (Rect.unit (s := S8) ![(s : ℕ) * 4 + (j : ℕ)] S1.size (inb_sem8 s j))).squeeze S_ squeezes_S1_S_).sem

/-- The semaphore of block `j` in an array of four. -/
def semOf (A : DmaSems sig S4) (j : Fin 4) : DmaSem sig :=
  ((A.slice (Rect.unit (s := S4) ![(j : ℕ)] S1.size (inb_sem4 j))).squeeze S_ squeezes_S1_S_).sem

/-- A direction's send semaphores. -/
def sendA (d : Bool) : DmaSems sig S8 := match d with
  | false => cc0_scratch2
  | true => cc0_scratch4

/-- A direction's receive semaphores. -/
def recvA (d : Bool) : DmaSems sig S8 := match d with
  | false => cc0_scratch3
  | true => cc0_scratch5

/-- A direction's semaphores for the copies into the result. -/
def outA (d : Bool) : DmaSems sig S4 := match d with
  | false => cc0_scratch14
  | true => cc0_scratch15

/-- A lane's credit semaphore. -/
def credS (d : Bool) (j : Fin 4) : Sem sig := match d, j with
  | false, 0 => (cc0_scratch6).sem
  | false, 1 => (cc0_scratch7).sem
  | false, 2 => (cc0_scratch8).sem
  | false, 3 => (cc0_scratch9).sem
  | true, 0 => (cc0_scratch10).sem
  | true, 1 => (cc0_scratch11).sem
  | true, 2 => (cc0_scratch12).sem
  | true, 3 => (cc0_scratch13).sem

/-! ## The pure values -/

/-- The first column of a lane's block in the result. -/
def colOf (d : Bool) (j : Fin 4) : ℕ := (bif d then 4096 else 0) + (j : ℕ) * 1024

/-- The product of a chunk's rows by half of the weights' columns. -/
def prodP (vx : Vec F S256x256 .f32) (vw : Vec F S256x4096 .f32) : FVec F S256x4096 .f32 :=
  matmul dot_S256x256_S256x4096_S256x4096_1_0_0_1_n_n none (shapeCast S256x256 vx shapeCasts_S256x256_S256x256)
    (shapeCast S256x4096 vw shapeCasts_S256x4096_S256x4096) (constant S256x4096 .f32 0x00000000#32)

theorem slices_col (j : Fin 4) : S256x4096.Slices ![0, (j : ℕ) * 1024] S256x1024 := by
  revert j; decide

/-- A block of a product's columns. -/
def cols (j : Fin 4) (P : FVec F S256x4096 .f32) : FVec F S256x1024 .f32 :=
  extractStridedSlice S256x1024 ![0, (j : ℕ) * 1024] P (slices_col j)

/-- A block as the slot holds it. -/
def up4 (v : FVec F S256x1024 .f32) : FVec F S1x1x256x1024 .f32 :=
  shapeCast S1x1x256x1024 v shapeCasts_S256x1024_S1x1x256x1024

/-- What a slot holds, as a block. -/
def down4 (v : Vec F S1x1x256x1024 .f32) : FVec F S256x1024 .f32 :=
  shapeCast S256x1024 v shapeCasts_S1x1x256x1024_S256x1024

/-- The activation, entry by entry. -/
def siluP (v : FVec F S256x1024 .f32) : FVec F S256x1024 .f32 :=
  divf v (addf (broadcast S256x1024 (Scalar.ofBits .f32 0x3F800000#32))
    (exp (subf (broadcast S256x1024 (Scalar.ofBits .f32 0x00000000#32))
      (minimumf (broadcast S256x1024 (Scalar.ofBits .f32 0x42700000#32))
        (maximumf (broadcast S256x1024 (Scalar.ofBits .f32 0xC2700000#32)) v)))))

/-- A device's way around the ring, as the body computes it: its neighbours and the rows at which its chunks start.
    `row d 0` is its own chunk, `row d (k + 1)` the chunk of step `k`. -/
structure Way where
  /-- The next device in a direction. -/
  next : Bool → Dev nD
  /-- The first row of the chunk. -/
  row : Bool → ℕ → ℕ
  /-- A chunk lies in the operand. -/
  row_le : ∀ d k, row d k + 256 ≤ 4096

theorem Way.inbX (W : Way) (d : Bool) (k : ℕ) : ∀ a, (![W.row d k, 0] : Fin 2 → ℕ) a + S256x256.size a ≤ S4096x256.size a := by
  intro a
  have h := W.row_le d k
  match a with
  | 0 => exact h
  | 1 => exact (by decide : 0 + 256 ≤ 256)

theorem colOf_le (d : Bool) (j : Fin 4) : colOf d j + 1024 ≤ 8192 := by revert d j; decide

theorem Way.inbO (W : Way) (d : Bool) (j : Fin 4) (k : ℕ) :
    ∀ a, (![W.row d k, colOf d j] : Fin 2 → ℕ) a + S256x1024.size a ≤ S4096x8192.size a := by
  intro a
  have h := W.row_le d k
  match a with
  | 0 => exact h
  | 1 => exact colOf_le d j

/-- The block of the result a lane writes with the chunk of row index `k`. -/
def outM (W : Way) (d : Bool) (j : Fin 4) (k : ℕ) : Memref sig .tc .hbm S256x1024 .f32 :=
  (Memref.whole main_v1).slice (Rect.unit (s := S4096x8192) ![W.row d k, colOf d j] S256x1024.size (W.inbO d j k)) (fun _ => rfl)

/-! ## The operations -/

/-- The two products of a step, handed on by direction. -/
def prods (W : Way) (k : ℕ) (K : (Bool → FVec F S256x4096 .f32) → Pg F) : Pg F :=
  .op (.load (Memref.whole cc0_stg0_0 : Memref sig .tc .vmem S4096x256 .f32)
    (Rect.unit (s := S4096x256) ![W.row false k, 0] S256x256.size (W.inbX false k)).toLoadRect (View.loadsAt_vmem h_S256x256)) fun vx =>
  .op (.load (Memref.whole cc0_stg1_0 : Memref sig .tc .vmem S256x8192 .f32)
    (Rect.unit (s := S256x8192) ![0, 0] S256x4096.size inb_S256x8192_S256x4096_0_0).toLoadRect (View.loadsAt_vmem h_S256x4096)) fun vw =>
  .op (.load (Memref.whole cc0_stg0_0 : Memref sig .tc .vmem S4096x256 .f32)
    (Rect.unit (s := S4096x256) ![W.row true k, 0] S256x256.size (W.inbX true k)).toLoadRect (View.loadsAt_vmem h_S256x256)) fun vx' =>
  .op (.load (Memref.whole cc0_stg1_0 : Memref sig .tc .vmem S256x8192 .f32)
    (Rect.unit (s := S256x8192) ![0, 4096] S256x4096.size inb_S256x8192_S256x4096_0_4096).toLoadRect (View.loadsAt_vmem h_S256x4096)) fun vw' =>
  K (fun d => match d with | false => prodP vx vw | true => prodP vx' vw')

/-- Read a slot. -/
def loadSlot (d : Bool) (s : Fin 2) (j : Fin 4) (K : Vec F S1x1x256x1024 .f32 → Pg F) : Pg F :=
  .op (.load (bufM d) (Rect.unit (s := S2x4x256x1024) ![(s : ℕ), (j : ℕ), 0, 0] S1x1x256x1024.size (inb_slot s j)).toLoadRect
    (View.loadsAt_vmem h_S1x1x256x1024)) K

/-- Write a slot. -/
def storeSlot (d : Bool) (s : Fin 2) (j : Fin 4) (v : FVec F S1x1x256x1024 .f32) (K : Pg F) : Pg F :=
  .op (.store (bufM d) (Rect.unit (s := S2x4x256x1024) ![(s : ℕ), (j : ℕ), 0, 0] S1x1x256x1024.size (inb_slot s j)) v Finset.univ
    (View.stores_vmem_bits_univ h_S1x1x256x1024 rfl) (.inl rfl)) fun _ => K

/-- Fill a lane's first slot with its block of the device's own product. -/
def fillL (P : Bool → FVec F S256x4096 .f32) (l : Lane) (K : Pg F) : Pg F :=
  loadSlot l.1 0 l.2 fun _ => storeSlot l.1 0 l.2 (up4 (cols l.2 (P l.1))) K

/-- Copy one block onto another of device `n`. -/
def remoteP (n : Dev nD) (src dst : Memref sig .tc .vmem S256x1024 .f32) (ss rs : DmaSem sig) (K : Pg F) : Pg F :=
  .op (.enqueueDma src (.remote (Dev.tc n) dst (.dma ss)) (.dma rs) (View.wordExact_bits rfl) (View.wordExact_bits rfl)
    ⟨⟨rfl, Or.inl rfl⟩, trivial⟩) fun _ => K

/-- Copy a block into the result. -/
def hereP (src : Memref sig .tc .vmem S256x1024 .f32) (dst : Memref sig .tc .hbm S256x1024 .f32) (s : DmaSem sig) (K : Pg F) : Pg F :=
  .op (.enqueueDma src (.here dst) (.dma s) (View.wordExact_bits rfl) (View.wordExact_bits rfl) ⟨Or.inl rfl, trivial⟩) fun _ => K

/-- Send a lane's slot of step `k` on. -/
def enqL (W : Way) (k : ℕ) (l : Lane) (K : Pg F) : Pg F :=
  remoteP (W.next l.1) (slotM l.1 (par k) l.2) (slotM l.1 (par (k + 1)) l.2) (semAt (sendA l.1) (par k) l.2)
    (semAt (recvA l.1) (par (k + 1)) l.2) K

/-- A lane's send of step `k`: after the first step a credit is awaited before it. -/
def sendL (W : Way) (k : ℕ) (l : Lane) (K : Pg F) : Pg F := match k with
  | 0 => enqL W 0 l K
  | k + 1 => .op (.semWait (credS l.1 l.2) (1#32).toInt) fun _ => enqL W (k + 1) l K

/-- Wait for the lane's block of step `k` to arrive. -/
def waitRecv (k : ℕ) (l : Lane) (K : Pg F) : Pg F :=
  .op (.waitDma2 (semAt (recvA l.1) (par (k + 1)) l.2) (slotM l.1 (par k) l.2) (slotM l.1 (par (k + 1)) l.2)
    (View.wordExact_bits rfl) (View.wordExact_bits rfl)) fun _ => K

/-- Wait for the lane's slot of step `k` to have been read. -/
def waitSend (k : ℕ) (l : Lane) (K : Pg F) : Pg F :=
  .op (.waitDma2 (semAt (sendA l.1) (par k) l.2) (slotM l.1 (par (k + 1)) l.2) (slotM l.1 (par k) l.2)
    (View.wordExact_bits rfl) (View.wordExact_bits rfl)) fun _ => K

/-- Start the copy of the lane's block of step `k` into the result. -/
def putOut (W : Way) (k : ℕ) (l : Lane) (K : Pg F) : Pg F :=
  hereP (slotM l.1 (par (k + 1)) l.2) (outM W l.1 l.2 (k + 1)) (semOf (outA l.1) l.2) K

/-- Wait for the copy of the lane's block of step `k` into the result. -/
def waitOut (W : Way) (k : ℕ) (l : Lane) (K : Pg F) : Pg F :=
  .op (.waitDma2 (semOf (outA l.1) l.2) (slotM l.1 (par (k + 1)) l.2) (outM W l.1 l.2 (k + 1))
    (View.wordExact_bits rfl) (View.wordExact_bits rfl)) fun _ => K

/-- Hand the lane's upstream device a credit. -/
def credUp (W : Way) (l : Lane) (K : Pg F) : Pg F :=
  .op (.semSignal ((W.next (!l.1)), .tc) (credS l.1 l.2) (1#32).toInt) fun _ => K

/-- The end of a lane's step: its own slot is free again, and the upstream device is told so unless this is the last
    step. -/
def endL (W : Way) (k : ℕ) (l : Lane) (K : Pg F) : Pg F :=
  waitSend k l (bif Nat.blt k 29 then credUp W l K else K)

/-- A lane's arrival in a step of the summing half before the last: the block is added to. -/
def recvAdd (W : Way) (k : ℕ) (P : Bool → FVec F S256x4096 .f32) (l : Lane) (K : Pg F) : Pg F :=
  waitRecv k l (loadSlot l.1 (par (k + 1)) l.2 fun v => loadSlot l.1 (par (k + 1)) l.2 fun _ =>
    storeSlot l.1 (par (k + 1)) l.2 (up4 (addf (down4 v) (cols l.2 (P l.1)))) (endL W k l K))

/-- A lane's arrival in the last summing step: the sum is completed, activated and copied out. -/
def recvAct (W : Way) (k : ℕ) (P : Bool → FVec F S256x4096 .f32) (l : Lane) (K : Pg F) : Pg F :=
  waitRecv k l (loadSlot l.1 (par (k + 1)) l.2 fun v => loadSlot l.1 (par (k + 1)) l.2 fun _ =>
    storeSlot l.1 (par (k + 1)) l.2 (up4 (siluP (addf (down4 v) (cols l.2 (P l.1))))) (putOut W k l (endL W k l K)))

/-- A lane's arrival in a gathering step: the copy out before is awaited and the next one started. -/
def recvPass (W : Way) (k : ℕ) (l : Lane) (K : Pg F) : Pg F :=
  waitRecv k l (waitOut W (k - 1) l (putOut W k l (endL W k l K)))

/-- Run something for each of a list of lanes in turn. -/
def each (f : Lane → Pg F → Pg F) : List Lane → Pg F → Pg F
  | [], K => K
  | l :: ls, K => f l (each f ls K)

/-- One step of the ring. -/
def stepP (W : Way) (k : ℕ) (K : Pg F) : Pg F :=
  each (sendL W k) lanes <|
    bif Nat.blt k 14 then prods W (k + 1) fun P => each (recvAdd W k P) lanes K
    else bif Nat.blt k 15 then prods W (k + 1) fun P => each (recvAct W k P) lanes K
    else each (recvPass W k) lanes K

/-- The steps from `k` on, `n` of them. -/
def stepsP (W : Way) : ℕ → ℕ → Pg F → Pg F
  | 0, _, K => K
  | n + 1, k, K => stepP W k (stepsP W n (k + 1) K)

/-- The barrier: each neighbour is told, and both are awaited. -/
def barrierP (W : Way) (K : Pg F) : Pg F :=
  .op (.semSignal ((W.next true), .tc) (sig.barrier 0 rfl) (1#32).toInt) fun _ =>
  .op (.semSignal ((W.next false), .tc) (sig.barrier 0 rfl) (1#32).toInt) fun _ =>
  .op (.semWait (sig.barrier 0 rfl) (2#32).toInt) fun _ => K

/-- The body after the device has been read. -/
def ringP (W : Way) : Pg F :=
  barrierP W <| prods W 0 fun P => each (fillL P) lanes <| stepsP W 30 0 <| each (waitOut W 29) lanesOut <| .ret ⟨⟩

/-! ## The printed body is this program -/

/-- The device's number as the body computes it. -/
def meW (c : Dev nD) : BitVec 32 := Scalar.remsi (Scalar.divsi (Dev.word c) 1#32) 16#32

/-- A chunk's number as the body computes it. -/
def chunkW (c : Dev nD) (d : Bool) : ℕ → BitVec 32
  | 0 => meW c
  | k + 1 => match d with
    | false => Scalar.remsi (Scalar.addi (Scalar.subi (meW c) (BitVec.ofNat 32 (k + 1))) 32#32) 16#32
    | true => Scalar.remsi (Scalar.addi (meW c) (BitVec.ofNat 32 (k + 1))) 16#32

/-- The row at which it starts. -/
def rowW (c : Dev nD) (d : Bool) (k : ℕ) : ℕ := (Scalar.muli (chunkW c d k) 256#32).toNat

/-- The chunk of row index `k` on device `c`: the directions count away from the device's own chunk. -/
def chunkN (c : Dev nD) (d : Bool) (k : ℕ) : ℕ := match d with
  | false => ((c : ℕ) + 32 - k) % 16
  | true => ((c : ℕ) + k) % 16

/-- The row the body computes is that of the chunk. -/
theorem rowW_eq (c : Dev nD) (d : Bool) (k : ℕ) (hk : k ≤ 30) : rowW c d k = 256 * chunkN c d k := by
  have h : ∀ (c : Dev nD) (d : Bool) (k : Fin 31), rowW c d (k : ℕ) = 256 * chunkN c d (k : ℕ) := by decide +kernel
  exact h c d ⟨k, by omega⟩

theorem chunkN_lt (c : Dev nD) (d : Bool) (k : ℕ) : chunkN c d k < 16 := by
  unfold chunkN; cases d <;> exact Nat.mod_lt _ (by decide)

/-- The way of device `c`, as the body computes it. -/
def wayW (c : Dev nD) : Way where
  next := fun d => match d with
    | false => ⟨k0_dev2 c, k0_dev2_lt c⟩
    | true => ⟨k0_dev1 c, k0_dev1_lt c⟩
  row := fun d k => bif Nat.ble k 30 then rowW c d k else 0
  row_le := by
    intro d k
    cases h : Nat.ble k 30
    · exact (by decide : 0 + 256 ≤ 4096)
    · have := rowW_eq c d k (Nat.le_of_ble_eq_true h)
      have := chunkN_lt c d k
      simp only [cond_true]; omega

/-- The printed body reads its device and runs the ring program on that device's way. -/
theorem body_eq :
    cc0_body (F := F) (Memref.whole cc0_stg0_0) (Memref.isWhole_whole _) (Memref.whole cc0_stg1_0) (Memref.isWhole_whole _)
      (Memref.whole main_v1) (Memref.isWhole_whole _) (Memref.whole cc0_scratch0) (Memref.isWhole_whole _)
      (Memref.whole cc0_scratch1) (Memref.isWhole_whole _) cc0_scratch2 cc0_scratch3 cc0_scratch4 cc0_scratch5 cc0_scratch6
      cc0_scratch7 cc0_scratch8 cc0_scratch9 cc0_scratch10 cc0_scratch11 cc0_scratch12 cc0_scratch13 cc0_scratch14 cc0_scratch15
      = .op .deviceId fun c => ringP (wayW c) := by
  chain_rfl

end Cert.Ring

end
-- ==== Proof.Cells.lean ====
/- The ring, the semaphores the devices talk over and the blocks they hand each other: names, positions and amounts,
   for every lane and slot at once. -/
module

public import proofs.«01_k».proof.Proof.Model
public import proofs.«01_k».proof.Proof.Gen.KernelIdeal.Launch
public import Idealize.ShloMosaic.Lib.Pipeline.Launch
public import Idealize.ShloMosaic.Lib.Pipeline.Kit
public import Idealize.ShloMosaic.Lib.Writes
public import Idealize.ShloMosaic.Lib.Tactic

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The ring -/

set_option backward.proofsInPublic true in
/-- The next device: to the right (`false`) or to the left (`true`). -/
def next (d : Bool) (c : Dev nD) : Dev nD := match d with
  | false => ⟨((c : ℕ) + 1) % 16, Nat.mod_lt _ (by decide)⟩
  | true => ⟨((c : ℕ) + 15) % 16, Nat.mod_lt _ (by decide)⟩

/-- One device on and one back is the device itself. -/
theorem next_back (d : Bool) (c : Dev nD) : next (!d) (next d c) = c := by revert d c; decide

/-- One device back and one on is the device itself. -/
theorem back_next (d : Bool) (c : Dev nD) : next d (next (!d) c) = c := by revert d c; decide

/-- Moving one device on, as a bijection of the devices. -/
def turn (d : Bool) : Dev nD ≃ Dev nD := ⟨next d, next (!d), next_back d, back_next d⟩

/-- The way of a device in closed form: its neighbours and the rows of its chunks. -/
def way (c : Dev nD) : Way where
  next := fun d => next d c
  row := fun d k => bif Nat.ble k 30 then 256 * chunkN c d k else 0
  row_le := by
    intro d k
    cases Nat.ble k 30
    · exact (by decide : 0 + 256 ≤ 4096)
    · have := chunkN_lt c d k
      simp only [cond_true]; omega

theorem Way.ext' {W W' : Way} (h : W.next = W'.next) (h' : W.row = W'.row) : W = W' := by
  cases W; cases W'; cases h; cases h'; rfl

/-- The way the body computes is that one. -/
theorem wayW_eq (c : Dev nD) : wayW c = way c := by
  refine Way.ext' (funext fun d => ?_) (funext fun d => funext fun k => ?_)
  · cases d
    · exact Fin.ext (k0_dev2_eq c)
    · exact Fin.ext (k0_dev1_eq c)
  · show (bif Nat.ble k 30 then rowW c d k else 0) = bif Nat.ble k 30 then 256 * chunkN c d k else 0
    cases h : Nat.ble k 30
    · rfl
    · exact rowW_eq c d k (Nat.le_of_ble_eq_true h)

/-- The row of a chunk. -/
theorem way_row (c : Dev nD) (d : Bool) (k : ℕ) (hk : k ≤ 30) : (way c).row d k = 256 * chunkN c d k := by
  show (bif Nat.ble k 30 then 256 * chunkN c d k else 0) = _
  rw [Nat.ble_eq_true_of_le hk]; rfl

/-! ## The semaphores -/

/-- A device's semaphores of its own: the sends' and the arrivals' of each lane and slot, the credits' and the results'
    of each lane. -/
abbrev Own : Type := (Lane × Fin 2) ⊕ (Lane × Fin 2) ⊕ Lane ⊕ Lane

/-- The same with the barrier's. -/
abbrev Cell : Type := Fin 1 ⊕ Own

instance decEqOwn : DecidableEq Own := inferInstance
instance decEqCell : DecidableEq Cell := inferInstance

abbrev cBar : Cell := .inl 0
abbrev cSend (l : Lane) (s : Fin 2) : Cell := .inr (.inl (l, s))
abbrev cRecv (l : Lane) (s : Fin 2) : Cell := .inr (.inr (.inl (l, s)))
abbrev cCred (l : Lane) : Cell := .inr (.inr (.inr (.inl l)))
abbrev cOut (l : Lane) : Cell := .inr (.inr (.inr (.inr l)))

/-- The semaphore of an own cell. -/
def osem : Own → SemLoc sig
  | .inl (l, s) => .dma (semAt (sendA l.1) s l.2)
  | .inr (.inl (l, s)) => .dma (semAt (recvA l.1) s l.2)
  | .inr (.inr (.inl l)) => .reg (credS l.1 l.2)
  | .inr (.inr (.inr l)) => .dma (semOf (outA l.1) l.2)

/-- The semaphore of a cell. -/
def csem : Cell → SemLoc sig
  | .inl _ => .reg (sig.barrier 0 rfl)
  | .inr x => osem x

/-- The cell of a device. -/
abbrev cell (c : Dev nD) (x : Cell) : GSem nD τ sig := ((c : Thread nD τ), csem x)

set_option maxRecDepth 100000 in
theorem ownSemFacts : Pipeline.OwnSemFacts cfg0.spec osem := by decide +kernel

set_option maxRecDepth 100000 in
theorem csem_injective : Function.Injective csem := by decide +kernel

theorem cell_injective : Function.Injective (fun cx : Dev nD × Cell => cell cx.1 cx.2) := by
  rintro ⟨c, x⟩ ⟨c', x'⟩ h
  have h1 : c = c' := congrArg (fun g : GSem nD τ sig => g.1.1) h
  have h2 : csem x = csem x' := congrArg Prod.snd h
  rw [h1, csem_injective h2]

theorem cell_eq_iff {c c' : Dev nD} {x x' : Cell} : cell c x = cell c' x' ↔ c = c' ∧ x = x' := by
  constructor
  · intro h
    have := cell_injective (a₁ := (c, x)) (a₂ := (c', x')) h
    exact ⟨congrArg Prod.fst this, congrArg Prod.snd this⟩
  · rintro ⟨rfl, rfl⟩; rfl

/-- The cell a semaphore is, if any. -/
def decode (q : SemLoc sig) : Option Cell := open Classical in if h : ∃ x, csem x = q then some h.choose else none

theorem decode_csem (x : Cell) : decode (csem x) = some x := by
  unfold decode
  have h : ∃ y, csem y = csem x := ⟨x, rfl⟩
  rw [dif_pos h]
  exact congrArg some (csem_injective h.choose_spec)

theorem decode_none {q : SemLoc sig} (h : ∀ x, csem x ≠ q) : decode q = none := by
  unfold decode
  rw [dif_neg (fun ⟨x, hx⟩ => h x hx)]

/-! ## The blocks -/

theorem slot_view (d : Bool) (s : Fin 2) (j : Fin 4) :
    (slotM d s j).view = ((bufM d).access (slotR s j)).reshape S256x1024 squeezes_S1x1x256x1024_S256x1024.numel_eq := rfl

/-- What a block of a slot counts for on a semaphore. -/
def NB : ℕ := (slotM false 0 0).view.dmaCredit

theorem NB_pos : 0 < NB := View.dmaCredit_pos _ (by decide)

theorem slot_credit (d : Bool) (s : Fin 2) (j : Fin 4) : (slotM d s j).view.dmaCredit = NB := by
  cases d <;> rfl

/-- What a block of the result counts for on a semaphore. -/
def NO : ℕ := (outM (way 0) false 0 0).view.dmaCredit

theorem NO_pos : 0 < NO := View.dmaCredit_pos _ (by decide)

theorem out_credit (W : Way) (d : Bool) (j : Fin 4) (k : ℕ) : (outM W d j k).view.dmaCredit = NO := rfl

theorem slot_set (d : Bool) (s : Fin 2) (j : Fin 4) : (slotM d s j).view.set = ((bufM d).access (slotR s j)).set :=
  View.set_reshape _ _

/-- A block stored through its slot's rectangle is the block written. -/
theorem store_slot (d : Bool) (s : Fin 2) (j : Fin 4) (f : (bufM d).view.ty.Contents (Elt F)) (v : FVec F S256x1024 .f32) :
    ((bufM d).access (slotR s j)).write (Elt F) f (up4 v) Finset.univ = (slotM d s j).view.write (Elt F) f v Finset.univ := by
  have h := View.write_reshape_univ (Val := Elt F) ((bufM d).access (slotR s j)) (s' := S256x1024)
    squeezes_S1x1x256x1024_S256x1024.numel_eq f v
  exact h.symm

/-- A block loaded through its slot's rectangle is the block read. -/
theorem load_slot (d : Bool) (s : Fin 2) (j : Fin 4) (f : (bufM d).view.ty.Contents (Elt F)) :
    down4 (((bufM d).access (slotR s j)).read (Elt F) f) = (slotM d s j).view.read (Elt F) f := rfl

end Cert.Ring

end
-- ==== Proof.Proto.lean ====
/- What the devices promise each other: the blocks each copy carries, the rounds of each semaphore, what each round hands
   over, and the order in which the devices wait. -/
module

public import proofs.«01_k».proof.Proof.Cells

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

variable (m : (ℓ : Loc nD τ sig) → Buf (Elt F) ℓ)

/-! ## The blocks -/

/-- A device's part of the first operand, as its staging buffer holds it. -/
def xst (c : Dev nD) : (cc0_stg0_0 : Ref sig .tc).ty.Contents (Elt F) :=
  (win0_0.blk (0 : Fin 1)).view.read (Elt F) (m ((c : Thread nD τ).loc main_arg0))

/-- A device's part of the second operand, as its staging buffer holds it. -/
def wst (c : Dev nD) : (cc0_stg1_0 : Ref sig .tc).ty.Contents (Elt F) :=
  (win0_1.blk (0 : Fin 1)).view.read (Elt F) (m ((c : Thread nD τ).loc main_arg1))

/-- The rows of a chunk. -/
def xAt (W : Way) (k : ℕ) (d : Bool) (f : (cc0_stg0_0 : Ref sig .tc).ty.Contents (Elt F)) : Vec F S256x256 .f32 :=
  (Memref.whole cc0_stg0_0 : Memref sig .tc .vmem S4096x256 .f32).view.readAt (Elt F)
    (Rect.unit (s := S4096x256) ![W.row d k, 0] S256x256.size (W.inbX d k)).toLoadRect f

/-- A half of the weights' columns. -/
def wAt (d : Bool) (f : (cc0_stg1_0 : Ref sig .tc).ty.Contents (Elt F)) : Vec F S256x4096 .f32 := match d with
  | false => (Memref.whole cc0_stg1_0 : Memref sig .tc .vmem S256x8192 .f32).view.readAt (Elt F)
    (Rect.unit (s := S256x8192) ![0, 0] S256x4096.size inb_S256x8192_S256x4096_0_0).toLoadRect f
  | true => (Memref.whole cc0_stg1_0 : Memref sig .tc .vmem S256x8192 .f32).view.readAt (Elt F)
    (Rect.unit (s := S256x8192) ![0, 4096] S256x4096.size inb_S256x8192_S256x4096_0_4096).toLoadRect f

/-- A device's product of the chunk of row index `k`. -/
def prodAt (c : Dev nD) (k : ℕ) (d : Bool) : FVec F S256x4096 .f32 :=
  prodP (xAt (way c) k d (xst m c)) (wAt d (wst m c))

/-- A lane's block of that product. -/
def part (c : Dev nD) (k : ℕ) (l : Lane) : FVec F S256x1024 .f32 := cols l.2 (prodAt m c k l.1)

/-- The block a lane of a device holds when step `k` begins: its own product at first, then in each of fourteen steps
    what arrived and its own product, in the fifteenth the same activated, then what arrived. -/
def blk : ℕ → Dev nD → Lane → FVec F S256x1024 .f32
  | 0, c, l => part m c 0 l
  | k + 1, c, l =>
    bif Nat.blt k 14 then addf (blk k (next (!l.1) c) l) (part m c (k + 1) l)
    else bif Nat.blt k 15 then siluP (addf (blk k (next (!l.1) c) l) (part m c (k + 1) l))
    else blk k (next (!l.1) c) l

/-- A summing step. -/
theorem blk_add (k : ℕ) (hk : k < 14) (c : Dev nD) (l : Lane) :
    blk m (k + 1) c l = addf (blk m k (next (!l.1) c) l) (part m c (k + 1) l) := by
  show (bif Nat.blt k 14 then _ else _) = _
  rw [show Nat.blt k 14 = true from Nat.ble_eq_true_of_le hk]; rfl

/-- The last summing step. -/
theorem blk_act (c : Dev nD) (l : Lane) :
    blk m 15 c l = siluP (addf (blk m 14 (next (!l.1) c) l) (part m c 15 l)) := rfl

/-- A gathering step. -/
theorem blk_pass (k : ℕ) (hk : 15 ≤ k) (c : Dev nD) (l : Lane) : blk m (k + 1) c l = blk m k (next (!l.1) c) l := by
  show (bif Nat.blt k 14 then _ else bif Nat.blt k 15 then _ else _) = _
  rw [show Nat.blt k 14 = false from by rw [← Bool.not_eq_true, Nat.blt_eq]; omega,
    show Nat.blt k 15 = false from by rw [← Bool.not_eq_true, Nat.blt_eq]; omega]; rfl

/-! ## The blocks in memory -/

/-- A slot's block of a device held at a share, with known contents. -/
def slotAt (c : Dev nD) (l : Lane) (s : Fin 2) (q : PosShare TreeShare) (v : FVec F S256x1024 .f32) : sProp 𝕄 :=
  (slotM l.1 s l.2).view.loc (c : Thread nD τ) ↦[(slotM l.1 s l.2).view.set]{q}
    ((slotM l.1 s l.2).view.write (Elt F) (m ((slotM l.1 s l.2).view.loc (c : Thread nD τ))) v Finset.univ)

/-- A slot's block of a device, with any contents. -/
def slotAny (c : Dev nD) (l : Lane) (s : Fin 2) : sProp 𝕄 :=
  iprop(∃ f : Buf (Elt F) ((slotM l.1 s l.2).view.loc (c : Thread nD τ)),
    (slotM l.1 s l.2).view.loc (c : Thread nD τ) ↦[(slotM l.1 s l.2).view.set]{fullShare} f)

/-- The result's block of row index `k` of a lane of a device, with known contents. -/
def outAt (c : Dev nD) (l : Lane) (k : ℕ) (v : FVec F S256x1024 .f32) : sProp 𝕄 :=
  (outM (way c) l.1 l.2 k).view.loc (c : Thread nD τ) ↦[(outM (way c) l.1 l.2 k).view.set]{fullShare}
    ((outM (way c) l.1 l.2 k).view.write (Elt F) (m ((outM (way c) l.1 l.2 k).view.loc (c : Thread nD τ))) v Finset.univ)

/-- The same as the run found it. -/
def outOld (c : Dev nD) (l : Lane) (k : ℕ) : sProp 𝕄 :=
  (outM (way c) l.1 l.2 k).view.loc (c : Thread nD τ) ↦[(outM (way c) l.1 l.2 k).view.set]{fullShare}
    m ((outM (way c) l.1 l.2 k).view.loc (c : Thread nD τ))

instance slotAt_storable (c : Dev nD) (l : Lane) (s : Fin 2) (q : PosShare TreeShare) (v : FVec F S256x1024 .f32) :
    BI.Storable (upEmb : UEmb _ 𝕄) (slotAt m c l s q v) := by unfold slotAt; infer_instance
instance slotAny_storable (c : Dev nD) (l : Lane) (s : Fin 2) :
    BI.Storable (upEmb : UEmb _ 𝕄) (slotAny (F := F) c l s) := by unfold slotAny; infer_instance
instance outAt_storable (c : Dev nD) (l : Lane) (k : ℕ) (v : FVec F S256x1024 .f32) :
    BI.Storable (upEmb : UEmb _ 𝕄) (outAt m c l k v) := by unfold outAt; infer_instance

/-- Writing known contents over any gives the known contents, as the element set alone counts. -/
theorem slotAt_intro (c : Dev nD) (l : Lane) (s : Fin 2) (q : PosShare TreeShare) (v : FVec F S256x1024 .f32)
    (f : Buf (Elt F) ((slotM l.1 s l.2).view.loc (c : Thread nD τ))) :
    ((slotM l.1 s l.2).view.loc (c : Thread nD τ) ↦[(slotM l.1 s l.2).view.set]{q}
      ((slotM l.1 s l.2).view.write (Elt F) f v Finset.univ) : sProp 𝕄) = slotAt m c l s q v := by
  unfold slotAt
  exact pointsTo_congr fun i hi => View.write_congr (fun _ _ _ => rfl) fun hn => absurd hi (by rwa [View.setOn_univ] at hn)

theorem outAt_intro (c : Dev nD) (l : Lane) (k : ℕ) (v : FVec F S256x1024 .f32)
    (f : Buf (Elt F) ((outM (way c) l.1 l.2 k).view.loc (c : Thread nD τ))) :
    ((outM (way c) l.1 l.2 k).view.loc (c : Thread nD τ) ↦[(outM (way c) l.1 l.2 k).view.set]{fullShare}
      ((outM (way c) l.1 l.2 k).view.write (Elt F) f v Finset.univ) : sProp 𝕄) = outAt m c l k v := by
  unfold outAt
  exact pointsTo_congr fun i hi => View.write_congr (fun _ _ _ => rfl) fun hn => absurd hi (by rwa [View.setOn_univ] at hn)

/-- Known contents are some contents. -/
theorem slotAt_any (c : Dev nD) (l : Lane) (s : Fin 2) (v : FVec F S256x1024 .f32) :
    slotAt m c l s fullShare v ⊢ slotAny c l s := by
  unfold slotAt slotAny
  iintro H
  iexists _
  iexact H

/-- A block held whole is its two halves. -/
theorem slotAt_halves (c : Dev nD) (l : Lane) (s : Fin 2) (v : FVec F S256x1024 .f32) :
    slotAt m c l s fullShare v ⊣⊢ iprop(slotAt m c l s fullShare.left v ∗ slotAt m c l s fullShare.right v) := by
  unfold slotAt; exact pointsTo_share (PosShare.mem_left_op_right fullShare)

/-! ## The schedule -/

/-- What the device `next d c` hands `c` when it signals `c`'s barrier: its second slot in the direction `d`, and that
    nothing has arrived there yet. -/
def barPay (c : Dev nD) (d : Bool) : sProp 𝕄 :=
  bigSep Finset.univ fun j : Fin 4 =>
    iprop(slotAny (next d c) (d, j) 1 ∗ reached ER (cell (next d c) (cRecv (d, j) 1)) 0)

/-- What an arrival of step `k` hands over: the block, and how far the sender's credits have come. -/
def recvPay (c : Dev nD) (l : Lane) (s : Fin 2) (k : ℕ) : sProp 𝕄 :=
  iprop(slotAt m c l s fullShare (blk m k (next (!l.1) c) l) ∗ reached ER (cell (next (!l.1) c) (cCred l)) k)

/-- What a credit of step `k` hands over: the slot the device downstream read in that step, and how far that slot's
    arrivals have come. -/
def credPay (c : Dev nD) (l : Lane) (k : ℕ) : sProp 𝕄 :=
  iprop(slotAny (next l.1 c) l (par k) ∗ reached ER (cell (next l.1 c) (cRecv l (par k))) ((k + 1) / 2))

/-- What a copy into the result hands back: the half of the slot it read and the block it wrote. -/
def outPay (c : Dev nD) (l : Lane) (k : ℕ) : sProp 𝕄 :=
  iprop(slotAt m c l (par (k + 1)) fullShare.right (blk m (k + 1) c l) ∗ outAt m c l (k + 1) (blk m (k + 1) c l))

/-- How many rounds a cell has. -/
def rounds : Cell → ℕ
  | .inl _ => 1
  | .inr (.inl _) => 15
  | .inr (.inr (.inl _)) => 15
  | .inr (.inr (.inr (.inl _))) => 29
  | .inr (.inr (.inr (.inr _))) => 16

/-- Who pays a round. -/
def who : Cell → Finset Bool
  | .inl _ => Finset.univ
  | .inr _ => {false}

/-- How much a payer pays. -/
def much : Cell → ℕ
  | .inl _ => 1
  | .inr (.inl _) => NB
  | .inr (.inr (.inl _)) => NB
  | .inr (.inr (.inr (.inl _))) => 1
  | .inr (.inr (.inr (.inr _))) => NO

theorem much_pos (x : Cell) : 0 < much x := by
  rcases x with _ | _ | _ | _ | _
  · exact Nat.one_pos
  · exact NB_pos
  · exact NB_pos
  · exact Nat.one_pos
  · exact NO_pos

/-- What a payer hands over. -/
def pay (c : Dev nD) (r : ℕ) (d : Bool) : Cell → sProp 𝕄
  | .inl _ => barPay c d
  | .inr (.inl (l, s)) => slotAt m c l s fullShare.left (blk m (2 * r + s) c l)
  | .inr (.inr (.inl (l, s))) => recvPay m c l s (2 * r + (1 - s))
  | .inr (.inr (.inr (.inl l))) => credPay c l r
  | .inr (.inr (.inr (.inr l))) => outPay m c l (r + 14)

instance pay_storable (c : Dev nD) (r : ℕ) (d : Bool) (x : Cell) : BI.Storable (upEmb : UEmb _ 𝕄) (pay m c r d x) := by
  rcases x with _ | ⟨l, s⟩ | ⟨l, s⟩ | l | l
  · show BI.Storable upEmb (barPay c d); unfold barPay; infer_instance
  · show BI.Storable upEmb (slotAt m c l s _ _); infer_instance
  · show BI.Storable upEmb (recvPay m c l s _); unfold recvPay; infer_instance
  · show BI.Storable upEmb (credPay c l r); unfold credPay; infer_instance
  · show BI.Storable upEmb (outPay m c l _); unfold outPay; infer_instance

/-- The schedule of every semaphore of every device. -/
def sched : Rounds.Schedule (GSem nD τ sig) Bool 𝕄 where
  duties g r := match decode g.2 with
    | some x => if g.1.2 = .tc ∧ r < rounds x then who x else ∅
    | none => ∅
  unitless _ := False
  amount g _ _ := match decode g.2 with
    | some x => much x
    | none => 1
  payload g r d := match decode g.2 with
    | some x => pay m g.1.1 r d x
    | none => iprop(emp)
  amount_pos g _ _ _ := by
    cases decode g.2 with
    | none => exact Nat.one_pos
    | some x => exact much_pos x

instance sched_storable (g : GSem nD τ sig) (r : ℕ) (d : Bool) :
    BI.Storable (upEmb : UEmb _ 𝕄) ((sched m).payload g r d) := by
  show BI.Storable upEmb (match decode g.2 with
    | some x => pay m g.1.1 r d x
    | none => iprop(emp))
  cases decode g.2 with
  | none => show BI.Storable upEmb iprop(emp); infer_instance
  | some x => show BI.Storable upEmb (pay m g.1.1 r d x); infer_instance

theorem sched_duties (c : Dev nD) (x : Cell) (r : ℕ) (hr : r < rounds x) : (sched m).duties (cell c x) r = who x := by
  show (match decode (csem x) with
    | some x => if (Proc.tc : Proc τ) = Proc.tc ∧ r < rounds x then who x else ∅
    | none => ∅) = _
  rw [decode_csem]; exact if_pos ⟨rfl, hr⟩

theorem sched_done (c : Dev nD) (x : Cell) (r : ℕ) (hr : rounds x ≤ r) : (sched m).duties (cell c x) r = ∅ := by
  show (match decode (csem x) with
    | some x => if (Proc.tc : Proc τ) = Proc.tc ∧ r < rounds x then who x else ∅
    | none => ∅) = _
  rw [decode_csem]; exact if_neg fun h => absurd h.2 (by omega)

theorem sched_amount (c : Dev nD) (x : Cell) (r : ℕ) (d : Bool) : (sched m).amount (cell c x) r d = much x := by
  show (match decode (csem x) with
    | some x => much x
    | none => 1) = _
  rw [decode_csem]

theorem sched_payload (c : Dev nD) (x : Cell) (r : ℕ) (d : Bool) : (sched m).payload (cell c x) r d = pay m c r d x := by
  show (match decode (csem x) with
    | some x => pay m c r d x
    | none => iprop(emp)) = _
  rw [decode_csem]

theorem sched_expect (c : Dev nD) (x : Own) (r : ℕ) (hr : r < rounds (.inr x)) :
    (sched m).expect (cell c (.inr x)) r = much (.inr x) := by
  unfold Schedule.expect Schedule.amountOf
  rw [sched_duties m c _ r hr]
  exact (Finset.sum_singleton _ _).trans (sched_amount m c _ r false)

theorem sched_expect_bar (c : Dev nD) : (sched m).expect (cell c cBar) 0 = 2 := by
  unfold Schedule.expect Schedule.amountOf
  rw [sched_duties m c cBar 0 Nat.one_pos, Finset.sum_congr rfl fun d _ => sched_amount m c cBar 0 d]
  rfl

/-- What a round of an own cell hands its owner. -/
theorem sched_rest (c : Dev nD) (x : Own) (r : ℕ) (hr : r < rounds (.inr x)) :
    (bigSep ((sched m).duties (cell c (.inr x)) r \ ∅) fun d => (sched m).payload (cell c (.inr x)) r d) = pay m c r false (.inr x) := by
  rw [Finset.sdiff_empty, sched_duties m c _ r hr]
  exact bigSep_singleton.trans (sched_payload m c _ r false)

/-- What the barrier hands its owner. -/
theorem sched_rest_bar (c : Dev nD) :
    (bigSep ((sched m).duties (cell c cBar) 0 \ ∅) fun d => (sched m).payload (cell c cBar) 0 d) = iprop(barPay c false ∗ barPay c true) := by
  rw [Finset.sdiff_empty, sched_duties m c cBar 0 Nat.one_pos]
  refine (bigSep_congr fun d _ => sched_payload m c cBar 0 d).trans ?_
  refine (bigSep_univ_eq_bigSepL [false, true] (by decide) (by decide) _).trans ?_
  rw [bigSepL_cons_cons, bigSepL_singleton]; rfl

/-! ## What is owed, and the order of waiting -/

/-- The arrivals a device still owes downstream in a lane, from step `k` on. -/
def dueRecv (c : Dev nD) (l : Lane) (k : ℕ) : CellTallies nD τ sig ℕ :=
  ∑ i ∈ Finset.Ico k 30, tallyAt (cell (next l.1 c) (cRecv l (par (i + 1)))) i NB

/-- The credits it still owes upstream, from step `k` on. -/
def dueCred (c : Dev nD) (l : Lane) (k : ℕ) : CellTallies nD τ sig ℕ :=
  ∑ i ∈ Finset.Ico k 29, tallyAt (cell (next (!l.1) c) (cCred l)) i 1

/-- All it still owes after the barrier: in each lane the arrivals from step `a l` and the credits from step `b l`. -/
def due (c : Dev nD) (a b : Lane → ℕ) : CellTallies nD τ sig ℕ := ∑ l, (dueRecv c l (a l) + dueCred c l (b l))

/-- The first of a run of steps apart. -/
theorem ico_succ {k n : ℕ} (hk : k < n) : Finset.Ico k n = insert k (Finset.Ico (k + 1) n) := by
  ext i; rw [Finset.mem_insert, Finset.mem_Ico, Finset.mem_Ico]; omega

theorem not_mem_ico (k n : ℕ) : k ∉ Finset.Ico (k + 1) n := by rw [Finset.mem_Ico]; omega

theorem dueRecv_succ (c : Dev nD) (l : Lane) (k : ℕ) (hk : k < 30) :
    dueRecv c l k = dueRecv c l (k + 1) + tallyAt (cell (next l.1 c) (cRecv l (par (k + 1)))) k NB := by
  unfold dueRecv
  rw [ico_succ hk, Finset.sum_insert (not_mem_ico _ _), add_comm]

theorem dueCred_succ (c : Dev nD) (l : Lane) (k : ℕ) (hk : k < 29) :
    dueCred c l k = dueCred c l (k + 1) + tallyAt (cell (next (!l.1) c) (cCred l)) k 1 := by
  unfold dueCred
  rw [ico_succ hk, Finset.sum_insert (not_mem_ico _ _), add_comm]

theorem sum_last₁ {A : Type} [AddCommMonoid A] (r t d s : A) : r + t + d + s = r + d + s + t := by
  rw [add_right_comm r t d, add_right_comm (r + d) t s]

theorem sum_last₂ {A : Type} [AddCommMonoid A] (r d t s : A) : r + (d + t) + s = r + d + s + t := by
  rw [← add_assoc r d t, add_right_comm (r + d) t s]

theorem pos_or {a b : ℕ} (h : 0 < a + b) : 0 < a ∨ 0 < b := by omega

/-- A sent block is an arrival less owed. -/
theorem due_send (c : Dev nD) (a b : Lane → ℕ) (l : Lane) (k : ℕ) (h : a l = k) (hk : k < 30) :
    due c a b = due c (Function.update a l (k + 1)) b + tallyAt (cell (next l.1 c) (cRecv l (par (k + 1)))) k NB := by
  unfold due
  rw [← Finset.add_sum_erase _ _ (Finset.mem_univ l), ← Finset.add_sum_erase (a := l) _ _ (Finset.mem_univ l),
    Function.update_self, h, dueRecv_succ c l k hk,
    Finset.sum_congr rfl fun i (hi : i ∈ Finset.univ.erase l) => by rw [← Function.update_of_ne (Finset.ne_of_mem_erase hi) (k + 1) a]]
  exact sum_last₁ _ _ _ _

/-- A credit given is a credit less owed. -/
theorem due_cred (c : Dev nD) (a b : Lane → ℕ) (l : Lane) (k : ℕ) (h : b l = k) (hk : k < 29) :
    due c a b = due c a (Function.update b l (k + 1)) + tallyAt (cell (next (!l.1) c) (cCred l)) k 1 := by
  unfold due
  rw [← Finset.add_sum_erase _ _ (Finset.mem_univ l), ← Finset.add_sum_erase (a := l) _ _ (Finset.mem_univ l),
    Function.update_self, h, dueCred_succ c l k hk,
    Finset.sum_congr rfl fun i (hi : i ∈ Finset.univ.erase l) => by rw [← Function.update_of_ne (Finset.ne_of_mem_erase hi) (k + 1) b]]
  exact sum_last₂ _ _ _ _

/-- Past the last step nothing is owed. -/
theorem due_end (c : Dev nD) (a b : Lane → ℕ) (ha : ∀ l, 30 ≤ a l) (hb : ∀ l, 29 ≤ b l) : due c a b = 0 := by
  unfold due dueRecv dueCred
  refine Finset.sum_eq_zero fun l _ => ?_
  rw [Finset.Ico_eq_empty (by have := ha l; omega), Finset.Ico_eq_empty (by have := hb l; omega), Finset.sum_empty, Finset.sum_empty, add_zero]

/-- Past the last credit, the count of credits does not matter. -/
theorem due_stop (c : Dev nD) (a b : Lane → ℕ) (l : Lane) (k : ℕ) (h : b l = k) (hk : 29 ≤ k) :
    due c a b = due c a (Function.update b l (k + 1)) := by
  unfold due
  refine Finset.sum_congr rfl fun i _ => ?_
  by_cases hi : i = l
  · subst hi
    rw [Function.update_self, h]
    unfold dueCred
    rw [Finset.Ico_eq_empty (by omega), Finset.Ico_eq_empty (by omega)]
  · rw [Function.update_of_ne hi]

/-- What a device owes at launch: all its arrivals and credits, and a signal to each neighbour's barrier. -/
def owed₀ (c : Dev nD) : CellTallies nD τ sig ℕ :=
  due c (fun _ => 0) (fun _ => 0) + tallyAt (cell (next false c) cBar) 0 1 + tallyAt (cell (next true c) cBar) 0 1

/-- The place of a cell's round in the order of waiting. -/
def rank : Cell → ℕ → ℕ
  | .inl _, _ => 1
  | .inr (.inl _), _ => 0
  | .inr (.inr (.inl _)), k => 2 * k + 2
  | .inr (.inr (.inr (.inl _))), k => 2 * k + 3
  | .inr (.inr (.inr (.inr _))), _ => 0

/-- The indices a cell may be waited for at. -/
def L (g : GSem nD τ sig) : Finset ℕ := if g.1.2 = .tc then Finset.range 64 else ∅

/-- The levels. -/
def lv (g : GSem nD τ sig) (k : ℕ) : ℕ := match decode g.2 with
  | some x => rank x k
  | none => 0

theorem L_of_ne (g : GSem nD τ sig) (h : g.1.2 ≠ .tc) : L g = ∅ := if_neg h
theorem mem_L (c : Dev nD) (q : SemLoc sig) (k : ℕ) (hk : k < 64) : k ∈ L ((c : Thread nD τ), q) := by
  unfold L; rw [if_pos rfl]; exact Finset.mem_range.mpr hk
theorem lv_cell (c : Dev nD) (x : Cell) (k : ℕ) : lv (cell c x) k = rank x k := by
  show (match decode (csem x) with
    | some x => rank x k
    | none => 0) = _
  rw [decode_csem]

theorem sum_pos {ι : Type} (s : Finset ι) (f : ι → CellTallies nD τ sig ℕ) (g : GSem nD τ sig) (u : ℕ)
    (h : 0 < (∑ i ∈ s, f i) g u) : ∃ i ∈ s, 0 < f i g u := by
  by_contra hn
  have h0 : ∀ i ∈ s, f i g u = 0 := fun i hi => by by_contra hne; exact hn ⟨i, hi, Nat.pos_of_ne_zero hne⟩
  rw [Finset.sum_apply, Finsupp.finset_sum_apply, Finset.sum_eq_zero h0] at h
  exact Nat.lt_irrefl 0 h

theorem tally_pos {g g' : GSem nD τ sig} {u u' n : ℕ} (h : 0 < (tallyAt g u n : CellTallies nD τ sig ℕ) g' u') :
    g' = g ∧ u' = u := by
  rw [tallyAt_apply] at h
  by_contra hn
  rw [if_neg hn] at h
  exact Nat.lt_irrefl 0 h

/-- What is still owed is an arrival or a credit of a step still to come. -/
theorem due_pos {c : Dev nD} {a b : Lane → ℕ} {g : GSem nD τ sig} {u : ℕ} (h : 0 < due c a b g u) :
    (∃ l, g = cell (next l.1 c) (cRecv l (par (u + 1))) ∧ a l ≤ u ∧ u < 30)
      ∨ ∃ l, g = cell (next (!l.1) c) (cCred l) ∧ b l ≤ u ∧ u < 29 := by
  obtain ⟨l, -, h⟩ := sum_pos _ _ g u h
  rw [Pi.add_apply, Finsupp.add_apply] at h
  rcases pos_or h with h | h
  · obtain ⟨i, hi, h⟩ := sum_pos _ _ g u h
    obtain ⟨rfl, rfl⟩ := tally_pos h
    exact .inl ⟨l, rfl, (Finset.mem_Ico.mp hi).1, (Finset.mem_Ico.mp hi).2⟩
  · obtain ⟨i, hi, h⟩ := sum_pos _ _ g u h
    obtain ⟨rfl, rfl⟩ := tally_pos h
    exact .inr ⟨l, rfl, (Finset.mem_Ico.mp hi).1, (Finset.mem_Ico.mp hi).2⟩

/-- A device may wait at a place below all that it still owes. -/
theorem mayWait_due (c : Dev nD) (x : Cell) (k n : ℕ) (hk : k < 64) (a b : Lane → ℕ) (hx : rank x k ≤ n)
    (ha : ∀ l, n < 2 * a l + 2) (hb : ∀ l, n < 2 * b l + 3) :
    (levAts L lv : sProp 𝕄) ⊢ MayWait (c : Thread nD τ) (csem x) k (due c a b) :=
  MayOwe.of_cut (L := L) (lev := lv) n (fun p hp => by rw [Finset.mem_singleton.mp hp]; exact mem_L c _ k hk)
    (fun g u hg => by
      rcases due_pos hg with ⟨l, rfl, _, h⟩ | ⟨l, rfl, _, h⟩ <;> exact mem_L _ _ u (by omega))
    (fun p hp => by rw [Finset.mem_singleton.mp hp]; exact (lv_cell c x k).trans_le hx)
    (fun g u hg => by
      rcases due_pos hg with ⟨l, rfl, h, _⟩ | ⟨l, rfl, h, _⟩
      · rw [lv_cell]; have := ha l; show n < 2 * u + 2; omega
      · rw [lv_cell]; have := hb l; show n < 2 * u + 3; omega)

/-- The waits of the staging copies lie below everything. -/
theorem mayWait_stage (c : Dev nD) (q : DmaSem sig) (hq : ∀ x, csem x ≠ .dma q) (O : CellTallies nD τ sig ℕ) (hO : O = owed₀ c ∨ O = 0) :
    (levAts L lv : sProp 𝕄) ⊢ MayWait (c : Thread nD τ) (.dma q) 0 O := by
  rcases hO with rfl | rfl
  · have hpos : ∀ g u, 0 < owed₀ c g u → u < 64 ∧ g.1.2 = .tc ∧ 0 < lv g u := by
      intro g u h
      unfold owed₀ at h
      rw [Pi.add_apply, Finsupp.add_apply, Pi.add_apply, Finsupp.add_apply] at h
      rcases pos_or h with h | h
      · rcases pos_or h with h | h
        · rcases due_pos h with ⟨l, rfl, _, h⟩ | ⟨l, rfl, _, h⟩
          · exact ⟨by omega, rfl, by rw [lv_cell]; exact Nat.succ_pos _⟩
          · exact ⟨by omega, rfl, by rw [lv_cell]; exact Nat.succ_pos _⟩
        · obtain ⟨rfl, rfl⟩ := tally_pos h
          exact ⟨by omega, rfl, by rw [lv_cell]; exact Nat.one_pos⟩
      · obtain ⟨rfl, rfl⟩ := tally_pos h
        exact ⟨by omega, rfl, by rw [lv_cell]; exact Nat.one_pos⟩
    refine MayOwe.of_cut (L := L) (lev := lv) 0 (fun p hp => by rw [Finset.mem_singleton.mp hp]; exact mem_L c _ 0 (by decide))
      (fun g u hg => by
        obtain ⟨h1, h2, _⟩ := hpos g u hg
        unfold L; rw [if_pos h2]; exact Finset.mem_range.mpr h1)
      (fun p hp => by rw [Finset.mem_singleton.mp hp]; unfold lv; rw [decode_none hq])
      (fun g u hg => (hpos g u hg).2.2)
  · rw [MayWait_zero]; iintro -; iempintro

end Cert.Ring

end
-- ==== Proof.Lane.lean ====
/- One lane's part of a step: the send, and the arrival in each of the three kinds of step. -/
module

public import proofs.«01_k».proof.Proof.Proto

@[expose] public section

set_option maxRecDepth 100000

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Cell → ℕ)

/-! ## What everybody knows, and what a device holds of a cell -/

/-- Every cell's rounds are kept by an invariant, and every cell has reached its first round. -/
def recs : sProp 𝕄 :=
  iprop((bigSep Finset.univ fun cx : Dev nD × Cell => cellInv ER (sched m) (K cx) (cell cx.1 cx.2))
    ∗ bigSep Finset.univ fun cx : Dev nD × Cell => reached ER (cell cx.1 cx.2) 0)

/-- That, and the order of waiting. -/
def env : sProp 𝕄 := iprop(recs m K ∗ (levAts L lv : sProp 𝕄))

instance recs_persistent : BI.Persistent (recs m K) := by unfold recs; infer_instance
instance env_persistent : BI.Persistent (env m K) := by unfold env; infer_instance

theorem env_inv (c : Dev nD) (x : Cell) : env m K ⊢ cellInv ER (sched m) (K (c, x)) (cell c x) := by
  have h : (bigSep Finset.univ fun cx : Dev nD × Cell => (cellInv ER (sched m) (K cx) (cell cx.1 cx.2) : sProp 𝕄))
      ⊢ cellInv ER (sched m) (K (c, x)) (cell c x) := bigSep_elim (Finset.mem_univ (c, x))
  unfold env recs
  iintro ⟨⟨H, -⟩, -⟩
  iapply h; iexact H

theorem env_reached (c : Dev nD) (x : Cell) : env m K ⊢ reached ER (cell c x) 0 := by
  have h : (bigSep Finset.univ fun cx : Dev nD × Cell => (reached ER (cell cx.1 cx.2) 0 : sProp 𝕄))
      ⊢ reached ER (cell c x) 0 := bigSep_elim (Finset.mem_univ (c, x))
  unfold env recs
  iintro ⟨⟨-, H⟩, -⟩
  iapply h; iexact H

theorem env_lev : env m K ⊢ (levAts L lv : sProp 𝕄) := by
  unfold env
  iintro ⟨-, H⟩
  iexact H

/-- A device stands before round `R` of a cell of its own. -/
def pos (c : Dev nD) (x : Cell) (R : ℕ) : sProp 𝕄 := iprop(atPos ER (cell c x) R ∅ 0 ∗ reached ER (cell c x) R)

/-- What a device still owes, whatever it has waited for. -/
def St (c : Dev nD) (a b : Lane → ℕ) : sProp 𝕄 := iprop(∃ W, owes (c : Thread nD τ) (due c a b) W)

/-- A program run on a device. -/
abbrev wpc (c : Dev nD) (P : Pg F) (Q : PUnit → sProp 𝕄) : sProp 𝕄 :=
  wp frame (wpE (defs₀ (F := F)) 𝒱₀ (c : Thread nD τ) none) Set.univ P Q

/-- A wait for a round of an own cell: its payload comes, and the device stands before the next round. -/
theorem wait_own (c : Dev nD) (x : Own) {w : TpuEff nD τ sig (Elt F) Λ₀ .tc PUnit} (R i n : ℕ) (a b : Lane → ℕ)
    (hw : ∀ Kt : PUnit → sProp 𝕄, wpE (defs₀ (F := F)) 𝒱₀ (c : Thread nD τ) none Set.univ w Kt
      = waitSpec (c : Thread nD τ) Set.univ (csem (.inr x)) (much (.inr x)) Kt)
    (hR : R < rounds (.inr x)) (hi : i < 64) (hx : rank (.inr x) i ≤ n) (ha : ∀ l, n < 2 * a l + 2) (hb : ∀ l, n < 2 * b l + 3)
    (P : Pg F) (Q : PUnit → sProp 𝕄) :
    iprop(env m K ∗ cred (tallyAt (cell c (.inr x)) i (much (.inr x))) ∗ St c a b ∗ pos c (.inr x) R)
      ⊢ iprop(((St c a b ∗ pos c (.inr x) (R + 1) ∗ pay m c R false (.inr x)) -∗ wpc c P Q) -∗ wpc c (.op w fun _ => P) Q) := by
  have hM : env m K ⊢ MayWait (c : Thread nD τ) (csem (.inr x)) i (due c a b) :=
    (env_lev m K).trans (mayWait_due c (.inr x) i n hi a b hx ha hb)
  unfold St pos
  iintro ⟨#HE, Hc, ⟨%W, HO⟩, Hat, -⟩ Hk
  iapply (Rounds.wp_wait_rest_token 𝒱₀ ER (sched m) (c : Thread nD τ) none (κ := K (c, .inr x)) hw (Set.mem_univ _) i
    (O := due c a b) (W := W) (R := R) (m := 0) (k' := much (.inr x)) (T := ∅)
    ((Nat.zero_add _).trans (sched_expect m c x R hR).symm)) $$ [Hc HO Hat]
  · isplitr; · iapply (env_inv m K c (.inr x)); iexact HE
    isplitl [Hc]; · iexact Hc
    isplitl [HO]; · iexact HO
    isplitr
    · iapply hM; iexact HE
    iexact Hat
  iintro ⟨HO, Hat, Hr, Hp⟩
  ihave Hp := (Entails.of_eq (sched_rest m c x R hR)) $$ Hp
  iapply Hk
  isplitl [HO]; · iexists _; iexact HO
  isplitl [Hat Hr]
  · isplitl [Hat]; · iexact Hat
    iexact Hr
  iexact Hp

/-- Parity goes by twos. -/
theorem par_two (k : ℕ) : par (k + 2) = par k := by
  unfold par; exact Fin.ext (by show (k + 2) % 2 = k % 2; omega)

theorem par_val (k : ℕ) : (par k : ℕ) = k % 2 := rfl

/-- The step at which a slot is sent for a round is the step itself. -/
theorem send_step (k : ℕ) : 2 * (k / 2) + (par k : ℕ) = k := by rw [par_val]; omega

/-- The step at which a slot is filled for a round is the step itself. -/
theorem recv_step (k : ℕ) : 2 * (k / 2) + (1 - (par (k + 1) : ℕ)) = k := by rw [par_val]; omega

/-! ## What a lane holds -/

/-- The first of a run of resources apart. -/
theorem ico_peel (k n : ℕ) (h : k < n) (Φ : ℕ → sProp 𝕄) :
    bigSep (Finset.Ico k n) Φ = iprop(Φ k ∗ bigSep (Finset.Ico (k + 1) n) Φ) := by
  rw [ico_succ h]; exact bigSep_insert (not_mem_ico k n)

/-- The last of a run of resources apart. -/
theorem ico_last (k n : ℕ) (h : k ≤ n) (Φ : ℕ → sProp 𝕄) :
    bigSep (Finset.Ico k (n + 1)) Φ = iprop(Φ n ∗ bigSep (Finset.Ico k n) Φ) := by
  have e : Finset.Ico k (n + 1) = insert n (Finset.Ico k n) := by
    ext i; rw [Finset.mem_insert, Finset.mem_Ico, Finset.mem_Ico]; omega
  rw [e]; exact bigSep_insert (by rw [Finset.mem_Ico]; omega)

def tokSend (c : Dev nD) (l : Lane) (k : ℕ) : sProp 𝕄 :=
  bigSep (Finset.Ico k 30) fun i => dutyTok ER (cell c (cSend l (par i))) (i / 2) false
def tokRecv (c : Dev nD) (l : Lane) (k : ℕ) : sProp 𝕄 :=
  bigSep (Finset.Ico k 30) fun i => dutyTok ER (cell (next l.1 c) (cRecv l (par (i + 1)))) (i / 2) false
def tokCred (c : Dev nD) (l : Lane) (k : ℕ) : sProp 𝕄 :=
  bigSep (Finset.Ico k 29) fun i => dutyTok ER (cell (next (!l.1) c) (cCred l)) i false
def tokOut (c : Dev nD) (l : Lane) (k : ℕ) : sProp 𝕄 :=
  bigSep (Finset.Ico (max k 14) 30) fun i => dutyTok ER (cell c (cOut l)) (i - 14) false
def crRecv (c : Dev nD) (l : Lane) (k : ℕ) : sProp 𝕄 :=
  bigSep (Finset.Ico k 30) fun i => cred (tallyAt (cell c (cRecv l (par (i + 1)))) i NB)
def crCred (c : Dev nD) (l : Lane) (k : ℕ) : sProp 𝕄 :=
  bigSep (Finset.Ico k 29) fun i => cred (tallyAt (cell c (cCred l)) i 1)
def oldOut (c : Dev nD) (l : Lane) (k : ℕ) : sProp 𝕄 :=
  bigSep (Finset.Ico (max k 14) 30) fun i => outOld m c l (i + 1)
def newOut (c : Dev nD) (l : Lane) (k : ℕ) : sProp 𝕄 :=
  bigSep (Finset.Ico 14 k) fun i => outAt m c l (i + 1) (blk m (i + 1) c l)

/-- Where the lane stands on its send semaphores before step `k`. -/
def sendPos (c : Dev nD) (l : Lane) (k : ℕ) : sProp 𝕄 :=
  iprop(pos c (cSend l (par k)) (k / 2) ∗ pos c (cSend l (par (k + 1))) ((k + 1) / 2))
/-- Where it stands on its arrival semaphores. -/
def recvPos (c : Dev nD) (l : Lane) (k : ℕ) : sProp 𝕄 :=
  iprop(pos c (cRecv l (par (k + 1))) (k / 2) ∗ pos c (cRecv l (par k)) ((k + 1) / 2))

/-- The slot downstream that the send of step `k` fills. -/
def dst (c : Dev nD) (l : Lane) (k : ℕ) : sProp 𝕄 :=
  iprop(slotAny (next l.1 c) l (par (k + 1)) ∗ reached ER (cell (next l.1 c) (cRecv l (par (k + 1)))) (k / 2))

/-- The credits to come, and where the lane stands among them. -/
def crd (c : Dev nD) (l : Lane) (k : ℕ) : sProp 𝕄 := iprop(pos c (cCred l) k ∗ crCred c l k)

/-- The right to send in step `k`: in the first the slot downstream, later the credit to wait for. -/
def right (c : Dev nD) (l : Lane) : ℕ → sProp 𝕄
  | 0 => iprop(crd c l 0 ∗ dst c l 0)
  | k + 1 => crd c l k

/-- The half of the slot that is not sent: held, or being copied into the result. -/
def rest (c : Dev nD) (l : Lane) (k : ℕ) : sProp 𝕄 :=
  if k < 15 then slotAt m c l (par k) fullShare.right (blk m k c l) else cred (tallyAt (cell c (cOut l)) 0 NO)

/-- After the last step the other slot is the lane's own again. -/
def over (c : Dev nD) (l : Lane) (k : ℕ) : sProp 𝕄 := if k < 30 then iprop(emp) else slotAny c l 1

/-- The part of a lane's holdings the send leaves alone. -/
def keep (c : Dev nD) (l : Lane) (k : ℕ) : sProp 𝕄 :=
  iprop(sendPos c l k ∗ recvPos c l k ∗ pos c (cOut l) (k - 15) ∗ tokCred c l k ∗ tokOut c l k ∗ crRecv c l k
    ∗ oldOut m c l k ∗ newOut m c l (k - 1) ∗ rest m c l k ∗ over c l k)

/-- A lane before step `k`. -/
def laneA (c : Dev nD) (k : ℕ) (l : Lane) : sProp 𝕄 :=
  iprop(keep m c l k ∗ tokSend c l k ∗ tokRecv c l k ∗ right c l k ∗ slotAt m c l (par k) fullShare.left (blk m k c l))

/-- A lane after the send of step `k`. -/
def laneB (c : Dev nD) (k : ℕ) (l : Lane) : sProp 𝕄 :=
  iprop(keep m c l k ∗ tokSend c l (k + 1) ∗ tokRecv c l (k + 1) ∗ crd c l k
    ∗ cred (tallyAt (cell c (cSend l (par k))) 0 NB))

/-! ## The send -/

/-- The copy downstream. -/
theorem wp_enq (c : Dev nD) (l : Lane) (k : ℕ) (hk : k < 30) (a b : Lane → ℕ) (ha : a l = k) (P : Pg F) (Q : PUnit → sProp 𝕄) :
    iprop(env m K ∗ (keep m c l k ∗ tokSend c l k ∗ tokRecv c l k ∗ (crd c l k ∗ dst c l k)
        ∗ slotAt m c l (par k) fullShare.left (blk m k c l)) ∗ St c a b)
      ⊢ iprop(((laneB m c k l ∗ St c (Function.update a l (k + 1)) b) -∗ wpc c P Q) -∗ wpc c (enqL (way c) k l P) Q) := by
  unfold laneB St dst crd keep sendPos tokSend tokRecv slotAny
  rw [ico_peel k 30 hk, ico_peel k 30 hk]
  unfold pos
  iintro ⟨#HE, ⟨⟨⟨⟨HaS, #HrS⟩, HpS⟩, Hkeep⟩, ⟨HtS, HtSs⟩, ⟨HtR, HtRs⟩, ⟨⟨⟨HaC, #HrC⟩, HcC⟩, ⟨%fd, Hd⟩, #HrR⟩, Hs⟩, ⟨%W, HO⟩⟩ Hk
  unfold enqL remoteP slotAt
  iapply (Rounds.wp_send_pointsTo_with 𝒱₀ ER (sched m) (c : Thread nD τ) none (c' := (next l.1 c : Thread nD τ))
      (κ₁ := K (c, cSend l (par k))) (κ₂ := K (next l.1 c, cRecv l (par (k + 1))))
      (src := slotM l.1 (par k) l.2) (dst := slotM l.1 (par (k + 1)) l.2)
      (sS := csem (cSend l (par k))) (sem := csem (cRecv l (par (k + 1))))
      (r₁ := k / 2) (r₂ := k / 2) (d₁ := false) (d₂ := false) (fd := fd) (F := reached ER (cell c (cCred l)) k)
      (by rw [sched_duties m c _ _ (show k / 2 < 15 by omega)]; exact Finset.mem_singleton_self _)
      (by rw [sched_duties m _ _ _ (show k / 2 < 15 by omega)]; exact Finset.mem_singleton_self _)
      k 0 NB (slot_credit _ _ _) (sched_amount m c _ _ _) (sched_amount m _ _ _ _) (due c (Function.update a l (k + 1)) b)
      (due_send c a b l k ha hk) (W := W)
      (by
        rw [sched_payload]
        show _ ⊢ slotAt m c l (par k) fullShare.left (blk m (2 * (k / 2) + (par k : ℕ)) c l)
        rw [send_step]; unfold slotAt; exact BI.Entails.refl _)
      (by
        rw [sched_payload]
        show _ ⊢ recvPay m (next l.1 c) l (par (k + 1)) (2 * (k / 2) + (1 - (par (k + 1) : ℕ)))
        rw [recv_step]; unfold recvPay
        rw [next_back, View.read_write_univ, slotAt_intro])) $$ [HtS HtR Hs Hd HO]
  · isplitr; · iapply (env_inv m K c (cSend l (par k))); iexact HE
    isplitr; · iapply (env_inv m K (next l.1 c) (cRecv l (par (k + 1)))); iexact HE
    isplitl [Hs]; · iexact Hs
    isplitl [Hd]
    · isplitl [Hd]; · iexact Hd
      iexact HrC
    isplitl [HO]; · iexact HO
    isplitl [HtS]; · iexact HtS
    isplitr; · iexact HrS
    isplitl [HtR]; · iexact HtR
    iexact HrR
  iintro ⟨HcS, HO⟩
  iapply Hk
  isplitr [HO]
  · isplitl [HaS HpS Hkeep]
    · isplitl [HaS HpS]
      · isplitl [HaS]
        · isplitl [HaS]; · iexact HaS
          iexact HrS
        iexact HpS
      iexact Hkeep
    isplitl [HtSs]; · iexact HtSs
    isplitl [HtRs]; · iexact HtRs
    isplitl [HaC HcC]
    · isplitl [HaC]
      · isplitl [HaC]; · iexact HaC
        iexact HrC
      iexact HcC
    iexact HcS
  iexists _; iexact HO

/-- The send of a step, with the wait for the credit before it. -/
theorem wp_sendL (c : Dev nD) (l : Lane) (k : ℕ) (hk : k < 30) (a b : Lane → ℕ) (ha : a l = k) (ha' : ∀ l, k ≤ a l) (hb : ∀ l, k ≤ b l)
    (P : Pg F) (Q : PUnit → sProp 𝕄) :
    iprop(env m K ∗ laneA m c k l ∗ St c a b)
      ⊢ iprop(((laneB m c k l ∗ St c (Function.update a l (k + 1)) b) -∗ wpc c P Q) -∗ wpc c (sendL (way c) k l P) Q) := by
  cases k with
  | zero => unfold laneA; exact wp_enq m K c l 0 hk a b ha P Q
  | succ k =>
    unfold laneA
    rw [show (right c l (k + 1) : sProp 𝕄) = crd c l k from rfl]
    unfold crd crCred
    rw [ico_peel k 29 (by omega)]
    iintro ⟨#HE, ⟨Hkeep, HtS, HtR, ⟨Hp, Hc, Hcs⟩, Hs⟩, HSt⟩ Hk
    unfold sendL
    iapply (wait_own m K c (.inr (.inr (.inl l))) k k (2 * k + 3) a b
      (fun Kt => wpE_semWait_eq 𝒱₀ (c : Thread nD τ) none Set.univ (k := 1) Kt)
      (show k < 29 by omega) (by omega) (le_refl (2 * k + 3)) (fun l => by have := ha' l; omega) (fun l => by have := hb l; omega) _ Q)
      $$ [Hc HSt Hp]
    · isplitr; · iexact HE
      isplitl [Hc]; · iexact Hc
      isplitl [HSt]; · iexact HSt
      iexact Hp
    iintro ⟨HSt, Hp, Hpay⟩
    iapply (wp_enq m K c l (k + 1) hk a b ha P Q) $$ [Hkeep HtS HtR Hcs Hs HSt Hp Hpay]
    · isplitr; · iexact HE
      isplitr [HSt]
      · isplitl [Hkeep]; · iexact Hkeep
        isplitl [HtS]; · iexact HtS
        isplitl [HtR]; · iexact HtR
        isplitr [Hs]
        · isplitl [Hp Hcs]
          · unfold crd crCred
            isplitl [Hp]; · iexact Hp
            iexact Hcs
          · have e : pay m c k false (cCred l) = dst c l (k + 1) := by unfold dst; rw [par_two]; rfl
            rw [← e]; iexact Hpay
        iexact Hs
      iexact HSt
    iexact Hk

/-! ## Reading and writing a slot -/

theorem wp_loadSlot (c : Dev nD) (l : Lane) (s : Fin 2) (q : PosShare TreeShare) (f : Buf (Elt F) ((slotM l.1 s l.2).view.loc (c : Thread nD τ)))
    (P : Vec F S1x1x256x1024 .f32 → Pg F) (Q : PUnit → sProp 𝕄) :
    ((slotM l.1 s l.2).view.loc (c : Thread nD τ) ↦[(slotM l.1 s l.2).view.set]{q} f)
      ⊢ iprop((((slotM l.1 s l.2).view.loc (c : Thread nD τ) ↦[(slotM l.1 s l.2).view.set]{q} f)
          -∗ wpc c (P (((bufM l.1).access (slotR s l.2)).read (Elt F) f)) Q) -∗ wpc c (loadSlot l.1 s l.2 P) Q) :=
  wp_load_rect 𝒱₀ (c : Thread nD τ) none Set.univ (m := bufM l.1) (r := slotR s l.2) (by rw [slot_set])

theorem wp_storeSlot (c : Dev nD) (l : Lane) (s : Fin 2) (f : Buf (Elt F) ((slotM l.1 s l.2).view.loc (c : Thread nD τ)))
    (v : FVec F S256x1024 .f32) (P : Pg F) (Q : PUnit → sProp 𝕄) :
    ((slotM l.1 s l.2).view.loc (c : Thread nD τ) ↦[(slotM l.1 s l.2).view.set]{fullShare} f)
      ⊢ iprop((slotAt m c l s fullShare v -∗ wpc c P Q) -∗ wpc c (storeSlot l.1 s l.2 (up4 v) P) Q) := by
  have e : slotAt m c l s fullShare v = (((bufM l.1).access (slotR s l.2)).loc (c : Thread nD τ) ↦[(slotM l.1 s l.2).view.set]{fullShare}
      (((bufM l.1).access (slotR s l.2)).write (Elt F) f (up4 v) Finset.univ) : sProp 𝕄) :=
    (slotAt_intro m c l s fullShare v f).symm.trans
      (congrArg (fun g => ((slotM l.1 s l.2).view.loc (c : Thread nD τ) ↦[(slotM l.1 s l.2).view.set]{fullShare} g : sProp 𝕄))
        (store_slot l.1 s l.2 f v).symm)
  rw [e]
  exact wp_store 𝒱₀ (c : Thread nD τ) none Set.univ (m := bufM l.1) (r := slotR s l.2) (Mk := Finset.univ)
    (w := up4 v) (S := (slotM l.1 s l.2).view.set) (f := f) (k := fun _ => P) (Q := Q)
    (hx := View.stores_vmem_bits_univ h_S1x1x256x1024 rfl) (hm := .inl rfl) (by rw [View.setOn_univ, slot_set])

/-- The first slot is filled. -/
theorem wp_fillL (c : Dev nD) (l : Lane) (V : Bool → FVec F S256x4096 .f32) (P : Pg F) (Q : PUnit → sProp 𝕄) :
    slotAny c l 0 ⊢ iprop((slotAt m c l 0 fullShare (cols l.2 (V l.1)) -∗ wpc c P Q) -∗ wpc c (fillL V l P) Q) := by
  unfold slotAny
  iintro ⟨%f, H⟩ Hk
  unfold fillL
  iapply (wp_loadSlot c l 0 fullShare f _ Q) $$ H
  iintro H
  iapply (wp_storeSlot m c l 0 f (cols l.2 (V l.1)) P Q) $$ H
  iexact Hk

/-! ## The waits of an arrival -/

/-- The arrival semaphores one step on. -/
theorem recvPos_next (c : Dev nD) (l : Lane) (k : ℕ) :
    (recvPos c l (k + 1) : sProp 𝕄) = iprop(pos c (cRecv l (par k)) ((k + 1) / 2) ∗ pos c (cRecv l (par (k + 1))) (k / 2 + 1)) := by
  unfold recvPos; rw [par_two, show (k + 1 + 1) / 2 = k / 2 + 1 by omega]

/-- The send semaphores one step on. -/
theorem sendPos_next (c : Dev nD) (l : Lane) (k : ℕ) :
    (sendPos c l (k + 1) : sProp 𝕄) = iprop(pos c (cSend l (par (k + 1))) ((k + 1) / 2) ∗ pos c (cSend l (par k)) (k / 2 + 1)) := by
  unfold sendPos; rw [par_two, show (k + 1 + 1) / 2 = k / 2 + 1 by omega]

/-- A block arrives. -/
theorem wp_waitRecv (c : Dev nD) (l : Lane) (k : ℕ) (hk : k < 30) (a b : Lane → ℕ) (ha : ∀ l, k + 1 ≤ a l) (hb : ∀ l, k ≤ b l)
    (P : Pg F) (Q : PUnit → sProp 𝕄) :
    iprop(env m K ∗ St c a b ∗ recvPos c l k ∗ crRecv c l k)
      ⊢ iprop(((St c a b ∗ recvPos c l (k + 1) ∗ crRecv c l (k + 1) ∗ recvPay m c l (par (k + 1)) k) -∗ wpc c P Q)
        -∗ wpc c (waitRecv k l P) Q) := by
  rw [recvPos_next]
  unfold recvPos crRecv
  rw [ico_peel k 30 hk]
  iintro ⟨#HE, HSt, ⟨Hp, Hp'⟩, Hc, Hcs⟩ Hk
  unfold waitRecv
  iapply (wait_own m K c (.inr (.inl (l, par (k + 1)))) (k / 2) k (2 * k + 2) a b
    (fun Kt => by rw [show much (.inr (.inr (.inl (l, par (k + 1))))) = (slotM l.1 (par (k + 1)) l.2).view.dmaCredit from (slot_credit _ _ _).symm]
                  exact wpE_waitDma2_eq 𝒱₀ (c : Thread nD τ) none Set.univ Kt)
    (show k / 2 < 15 by omega) (by omega) (le_refl (2 * k + 2)) (fun l => by have := ha l; omega) (fun l => by have := hb l; omega) _ Q)
    $$ [Hc HSt Hp]
  · isplitr; · iexact HE
    isplitl [Hc]; · iexact Hc
    isplitl [HSt]; · iexact HSt
    iexact Hp
  iintro ⟨HSt, Hp, Hpay⟩
  iapply Hk
  isplitl [HSt]; · iexact HSt
  isplitl [Hp Hp']
  · isplitl [Hp']; · iexact Hp'
    iexact Hp
  isplitl [Hcs]; · iexact Hcs
  have e : pay m c (k / 2) false (.inr (.inr (.inl (l, par (k + 1))))) = recvPay m c l (par (k + 1)) k := by
    show recvPay m c l (par (k + 1)) (2 * (k / 2) + (1 - (par (k + 1) : ℕ))) = _
    rw [recv_step]
  rw [← e]; iexact Hpay

/-- A copy into the result ends. -/
theorem wp_waitOut (c : Dev nD) (l : Lane) (k : ℕ) (h : 14 ≤ k) (hk : k < 30) (a b : Lane → ℕ) (P : Pg F) (Q : PUnit → sProp 𝕄) :
    iprop(env m K ∗ St c a b ∗ pos c (cOut l) (k - 14) ∗ cred (tallyAt (cell c (cOut l)) 0 NO))
      ⊢ iprop(((St c a b ∗ pos c (cOut l) (k - 14 + 1) ∗ outPay m c l k) -∗ wpc c P Q) -∗ wpc c (waitOut (way c) k l P) Q) := by
  iintro ⟨#HE, HSt, Hp, Hc⟩ Hk
  unfold waitOut
  iapply (wait_own m K c (.inr (.inr (.inr l))) (k - 14) 0 0 a b
    (fun Kt => by rw [show much (.inr (.inr (.inr (.inr l)))) = (outM (way c) l.1 l.2 (k + 1)).view.dmaCredit from (out_credit _ _ _ _).symm]
                  exact wpE_waitDma2_eq 𝒱₀ (c : Thread nD τ) none Set.univ Kt)
    (show k - 14 < 16 by omega) (by omega) (le_refl 0) (fun l => by omega) (fun l => by omega) _ Q)
    $$ [Hc HSt Hp]
  · isplitr; · iexact HE
    isplitl [Hc]; · iexact Hc
    isplitl [HSt]; · iexact HSt
    iexact Hp
  have e : pay m c (k - 14) false (.inr (.inr (.inr (.inr l)))) = outPay m c l k := by
    show outPay m c l (k - 14 + 14) = _
    rw [Nat.sub_add_cancel h]
  rw [e]
  iexact Hk

/-- A copy into the result starts. -/
theorem wp_putOut (c : Dev nD) (l : Lane) (k : ℕ) (h : 14 ≤ k) (hk : k < 30) (P : Pg F) (Q : PUnit → sProp 𝕄) :
    iprop(env m K ∗ slotAt m c l (par (k + 1)) fullShare.right (blk m (k + 1) c l) ∗ outOld m c l (k + 1)
        ∗ dutyTok ER (cell c (cOut l)) (k - 14) false ∗ reached ER (cell c (cOut l)) (k - 14))
      ⊢ iprop((cred (tallyAt (cell c (cOut l)) 0 NO) -∗ wpc c P Q) -∗ wpc c (putOut (way c) k l P) Q) := by
  unfold outOld slotAt
  iintro ⟨#HE, Hs, Ho, Ht, Hr⟩ Hk
  unfold putOut hereP
  iapply (Rounds.wp_copy_pointsTo 𝒱₀ ER (sched m) (c : Thread nD τ) none (κ := K (c, cOut l)) (sem := csem (cOut l))
      (src := slotM l.1 (par (k + 1)) l.2) (dst := outM (way c) l.1 l.2 (k + 1)) (r := k - 14) (d := false)
      (fd := m ((outM (way c) l.1 l.2 (k + 1)).view.loc (c : Thread nD τ)))
      (by rw [sched_duties m c _ _ (show k - 14 < 16 by omega)]; exact Finset.mem_singleton_self _)
      0 NO (out_credit _ _ _ _) (sched_amount m c _ _ _)
      (by
        rw [sched_payload]
        show _ ⊢ outPay m c l (k - 14 + 14)
        rw [Nat.sub_add_cancel h]; unfold outPay
        rw [View.read_write_univ, outAt_intro]
        exact sep_comm.1)) $$ [Hs Ho Ht Hr]
  · isplitr; · iapply (env_inv m K c (cOut l)); iexact HE
    isplitl [Hs]; · iexact Hs
    isplitl [Ho]; · iexact Ho
    isplitl [Ht]; · iexact Ht
    iexact Hr
  iexact Hk

end Cert.Ring

end
-- ==== Proof.Arrive.lean ====
/- One lane's arrival in a step: in a summing step, in the last of them, and in a gathering step. -/
module

public import proofs.«01_k».proof.Proof.Lane

@[expose] public section

set_option maxRecDepth 100000

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Cell → ℕ)

/-- To stand before a round is to have reached it. -/
theorem pos_reached (c : Dev nD) (x : Cell) (R : ℕ) : (pos c x R : sProp 𝕄) ⊢ iprop(reached ER (cell c x) R ∗ pos c x R) := by
  unfold pos
  iintro ⟨H, #Hr⟩
  isplitr; · iexact Hr
  isplitl [H]; · iexact H
  iexact Hr

/-- Before step `k` a lane knows how often the slot it is about to send has been filled. -/
theorem recvPos_reached (c : Dev nD) (l : Lane) (k : ℕ) :
    (recvPos c l k : sProp 𝕄) ⊢ iprop(reached ER (cell c (cRecv l (par k))) ((k + 1) / 2) ∗ recvPos c l k) := by
  unfold recvPos
  iintro ⟨H, H'⟩
  ihave H' := (pos_reached c (cRecv l (par k)) ((k + 1) / 2)) $$ H'
  icases H' with ⟨Hr, H'⟩
  isplitl [Hr]; · iexact Hr
  isplitl [H]; · iexact H
  iexact H'

/-! ## The end of a lane's step -/

/-- The device upstream is told that the slot it filled has been read. -/
theorem wp_credUp (c : Dev nD) (l : Lane) (k : ℕ) (hk : k < 29) (a b : Lane → ℕ) (hb : b l = k) (P : Pg F) (Q : PUnit → sProp 𝕄) :
    iprop(env m K ∗ St c a b ∗ dutyTok ER (cell (next (!l.1) c) (cCred l)) k false ∗ reached ER (cell (next (!l.1) c) (cCred l)) k
        ∗ slotAny c l (par k) ∗ reached ER (cell c (cRecv l (par k))) ((k + 1) / 2))
      ⊢ iprop((St c a (Function.update b l (k + 1)) -∗ wpc c P Q) -∗ wpc c (credUp (way c) l P) Q) := by
  have e : (sched m).payload (cell (next (!l.1) c) (cCred l)) k false
      = iprop(slotAny c l (par k) ∗ reached ER (cell c (cRecv l (par k))) ((k + 1) / 2)) := by
    rw [sched_payload]
    show credPay (next (!l.1) c) l k = _
    unfold credPay; rw [back_next]
  unfold St
  iintro ⟨#HE, ⟨%W, HO⟩, Ht, Hr, Hs, Hr'⟩ Hk
  unfold credUp
  iapply (Rounds.wp_signal 𝒱₀ ER (sched m) (c : Thread nD τ) none (dst := (next (!l.1) c : Thread nD τ)) (sem := credS l.1 l.2)
      (κ := K (next (!l.1) c, cCred l)) (r := k) (d := false) (k' := 1)
      (by rw [show (((next (!l.1) c : Thread nD τ), SemLoc.reg (credS l.1 l.2)) : GSem nD τ sig) = cell (next (!l.1) c) (cCred l) from rfl,
            sched_duties m _ _ _ (show k < 29 by omega)]; exact Finset.mem_singleton_self _)
      (sched_amount m (next (!l.1) c) (cCred l) k false) k (due c a (Function.update b l (k + 1)))
      (due_cred c a b l k hb hk) (W := W)) $$ [HO Ht Hr Hs Hr']
  · isplitr; · iapply (env_inv m K (next (!l.1) c) (cCred l)); iexact HE
    isplitl [HO]; · iexact HO
    isplitl [Ht]; · iexact Ht
    isplitl [Hs Hr']
    · rw [show (((next (!l.1) c : Thread nD τ), SemLoc.reg (credS l.1 l.2)) : GSem nD τ sig) = cell (next (!l.1) c) (cCred l) from rfl, e]
      isplitl [Hs]; · iexact Hs
      iexact Hr'
    iexact Hr
  iintro HO
  iapply Hk
  iexists _; iexact HO

/-- The end of a step after the slot has come back: the device upstream is told, or in the last step the slot is kept. -/
theorem wp_give (c : Dev nD) (l : Lane) (k : ℕ) (hk : k < 30) (a b : Lane → ℕ) (hb : b l = k) (P : Pg F) (Q : PUnit → sProp 𝕄) :
    iprop(env m K ∗ St c a b ∗ slotAny c l (par k) ∗ tokCred c l k ∗ reached ER (cell (next (!l.1) c) (cCred l)) k
        ∗ reached ER (cell c (cRecv l (par k))) ((k + 1) / 2))
      ⊢ iprop(((St c a (Function.update b l (k + 1)) ∗ tokCred c l (k + 1) ∗ over c l (k + 1)) -∗ wpc c P Q)
        -∗ wpc c (bif Nat.blt k 29 then credUp (way c) l P else P) Q) := by
  unfold tokCred over
  by_cases h : k < 29
  · rw [show Nat.blt k 29 = true from Nat.ble_eq_true_of_le h, cond_true, if_pos (show k + 1 < 30 by omega), ico_peel k 29 h]
    iintro ⟨#HE, HSt, Hs, ⟨Ht, Hts⟩, Hr, Hr'⟩ Hk
    iapply (wp_credUp m K c l k h a b hb P Q) $$ [HSt Ht Hr Hs Hr']
    · isplitr; · iexact HE
      isplitl [HSt]; · iexact HSt
      isplitl [Ht]; · iexact Ht
      isplitl [Hr]; · iexact Hr
      isplitl [Hs]; · iexact Hs
      iexact Hr'
    iintro HSt
    iapply Hk
    isplitl [HSt]; · iexact HSt
    isplitl [Hts]; · iexact Hts
    iempintro
  · have hk29 : k = 29 := by omega
    subst hk29
    have e : (St c a b : sProp 𝕄) = St c a (Function.update b l (29 + 1)) := by
      unfold St; rw [← due_stop c a b l 29 hb (le_refl 29)]
    rw [show Nat.blt 29 29 = false from rfl, cond_false, e, if_neg (show ¬ (29 + 1 < 30) by omega),
      Finset.Ico_eq_empty (a := 29) (by omega), Finset.Ico_eq_empty (a := 29 + 1) (by omega)]
    iintro ⟨-, HSt, Hs, Ht, -, -⟩ Hk
    iapply Hk
    isplitl [HSt]; · iexact HSt
    isplitl [Ht]; · iexact Ht
    iexact Hs

/-- What comes back when a lane's own slot has been read. -/
theorem pay_send (c : Dev nD) (l : Lane) (k : ℕ) :
    pay m c (k / 2) false (.inr (.inl (l, par k))) = slotAt m c l (par k) fullShare.left (blk m k c l) := by
  show slotAt m c l (par k) fullShare.left (blk m (2 * (k / 2) + (par k : ℕ)) c l) = _
  rw [send_step]

/-- The lane's own slot is free again; the device upstream is told, or in the last step the slot is kept. -/
theorem wp_endL (c : Dev nD) (l : Lane) (k : ℕ) (hk : k < 30) (a b : Lane → ℕ) (hb : b l = k) (P : Pg F) (Q : PUnit → sProp 𝕄) :
    iprop(env m K ∗ St c a b ∗ sendPos c l k ∗ cred (tallyAt (cell c (cSend l (par k))) 0 NB)
        ∗ slotAt m c l (par k) fullShare.right (blk m k c l) ∗ tokCred c l k ∗ reached ER (cell (next (!l.1) c) (cCred l)) k
        ∗ reached ER (cell c (cRecv l (par k))) ((k + 1) / 2))
      ⊢ iprop(((St c a (Function.update b l (k + 1)) ∗ sendPos c l (k + 1) ∗ tokCred c l (k + 1) ∗ over c l (k + 1)) -∗ wpc c P Q)
        -∗ wpc c (endL (way c) k l P) Q) := by
  have hw := wait_own m K c (.inl (l, par k)) (k / 2) 0 0 a b
    (fun Kt => by rw [show much (.inr (.inl (l, par k))) = (slotM l.1 (par k) l.2).view.dmaCredit from (slot_credit _ _ _).symm]
                  exact wpE_waitDma2_eq 𝒱₀ (c : Thread nD τ) none Set.univ (src := slotM l.1 (par (k + 1)) l.2)
                    (hsrc := View.wordExact_bits rfl) (hdst := View.wordExact_bits rfl) Kt)
    (show k / 2 < 15 by omega) (by omega) (le_refl 0) (fun l => by omega) (fun l => by omega)
    (bif Nat.blt k 29 then credUp (way c) l P else P) Q
  rw [pay_send] at hw
  rw [sendPos_next]
  unfold sendPos
  iintro ⟨#HE, HSt, ⟨Hp, Hp'⟩, Hc, Hs, Ht, Hr, Hr'⟩ Hk
  unfold endL waitSend
  iapply hw $$ [Hc HSt Hp]
  · isplitr; · iexact HE
    isplitl [Hc]; · iexact Hc
    isplitl [HSt]; · iexact HSt
    iexact Hp
  iintro ⟨HSt, Hp, Hs'⟩
  ihave Hs := (slotAt_halves m c l (par k) (blk m k c l)).2 $$ [Hs Hs']
  · isplitl [Hs']; · iexact Hs'
    iexact Hs
  ihave Hs := (slotAt_any m c l (par k) (blk m k c l)) $$ Hs
  iapply (wp_give m K c l k hk a b hb P Q) $$ [HSt Hs Ht Hr Hr']
  · isplitr; · iexact HE
    isplitl [HSt]; · iexact HSt
    isplitl [Hs]; · iexact Hs
    isplitl [Ht]; · iexact Ht
    isplitl [Hr]; · iexact Hr
    iexact Hr'
  iintro ⟨HSt, Ht, Ho⟩
  iapply Hk
  isplitl [HSt]; · iexact HSt
  isplitl [Hp Hp']
  · isplitl [Hp']; · iexact Hp'
    iexact Hp
  isplitl [Ht]; · iexact Ht
  iexact Ho

/-! ## The arrivals -/

/-- A slot's block is read and written back changed. -/
theorem wp_change (c : Dev nD) (l : Lane) (s : Fin 2) (v : FVec F S256x1024 .f32) (g : FVec F S256x1024 .f32 → FVec F S256x1024 .f32)
    (P : Pg F) (Q : PUnit → sProp 𝕄) :
    slotAt m c l s fullShare v ⊢ iprop((slotAt m c l s fullShare (g v) -∗ wpc c P Q)
      -∗ wpc c (loadSlot l.1 s l.2 fun u => loadSlot l.1 s l.2 fun _ => storeSlot l.1 s l.2 (up4 (g (down4 u))) P) Q) := by
  have hl := wp_loadSlot (F := F) c l s fullShare
    ((slotM l.1 s l.2).view.write (Elt F) (m ((slotM l.1 s l.2).view.loc (c : Thread nD τ))) v Finset.univ)
  have hs := wp_storeSlot m c l s
    ((slotM l.1 s l.2).view.write (Elt F) (m ((slotM l.1 s l.2).view.loc (c : Thread nD τ))) v Finset.univ) (g v) P Q
  have e : down4 (((bufM l.1).access (slotR s l.2)).read (Elt F)
      ((slotM l.1 s l.2).view.write (Elt F) (m ((slotM l.1 s l.2).view.loc (c : Thread nD τ))) v Finset.univ)) = v :=
    (load_slot _ _ _ _).trans (View.read_write_univ _ _)
  have hl1 := hl (fun u => loadSlot l.1 s l.2 fun _ => storeSlot l.1 s l.2 (up4 (g (down4 u))) P) Q
  have hl2 := hl (fun _ => storeSlot l.1 s l.2 (up4 (g v)) P) Q
  rw [e] at hl1
  rw [show (slotAt m c l s fullShare v : sProp 𝕄) = _ from rfl]
  unfold slotAt at hs ⊢
  iintro H Hk
  iapply hl1 $$ H
  iintro H
  iapply hl2 $$ H
  iintro H
  iapply hs $$ H
  iexact Hk

theorem rest_lt (c : Dev nD) (l : Lane) (k : ℕ) (h : k < 15) : rest m c l k = slotAt m c l (par k) fullShare.right (blk m k c l) := if_pos h
theorem rest_ge (c : Dev nD) (l : Lane) (k : ℕ) (h : ¬ k < 15) : rest m c l k = (cred (tallyAt (cell c (cOut l)) 0 NO) : sProp 𝕄) := if_neg h

theorem tokOut_lt (c : Dev nD) (l : Lane) (k : ℕ) (h : k < 14) : (tokOut c l (k + 1) : sProp 𝕄) = tokOut c l k := by
  unfold tokOut; rw [show max (k + 1) 14 = max k 14 by omega]
theorem oldOut_lt (c : Dev nD) (l : Lane) (k : ℕ) (h : k < 14) : oldOut m c l (k + 1) = oldOut m c l k := by
  unfold oldOut; rw [show max (k + 1) 14 = max k 14 by omega]
theorem tokOut_ge (c : Dev nD) (l : Lane) (k : ℕ) (h : 14 ≤ k) (hk : k < 30) :
    (tokOut c l k : sProp 𝕄) = iprop(dutyTok ER (cell c (cOut l)) (k - 14) false ∗ tokOut c l (k + 1)) := by
  unfold tokOut; rw [show max (k + 1) 14 = k + 1 by omega, show max k 14 = k by omega, ico_peel k 30 hk]
theorem oldOut_ge (c : Dev nD) (l : Lane) (k : ℕ) (h : 14 ≤ k) (hk : k < 30) :
    oldOut m c l k = iprop(outOld m c l (k + 1) ∗ oldOut m c l (k + 1)) := by
  unfold oldOut; rw [show max (k + 1) 14 = k + 1 by omega, show max k 14 = k by omega, ico_peel k 30 hk]
theorem newOut_lt (c : Dev nD) (l : Lane) (k : ℕ) (h : k ≤ 14) : newOut m c l k = newOut m c l (k - 1) := by
  unfold newOut; rw [Finset.Ico_eq_empty (by omega), Finset.Ico_eq_empty (by omega)]
theorem newOut_ge (c : Dev nD) (l : Lane) (k : ℕ) (h : 14 ≤ k) :
    newOut m c l (k + 1) = iprop(outAt m c l (k + 1) (blk m (k + 1) c l) ∗ newOut m c l k) := ico_last 14 k h _

/-- An arrival of the summing half. -/
theorem wp_recvAdd (c : Dev nD) (l : Lane) (k : ℕ) (hk : k < 14) (a b : Lane → ℕ) (ha : ∀ l, k + 1 ≤ a l) (hb' : ∀ l, k ≤ b l)
    (hb : b l = k) (P : Pg F) (Q : PUnit → sProp 𝕄) :
    iprop(env m K ∗ laneB m c k l ∗ St c a b)
      ⊢ iprop(((laneA m c (k + 1) l ∗ St c a (Function.update b l (k + 1))) -∗ wpc c P Q)
        -∗ wpc c (recvAdd (way c) k (prodAt m c (k + 1)) l P) Q) := by
  have hch := fun P' => wp_change m c l (par (k + 1)) (blk m k (next (!l.1) c) l) (fun v => addf v (part m c (k + 1) l)) P' Q
  rw [← blk_add m k hk c l] at hch
  unfold laneA laneB keep right
  rw [rest_lt m c l k (by omega), rest_lt m c l (k + 1) (by omega), tokOut_lt c l k hk, oldOut_lt m c l k hk, newOut_lt m c l (k + 1 - 1) (by omega),
    show k + 1 - 1 - 1 = k - 1 by omega, show k + 1 - 15 = k - 15 by omega]
  iintro ⟨#HE, ⟨⟨HsP, HrP, HoP, HtC, HtO, HcR, Hold, Hnew, Hrest, -⟩, HtS, HtR, Hcrd, HcS⟩, HSt⟩ Hk
  unfold recvAdd
  ihave HrP := (recvPos_reached c l k) $$ HrP
  icases HrP with ⟨#Hreach, HrP⟩
  iapply (wp_waitRecv m K c l k (by omega) a b ha hb' _ Q) $$ [HSt HrP HcR]
  · isplitr; · iexact HE
    isplitl [HSt]; · iexact HSt
    isplitl [HrP]; · iexact HrP
    iexact HcR
  unfold recvPay
  iintro ⟨HSt, HrP, HcR, Hs, Hr⟩
  iapply (hch _) $$ Hs
  iintro Hs
  ihave Hs := (slotAt_halves m c l (par (k + 1)) (blk m (k + 1) c l)).1 $$ Hs
  icases Hs with ⟨HsL, HsR⟩
  iapply (wp_endL m K c l k (by omega) a b hb P Q) $$ [HSt HsP HcS Hrest HtC Hr]
  · isplitr; · iexact HE
    isplitl [HSt]; · iexact HSt
    isplitl [HsP]; · iexact HsP
    isplitl [HcS]; · iexact HcS
    isplitl [Hrest]; · iexact Hrest
    isplitl [HtC]; · iexact HtC
    isplitl [Hr]; · iexact Hr
    iexact Hreach
  iintro ⟨HSt, HsP, HtC, Hov⟩
  iapply Hk
  isplitr [HSt]
  · isplitr [HtS HtR Hcrd HsL]
    · isplitl [HsP]; · iexact HsP
      isplitl [HrP]; · iexact HrP
      isplitl [HoP]; · iexact HoP
      isplitl [HtC]; · iexact HtC
      isplitl [HtO]; · iexact HtO
      isplitl [HcR]; · iexact HcR
      isplitl [Hold]; · iexact Hold
      isplitl [Hnew]; · iexact Hnew
      isplitl [HsR]; · iexact HsR
      iexact Hov
    isplitl [HtS]; · iexact HtS
    isplitl [HtR]; · iexact HtR
    isplitl [Hcrd]; · iexact Hcrd
    iexact HsL
  iexact HSt

/-- The last arrival of the summing half: the sum is activated and copied into the result. -/
theorem wp_recvAct (c : Dev nD) (l : Lane) (a b : Lane → ℕ) (ha : ∀ l, 15 ≤ a l) (hb' : ∀ l, 14 ≤ b l)
    (hb : b l = 14) (P : Pg F) (Q : PUnit → sProp 𝕄) :
    iprop(env m K ∗ laneB m c 14 l ∗ St c a b)
      ⊢ iprop(((laneA m c 15 l ∗ St c a (Function.update b l 15)) -∗ wpc c P Q)
        -∗ wpc c (recvAct (way c) 14 (prodAt m c 15) l P) Q) := by
  have hch := fun P' => wp_change m c l (par (14 + 1)) (blk m 14 (next (!l.1) c) l) (fun v => siluP (addf v (part m c 15 l))) P' Q
  rw [← blk_act m c l] at hch
  unfold laneA laneB keep right
  rw [rest_lt m c l 14 (by omega), rest_ge m c l 15 (by omega), tokOut_ge c l 14 (by omega) (by omega), oldOut_ge m c l 14 (by omega) (by omega),
    newOut_lt m c l (15 - 1) (by omega)]
  iintro ⟨#HE, ⟨⟨HsP, HrP, HoP, HtC, ⟨HtO, HtOs⟩, HcR, ⟨Hold, Holds⟩, Hnew, Hrest, -⟩, HtS, HtR, Hcrd, HcS⟩, HSt⟩ Hk
  unfold recvAct
  ihave HrP := (recvPos_reached c l 14) $$ HrP
  icases HrP with ⟨#Hreach, HrP⟩
  iapply (wp_waitRecv m K c l 14 (by omega) a b ha hb' _ Q) $$ [HSt HrP HcR]
  · isplitr; · iexact HE
    isplitl [HSt]; · iexact HSt
    isplitl [HrP]; · iexact HrP
    iexact HcR
  unfold recvPay
  iintro ⟨HSt, HrP, HcR, Hs, Hr⟩
  iapply (hch _) $$ Hs
  iintro Hs
  ihave Hs := (slotAt_halves m c l (par (14 + 1)) (blk m 15 c l)).1 $$ Hs
  icases Hs with ⟨HsL, HsR⟩
  ihave HoP := (pos_reached c (cOut l) 0) $$ HoP
  icases HoP with ⟨#HoR, HoP⟩
  iapply (wp_putOut m K c l 14 (le_refl 14) (by omega) _ Q) $$ [HsR Hold HtO]
  · isplitr; · iexact HE
    isplitl [HsR]; · iexact HsR
    isplitl [Hold]; · iexact Hold
    isplitl [HtO]; · iexact HtO
    iexact HoR
  iintro HcO
  iapply (wp_endL m K c l 14 (by omega) a b hb P Q) $$ [HSt HsP HcS Hrest HtC Hr]
  · isplitr; · iexact HE
    isplitl [HSt]; · iexact HSt
    isplitl [HsP]; · iexact HsP
    isplitl [HcS]; · iexact HcS
    isplitl [Hrest]; · iexact Hrest
    isplitl [HtC]; · iexact HtC
    isplitl [Hr]; · iexact Hr
    iexact Hreach
  iintro ⟨HSt, HsP, HtC, Hov⟩
  iapply Hk
  isplitr [HSt]
  · isplitr [HtS HtR Hcrd HsL]
    · isplitl [HsP]; · iexact HsP
      isplitl [HrP]; · iexact HrP
      isplitl [HoP]; · iexact HoP
      isplitl [HtC]; · iexact HtC
      isplitl [HtOs]; · iexact HtOs
      isplitl [HcR]; · iexact HcR
      isplitl [Holds]; · iexact Holds
      isplitl [Hnew]; · iexact Hnew
      isplitl [HcO]; · iexact HcO
      iexact Hov
    isplitl [HtS]; · iexact HtS
    isplitl [HtR]; · iexact HtR
    isplitl [Hcrd]; · iexact Hcrd
    iexact HsL
  iexact HSt

/-- An arrival of the gathering half: the copy of the step before into the result ends, that of this step starts. -/
theorem wp_recvPass (c : Dev nD) (l : Lane) (k : ℕ) (h : 15 ≤ k) (hk : k < 30) (a b : Lane → ℕ) (ha : ∀ l, k + 1 ≤ a l)
    (hb' : ∀ l, k ≤ b l) (hb : b l = k) (P : Pg F) (Q : PUnit → sProp 𝕄) :
    iprop(env m K ∗ laneB m c k l ∗ St c a b)
      ⊢ iprop(((laneA m c (k + 1) l ∗ St c a (Function.update b l (k + 1))) -∗ wpc c P Q)
        -∗ wpc c (recvPass (way c) k l P) Q) := by
  obtain ⟨r, rfl⟩ : ∃ r, k = r + 15 := ⟨k - 15, by omega⟩
  have hO := fun P' => wp_waitOut m K c l (r + 15 - 1) (by omega) (by omega) a b P' Q
  rw [show r + 15 - 1 - 14 = r by omega] at hO
  unfold outPay at hO
  have hP := fun P' => wp_putOut m K c l (r + 15) (by omega) hk P' Q
  rw [show r + 15 - 14 = r + 1 by omega] at hP
  have hR := fun P' => wp_waitRecv m K c l (r + 15) hk a b ha hb' P' Q
  unfold recvPay at hR
  rw [← blk_pass m (r + 15) h c l] at hR
  unfold laneA laneB keep right
  rw [rest_ge m c l (r + 15) (by omega), rest_ge m c l (r + 15 + 1) (by omega), tokOut_ge c l (r + 15) (by omega) (by omega),
    oldOut_ge m c l (r + 15) (by omega) (by omega), show r + 15 + 1 - 1 = r + 14 + 1 by omega, newOut_ge m c l (r + 14) (by omega),
    show r + 15 - 15 = r by omega, show r + 15 + 1 - 15 = r + 1 by omega, show r + 15 - 14 = r + 1 by omega, show r + 15 - 1 = r + 14 by omega]
  iintro ⟨#HE, ⟨⟨HsP, HrP, HoP, HtC, ⟨HtO, HtOs⟩, HcR, ⟨Hold, Holds⟩, Hnew, Hrest, -⟩, HtS, HtR, Hcrd, HcS⟩, HSt⟩ Hk
  unfold recvPass
  ihave HrP := (recvPos_reached c l (r + 15)) $$ HrP
  icases HrP with ⟨#Hreach, HrP⟩
  iapply (hR _) $$ [HSt HrP HcR]
  · isplitr; · iexact HE
    isplitl [HSt]; · iexact HSt
    isplitl [HrP]; · iexact HrP
    iexact HcR
  iintro ⟨HSt, HrP, HcR, Hs, Hr⟩
  ihave Hs := (slotAt_halves m c l (par (r + 15 + 1)) (blk m (r + 15 + 1) c l)).1 $$ Hs
  icases Hs with ⟨HsL, HsR⟩
  iapply (hO _) $$ [HSt HoP Hrest]
  · isplitr; · iexact HE
    isplitl [HSt]; · iexact HSt
    isplitl [HoP]; · iexact HoP
    iexact Hrest
  iintro ⟨HSt, HoP, Hs', Ho⟩
  ihave HoP := (pos_reached c (cOut l) (r + 1)) $$ HoP
  icases HoP with ⟨#HoR, HoP⟩
  iapply (hP _) $$ [HsR Hold HtO]
  · isplitr; · iexact HE
    isplitl [HsR]; · iexact HsR
    isplitl [Hold]; · iexact Hold
    isplitl [HtO]; · iexact HtO
    iexact HoR
  iintro HcO
  iapply (wp_endL m K c l (r + 15) hk a b hb P Q) $$ [HSt HsP HcS Hs' HtC Hr]
  · isplitr; · iexact HE
    isplitl [HSt]; · iexact HSt
    isplitl [HsP]; · iexact HsP
    isplitl [HcS]; · iexact HcS
    isplitl [Hs']; · iexact Hs'
    isplitl [HtC]; · iexact HtC
    isplitl [Hr]; · iexact Hr
    iexact Hreach
  iintro ⟨HSt, HsP, HtC, Hov⟩
  iapply Hk
  isplitr [HSt]
  · isplitr [HtS HtR Hcrd HsL]
    · isplitl [HsP]; · iexact HsP
      isplitl [HrP]; · iexact HrP
      isplitl [HoP]; · iexact HoP
      isplitl [HtC]; · iexact HtC
      isplitl [HtOs]; · iexact HtOs
      isplitl [HcR]; · iexact HcR
      isplitl [Holds]; · iexact Holds
      isplitl [Hnew Ho]
      · isplitl [Ho]; · iexact Ho
        iexact Hnew
      isplitl [HcO]; · iexact HcO
      iexact Hov
    isplitl [HtS]; · iexact HtS
    isplitl [HtR]; · iexact HtR
    isplitl [Hcrd]; · iexact Hcrd
    iexact HsL
  iexact HSt

end Cert.Ring

end
-- ==== Proof.Steps.lean ====
/- The body of the kernel on one device: the steps lane by lane, the thirty steps, the barrier before and the last copies
   after. -/
module

public import proofs.«01_k».proof.Proof.Arrive

@[expose] public section

set_option maxRecDepth 100000

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Cell → ℕ)

/-! ## Every lane in turn -/

/-- The counts of the lanes of a list put to `n`. -/
def bump (n : ℕ) (ls : List Lane) (a : Lane → ℕ) : Lane → ℕ := fun l => if l ∈ ls then n else a l

theorem bump_cons (n : ℕ) (l : Lane) (ls : List Lane) (a : Lane → ℕ) : bump n ls (Function.update a l n) = bump n (l :: ls) a := by
  funext i
  unfold bump
  by_cases h : i ∈ ls
  · rw [if_pos h, if_pos (List.mem_cons_of_mem _ h)]
  · by_cases hi : i = l
    · subst hi; rw [if_neg h, if_pos List.mem_cons_self, Function.update_self]
    · rw [if_neg h, if_neg (by rw [List.mem_cons]; rintro (h' | h'); exacts [hi h', h h']), Function.update_of_ne hi]

/-- The first of a list of lanes apart. -/
theorem lane_peel (l : Lane) (ls : List Lane) (hn : l ∉ ls.toFinset) (A : Lane → sProp 𝕄) :
    bigSep (l :: ls).toFinset A = iprop(A l ∗ bigSep ls.toFinset A) := by
  rw [List.toFinset_cons]; exact bigSep_insert hn

/-- What one lane does, done for a list of lanes. -/
theorem wp_each (c : Dev nD) (f : Lane → Pg F → Pg F) (A B : Lane → sProp 𝕄) (S : (Lane → ℕ) → sProp 𝕄) (k : ℕ) (Q : PUnit → sProp 𝕄)
    (H : ∀ l a P, a l = k → (∀ i, k ≤ a i) → iprop(env m K ∗ A l ∗ S a)
      ⊢ iprop(((B l ∗ S (Function.update a l (k + 1))) -∗ wpc c P Q) -∗ wpc c (f l P) Q)) :
    ∀ (ls : List Lane) (_ : ls.Nodup) (a : Lane → ℕ) (_ : ∀ l ∈ ls, a l = k) (_ : ∀ i, k ≤ a i) (P : Pg F),
      iprop(env m K ∗ bigSep ls.toFinset A ∗ S a)
        ⊢ iprop(((bigSep ls.toFinset B ∗ S (bump (k + 1) ls a)) -∗ wpc c P Q) -∗ wpc c (each f ls P) Q)
  | [], _, a, _, _, P => by
    have e : bump (k + 1) [] a = a := funext fun i => if_neg (List.not_mem_nil)
    rw [e, List.toFinset_nil, bigSep_empty, bigSep_empty]
    iintro ⟨-, H, HS⟩ Hk
    unfold each
    iapply Hk
    isplitl [H]; · iexact H
    iexact HS
  | l :: ls, hn, a, ha, ha', P => by
    have hl : l ∉ ls.toFinset := by rw [List.mem_toFinset]; exact (List.nodup_cons.mp hn).1
    have ih := wp_each c f A B S k Q H ls (List.nodup_cons.mp hn).2 (Function.update a l (k + 1))
      (fun i hi => by
        rw [Function.update_of_ne (fun e : i = l => (List.nodup_cons.mp hn).1 (e ▸ hi))]; exact ha i (List.mem_cons_of_mem _ hi))
      (fun i => by
        by_cases h : i = l
        · subst h; rw [Function.update_self]; omega
        · rw [Function.update_of_ne h]; exact ha' i) P
    have hh := H l a (each f ls P) (ha l List.mem_cons_self) ha'
    rw [lane_peel l ls hl, lane_peel l ls hl, ← bump_cons]
    iintro ⟨#HE, ⟨HA, HAs⟩, HS⟩ Hk
    unfold each
    iapply hh $$ [HA HS]
    · isplitr; · iexact HE
      isplitl [HA]; · iexact HA
      iexact HS
    iintro ⟨HB, HS⟩
    iapply ih $$ [HAs HS]
    · isplitr; · iexact HE
      isplitl [HAs]; · iexact HAs
      iexact HS
    iintro ⟨HBs, HS⟩
    iapply Hk
    isplitr [HS]
    · isplitl [HB]; · iexact HB
      iexact HBs
    iexact HS

theorem lanes_univ : lanes.toFinset = Finset.univ := by decide
theorem lanesOut_univ : lanesOut.toFinset = Finset.univ := by decide
theorem bump_lanes (n : ℕ) (a : Lane → ℕ) : bump n lanes a = fun _ => n :=
  funext fun i => if_pos (by revert i; decide)

/-- What one lane does, done for all. -/
theorem wp_lanes (c : Dev nD) (f : Lane → Pg F → Pg F) (A B : Lane → sProp 𝕄) (S : (Lane → ℕ) → sProp 𝕄) (k : ℕ) (P : Pg F)
    (Q : PUnit → sProp 𝕄)
    (H : ∀ l a P, a l = k → (∀ i, k ≤ a i) → iprop(env m K ∗ A l ∗ S a)
      ⊢ iprop(((B l ∗ S (Function.update a l (k + 1))) -∗ wpc c P Q) -∗ wpc c (f l P) Q)) :
    iprop(env m K ∗ bigSep Finset.univ A ∗ S fun _ => k)
      ⊢ iprop(((bigSep Finset.univ B ∗ S fun _ => k + 1) -∗ wpc c P Q) -∗ wpc c (each f lanes P) Q) := by
  have h := wp_each m K c f A B S k Q H lanes (by decide) (fun _ => k) (fun _ _ => rfl) (fun _ => le_refl _) P
  rw [bump_lanes, lanes_univ] at h
  exact h

/-! ## The products -/

/-- The staged operands of a device. -/
def stg (c : Dev nD) : sProp 𝕄 :=
  iprop(((c : Thread nD τ).loc cc0_stg0_0 ↦{fullShare} xst m c) ∗ ((c : Thread nD τ).loc cc0_stg1_0 ↦{fullShare} wst m c))

/-- A step's products. -/
theorem wp_prods (c : Dev nD) (k : ℕ) (P : (Bool → FVec F S256x4096 .f32) → Pg F) (Q : PUnit → sProp 𝕄) :
    stg m c ⊢ iprop((stg m c -∗ wpc c (P (prodAt m c k)) Q) -∗ wpc c (prods (way c) k P) Q) := by
  have e : prodAt m c k = fun d => match d with
      | false => prodP (xAt (way c) k false (xst m c)) (wAt false (wst m c))
      | true => prodP (xAt (way c) k true (xst m c)) (wAt true (wst m c)) := by
    funext d; cases d <;> rfl
  rw [e]
  unfold stg
  iintro ⟨Hx, Hw⟩ Hk
  unfold prods
  iapply (wp_load 𝒱₀ (c : Thread nD τ) none Set.univ (m := (Memref.whole cc0_stg0_0 : Memref sig .tc .vmem S4096x256 .f32)) (Finset.subset_univ _)) $$ Hx
  iintro Hx
  iapply (wp_load 𝒱₀ (c : Thread nD τ) none Set.univ (m := (Memref.whole cc0_stg1_0 : Memref sig .tc .vmem S256x8192 .f32)) (Finset.subset_univ _)) $$ Hw
  iintro Hw
  iapply (wp_load 𝒱₀ (c : Thread nD τ) none Set.univ (m := (Memref.whole cc0_stg0_0 : Memref sig .tc .vmem S4096x256 .f32)) (Finset.subset_univ _)) $$ Hx
  iintro Hx
  iapply (wp_load 𝒱₀ (c : Thread nD τ) none Set.univ (m := (Memref.whole cc0_stg1_0 : Memref sig .tc .vmem S256x8192 .f32)) (Finset.subset_univ _)) $$ Hw
  iintro Hw
  iapply Hk
  isplitl [Hx]; · iexact Hx
  iexact Hw

/-! ## The steps -/

/-- All lanes of a device before step `k`. -/
def Inv (c : Dev nD) (k : ℕ) : sProp 𝕄 :=
  iprop(stg m c ∗ bigSep Finset.univ (laneA m c k) ∗ St c (fun _ => k) (fun _ => k))

/-- The sends of a step. -/
theorem wp_sends (c : Dev nD) (k : ℕ) (hk : k < 30) (P : Pg F) (Q : PUnit → sProp 𝕄) :
    iprop(env m K ∗ bigSep Finset.univ (laneA m c k) ∗ St c (fun _ => k) (fun _ => k))
      ⊢ iprop(((bigSep Finset.univ (laneB m c k) ∗ St c (fun _ => k + 1) (fun _ => k)) -∗ wpc c P Q)
        -∗ wpc c (each (sendL (way c) k) lanes P) Q) :=
  wp_lanes m K c (sendL (way c) k) (laneA m c k) (laneB m c k) (fun a => St c a fun _ => k) k P Q
    fun l a P h h' => wp_sendL m K c l k hk a _ h h' (fun _ => le_refl _) P Q

/-- One step. -/
theorem wp_step (c : Dev nD) (k : ℕ) (hk : k < 30) (P : Pg F) (Q : PUnit → sProp 𝕄) :
    iprop(env m K ∗ Inv m c k) ⊢ iprop((Inv m c (k + 1) -∗ wpc c P Q) -∗ wpc c (stepP (way c) k P) Q) := by
  unfold Inv stepP
  by_cases h14 : k < 14
  · rw [show Nat.blt k 14 = true from Nat.ble_eq_true_of_le h14, cond_true]
    have hr := wp_lanes m K c (recvAdd (way c) k (prodAt m c (k + 1))) (laneB m c k) (laneA m c (k + 1)) (fun b => St c (fun _ => k + 1) b) k P Q
      fun l b P h h' => wp_recvAdd m K c l k h14 _ b (fun _ => le_refl _) h' h P Q
    iintro ⟨#HE, Hg, HA, HS⟩ Hk
    iapply (wp_sends m K c k hk _ Q) $$ [HA HS]
    · isplitr; · iexact HE
      isplitl [HA]; · iexact HA
      iexact HS
    iintro ⟨HB, HS⟩
    iapply (wp_prods m c (k + 1) _ Q) $$ Hg
    iintro Hg
    iapply hr $$ [HB HS]
    · isplitr; · iexact HE
      isplitl [HB]; · iexact HB
      iexact HS
    iintro ⟨HA, HS⟩
    iapply Hk
    isplitl [Hg]; · iexact Hg
    isplitl [HA]; · iexact HA
    iexact HS
  · rw [show Nat.blt k 14 = false by rw [← Bool.not_eq_true, Nat.blt_eq]; exact h14, cond_false]
    by_cases h15 : k < 15
    · obtain rfl : k = 14 := by omega
      rw [show Nat.blt 14 15 = true from rfl, cond_true]
      have hr := wp_lanes m K c (recvAct (way c) 14 (prodAt m c 15)) (laneB m c 14) (laneA m c 15) (fun b => St c (fun _ => 15) b) 14 P Q
        fun l b P h h' => wp_recvAct m K c l _ b (fun _ => le_refl _) h' h P Q
      iintro ⟨#HE, Hg, HA, HS⟩ Hk
      iapply (wp_sends m K c 14 hk _ Q) $$ [HA HS]
      · isplitr; · iexact HE
        isplitl [HA]; · iexact HA
        iexact HS
      iintro ⟨HB, HS⟩
      iapply (wp_prods m c 15 _ Q) $$ Hg
      iintro Hg
      iapply hr $$ [HB HS]
      · isplitr; · iexact HE
        isplitl [HB]; · iexact HB
        iexact HS
      iintro ⟨HA, HS⟩
      iapply Hk
      isplitl [Hg]; · iexact Hg
      isplitl [HA]; · iexact HA
      iexact HS
    · rw [show Nat.blt k 15 = false by rw [← Bool.not_eq_true, Nat.blt_eq]; exact h15, cond_false]
      have hr := wp_lanes m K c (recvPass (way c) k) (laneB m c k) (laneA m c (k + 1)) (fun b => St c (fun _ => k + 1) b) k P Q
        fun l b P h h' => wp_recvPass m K c l k (by omega) hk _ b (fun _ => le_refl _) h' h P Q
      iintro ⟨#HE, Hg, HA, HS⟩ Hk
      iapply (wp_sends m K c k hk _ Q) $$ [HA HS]
      · isplitr; · iexact HE
        isplitl [HA]; · iexact HA
        iexact HS
      iintro ⟨HB, HS⟩
      iapply hr $$ [HB HS]
      · isplitr; · iexact HE
        isplitl [HB]; · iexact HB
        iexact HS
      iintro ⟨HA, HS⟩
      iapply Hk
      isplitl [Hg]; · iexact Hg
      isplitl [HA]; · iexact HA
      iexact HS

/-- The steps from `k` on. -/
theorem wp_steps (c : Dev nD) (P : Pg F) (Q : PUnit → sProp 𝕄) : ∀ (n k : ℕ) (_ : k + n ≤ 30),
    iprop(env m K ∗ Inv m c k) ⊢ iprop((Inv m c (k + n) -∗ wpc c P Q) -∗ wpc c (stepsP (way c) n k P) Q)
  | 0, k, _ => by
    iintro ⟨-, H⟩ Hk
    unfold stepsP
    iapply Hk
    iexact H
  | n + 1, k, h => by
    have ih := wp_steps c P Q n (k + 1) (by omega)
    rw [show k + 1 + n = k + (n + 1) by omega] at ih
    iintro ⟨#HE, H⟩ Hk
    unfold stepsP
    iapply (wp_step m K c k (by omega) _ Q) $$ [H]
    · isplitr; · iexact HE
      iexact H
    iintro H
    iapply ih $$ [H]
    · isplitr; · iexact HE
      iexact H
    iexact Hk

/-! ## Before the steps -/

/-- A lane before the barrier, but for its slots. -/
def lane0 (c : Dev nD) (l : Lane) : sProp 𝕄 :=
  iprop(sendPos c l 0 ∗ recvPos c l 0 ∗ pos c (cOut l) 0 ∗ tokCred c l 0 ∗ tokOut c l 0 ∗ crRecv c l 0 ∗ oldOut m c l 0
    ∗ tokSend c l 0 ∗ tokRecv c l 0 ∗ crd c l 0)

/-- The first slots are filled and halved. -/
theorem wp_fills (c : Dev nD) (P : Pg F) (Q : PUnit → sProp 𝕄) :
    iprop(env m K ∗ (bigSep Finset.univ fun l => iprop(lane0 m c l ∗ slotAny c l 0 ∗ dst c l 0)) ∗ St c (fun _ => 0) (fun _ => 0))
      ⊢ iprop(((bigSep Finset.univ (laneA m c 0) ∗ St c (fun _ => 0) (fun _ => 0)) -∗ wpc c P Q)
        -∗ wpc c (each (fillL (prodAt m c 0)) lanes P) Q) := by
  refine wp_lanes m K c (fillL (prodAt m c 0)) _ (laneA m c 0) (fun _ => St c (fun _ => 0) (fun _ => 0)) 0 P Q fun l a P _ _ => ?_
  have hf : slotAny c l 0 ⊢ iprop((slotAt m c l 0 fullShare (blk m 0 c l) -∗ wpc c P Q) -∗ wpc c (fillL (prodAt m c 0) l P) Q) :=
    wp_fillL m c l (prodAt m c 0) P Q
  unfold laneA keep lane0 over right newOut
  rw [if_pos (show 0 < 30 by omega), Finset.Ico_eq_empty (by omega), bigSep_empty, rest_lt m c l 0 (by omega)]
  iintro ⟨-, ⟨⟨H1, H2, H3, H4, H5, H6, H7, H8, H9, H10⟩, Hs, Hd⟩, HS⟩ Hk
  iapply hf $$ Hs
  iintro Hs
  ihave Hs := (slotAt_halves m c l 0 (blk m 0 c l)).1 $$ Hs
  icases Hs with ⟨HsL, HsR⟩
  iapply Hk
  isplitr [HS]
  · isplitr [H8 H9 H10 Hd HsL]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitr; · iempintro
      isplitl [HsR]; · iexact HsR
      iempintro
    isplitl [H8]; · iexact H8
    isplitl [H9]; · iexact H9
    isplitl [H10 Hd]
    · isplitl [H10]; · iexact H10
      iexact Hd
    iexact HsL
  iexact HS

/-- What the barrier hands over is the slot downstream of every lane. -/
theorem bar_dst (c : Dev nD) : iprop(barPay c false ∗ barPay c true) = (bigSep Finset.univ fun l : Lane => (dst c l 0 : sProp 𝕄)) := by
  rw [bigSep_univ_prod]
  refine Eq.symm ((bigSep_univ_eq_bigSepL [false, true] (by decide) (by decide) _).trans ?_)
  rw [bigSepL_cons_cons, bigSepL_singleton]; rfl

end Cert.Ring

end
-- ==== Proof.Body.lean ====
/- The whole body on one device: the barrier, the steps, the last copies into the result, and the semaphores closed at
   zero. -/
module

public import proofs.«01_k».proof.Proof.Steps

@[expose] public section

set_option maxRecDepth 100000

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (K : Dev nD × Cell → ℕ)

/-! ## A device's cells by lanes -/

/-- Over all cells of a device: the barrier's, and each lane's six. -/
theorem cells_lanes (Φ : Cell → sProp 𝕄) :
    bigSep Finset.univ Φ = iprop(Φ cBar ∗ bigSep Finset.univ fun l : Lane =>
      iprop((Φ (cSend l 0) ∗ Φ (cSend l 1)) ∗ (Φ (cRecv l 0) ∗ Φ (cRecv l 1)) ∗ Φ (cCred l) ∗ Φ (cOut l))) := by
  have two : ∀ Ψ : Fin 2 → sProp 𝕄, bigSep Finset.univ Ψ = iprop(Ψ 0 ∗ Ψ 1) := fun Ψ => by
    refine (bigSep_univ_eq_bigSepL [0, 1] (by decide) (by decide) _).trans ?_
    rw [bigSepL_cons_cons, bigSepL_singleton]; rfl
  have one : ∀ Ψ : Fin 1 → sProp 𝕄, bigSep Finset.univ Ψ = Ψ 0 := fun Ψ => by
    refine (bigSep_univ_eq_bigSepL [0] (by decide) (by decide) _).trans ?_
    rw [bigSepL_singleton]
  have pairs : ∀ Ψ : Lane × Fin 2 → sProp 𝕄, bigSep Finset.univ Ψ
      = iprop((bigSep Finset.univ fun l => Ψ (l, 0)) ∗ bigSep Finset.univ fun l => Ψ (l, 1)) := fun Ψ => by
    rw [bigSep_univ_prod, ← bigSep_sep']
    exact bigSep_congr fun l _ => two fun s => Ψ (l, s)
  rw [bigSep_univ_sum, bigSep_univ_sum, bigSep_univ_sum, bigSep_univ_sum, one, pairs, pairs]
  simp only [bigSep_sep']
  rfl

/-! ## The last copies -/

/-- A lane at the end. -/
def laneE (c : Dev nD) (l : Lane) : sProp 𝕄 :=
  iprop((pos c (cSend l 0) 15 ∗ pos c (cSend l 1) 15) ∗ (pos c (cRecv l 0) 15 ∗ pos c (cRecv l 1) 15) ∗ pos c (cCred l) 29 ∗ pos c (cOut l) 16)

/-- What a lane leaves: its slots and its blocks of the result. -/
def laneZ (c : Dev nD) (l : Lane) : sProp 𝕄 := iprop((slotAny c l 0 ∗ slotAny c l 1) ∗ newOut m c l 30)

/-- The last copy of a lane into the result is awaited. -/
theorem wp_last (c : Dev nD) (l : Lane) (P : Pg F) (Q : PUnit → sProp 𝕄) :
    iprop(env m K ∗ laneA m c 30 l ∗ St c (fun _ => 30) (fun _ => 30))
      ⊢ iprop((((laneE c l ∗ laneZ m c l) ∗ St c (fun _ => 30) (fun _ => 30)) -∗ wpc c P Q) -∗ wpc c (waitOut (way c) 29 l P) Q) := by
  have hO := wp_waitOut m K c l 29 (by omega) (by omega) (fun _ => 30) (fun _ => 30) P Q
  unfold outPay at hO
  unfold laneE laneZ laneA keep over right crd sendPos recvPos
  rw [if_neg (show ¬ 30 < 30 by omega), rest_ge m c l 30 (by omega), newOut_ge m c l 29 (by omega)]
  iintro ⟨#HE, ⟨⟨⟨H1, H2⟩, ⟨H3, H4⟩, HoP, -, -, -, -, Hnew, Hrest, Hov⟩, -, -, ⟨HcP, -⟩, HsL⟩, HS⟩ Hk
  iapply hO $$ [HS HoP Hrest]
  · isplitr; · iexact HE
    isplitl [HS]; · iexact HS
    isplitl [HoP]; · iexact HoP
    iexact Hrest
  iintro ⟨HS, HoP, HsR, Ho⟩
  iapply Hk
  isplitr [HS]
  · isplitl [H1 H2 H3 H4 HoP HcP]
    · isplitl [H1 H2]
      · isplitl [H1]; · iexact H1
        iexact H2
      isplitl [H3 H4]
      · isplitl [H4]; · iexact H4
        iexact H3
      isplitl [HcP]; · iexact HcP
      iexact HoP
    isplitr [Hnew Ho]
    · isplitr [Hov]
      · iapply (slotAt_any m c l 0 (blk m 30 c l))
        iapply (slotAt_halves m c l 0 (blk m 30 c l)).2
        isplitl [HsL]; · iexact HsL
        iexact HsR
      iexact Hov
    isplitl [Ho]; · iexact Ho
    iexact Hnew
  iexact HS

/-- The last copies of all lanes. -/
theorem wp_lasts (c : Dev nD) (P : Pg F) (Q : PUnit → sProp 𝕄) :
    iprop(env m K ∗ bigSep Finset.univ (laneA m c 30) ∗ St c (fun _ => 30) (fun _ => 30))
      ⊢ iprop(((bigSep Finset.univ (fun l => iprop(laneE c l ∗ laneZ m c l)) ∗ St c (fun _ => 30) (fun _ => 30)) -∗ wpc c P Q)
        -∗ wpc c (each (waitOut (way c) 29) lanesOut P) Q) := by
  have h := wp_each m K c (waitOut (way c) 29) (laneA m c 30) (fun l => iprop(laneE c l ∗ laneZ m c l)) (fun _ => St c (fun _ => 30) (fun _ => 30)) 0 Q
    (fun l a P _ _ => wp_last m K c l P Q) lanesOut (by decide) (fun _ => 0) (fun _ _ => rfl) (fun _ => le_refl _) P
  rw [lanesOut_univ] at h
  exact h

/-! ## The semaphores close -/

/-- A cell whose rounds are over is at zero, and the device's again. -/
theorem close_one (c : Dev nD) (x : Cell) : iprop(env m K ∗ pos c x (rounds x)) ⊢ |={Set.univ}=> (semVal (cell c x) 0 : sProp 𝕄) := by
  unfold pos
  iintro ⟨#HE, HA, -⟩
  iapply (Rounds.cell_close ER (sched m) (Set.mem_univ (K (c, x))) (fun h => h) (R := rounds x) (fun r hr => sched_done m c x r hr))
  isplitr; · iapply (env_inv m K c x); iexact HE
  iexact HA

/-- All of them. -/
theorem close_all (c : Dev nD) : iprop(env m K ∗ pos c cBar 1 ∗ bigSep Finset.univ (laneE c))
    ⊢ |={Set.univ}=> (bigSep Finset.univ fun x : Cell => (semVal (cell c x) 0 : sProp 𝕄)) := by
  have e : (iprop(pos c cBar 1 ∗ bigSep Finset.univ (laneE c)) : sProp 𝕄) = bigSep Finset.univ fun x : Cell => pos c x (rounds x) :=
    (cells_lanes (F := F) fun x => pos c x (rounds x)).symm
  have hm : (bigSep Finset.univ fun x : Cell => iprop(env m K ∗ pos c x (rounds x)))
      ⊢ bigSep Finset.univ fun x : Cell => iprop(|={Set.univ}=> (semVal (cell c x) 0 : sProp 𝕄)) :=
    bigSep_mono fun x _ => close_one m K c x
  rw [e]
  iintro ⟨#HE, H⟩
  iapply (bigSep_fupd (E := Set.univ) Finset.univ fun x : Cell => (semVal (cell c x) 0 : sProp 𝕄))
  iapply hm
  rw [bigSep_sep']
  isplitr
  · iapply (bigSep_of_persistent Finset.univ (env m K)); iexact HE
  iexact H

/-! ## The barrier -/

/-- What a device holds of the barrier: its place, the credit of two signals, and its right to signal its neighbours'. -/
def barS (c : Dev nD) : sProp 𝕄 :=
  iprop(pos c cBar 0 ∗ cred (tallyAt (cell c cBar) 0 2)
    ∗ dutyTok ER (cell (next true c) cBar) 0 false ∗ dutyTok ER (cell (next false c) cBar) 0 true)

/-- What a signal hands over: the second slots of the direction, and that nothing has arrived there. -/
theorem bar_give (c : Dev nD) (d : Bool) :
    iprop(env m K ∗ bigSep Finset.univ fun j : Fin 4 => slotAny c (d, j) 1) ⊢ (sched m).payload (cell (next (!d) c) cBar) 0 d := by
  rw [sched_payload]
  show _ ⊢ barPay (next (!d) c) d
  unfold barPay
  rw [back_next, bigSep_sep']
  iintro ⟨#HE, H⟩
  isplitl [H]; · iexact H
  iapply (bigSep_intro_persistent (R := env m K) (fun j _ => env_reached m K c (cRecv (d, j) 1)))
  iexact HE

/-- Each neighbour is told, and both are heard. -/
theorem wp_barrier (c : Dev nD) (P : Pg F) (Q : PUnit → sProp 𝕄) :
    iprop(env m K ∗ barS c ∗ (bigSep Finset.univ fun l : Lane => slotAny c l 1) ∗ ∃ W, owes (c : Thread nD τ) (owed₀ c) W)
      ⊢ iprop(((pos c cBar 1 ∗ (bigSep Finset.univ fun l : Lane => dst c l 0) ∗ St c (fun _ => 0) (fun _ => 0)) -∗ wpc c P Q)
        -∗ wpc c (barrierP (way c) P) Q) := by
  have e : (bigSep Finset.univ fun l : Lane => (slotAny c l 1 : sProp 𝕄))
      = iprop((bigSep Finset.univ fun j : Fin 4 => slotAny c (false, j) 1) ∗ bigSep Finset.univ fun j : Fin 4 => slotAny c (true, j) 1) := by
    rw [bigSep_univ_prod]
    refine (bigSep_univ_eq_bigSepL [false, true] (by decide) (by decide) _).trans ?_
    rw [bigSepL_cons_cons, bigSepL_singleton]; rfl
  have hM : env m K ⊢ MayWait (c : Thread nD τ) (csem cBar) 0 (due c (fun _ => 0) (fun _ => 0)) :=
    (env_lev m K).trans (mayWait_due c cBar 0 1 (by omega) _ _ (le_refl 1) (fun l => by omega) (fun l => by omega))
  have g1 : iprop(env m K ∗ bigSep Finset.univ fun j : Fin 4 => slotAny c (false, j) 1)
      ⊢ (sched m).payload ((next true c : Thread nD τ), SemLoc.reg (sig.barrier 0 rfl)) 0 false := bar_give m K c false
  have g2 : iprop(env m K ∗ bigSep Finset.univ fun j : Fin 4 => slotAny c (true, j) 1)
      ⊢ (sched m).payload ((next false c : Thread nD τ), SemLoc.reg (sig.barrier 0 rfl)) 0 true := bar_give m K c true
  rw [e, ← bar_dst]
  unfold St barS
  rw [show (pos c cBar 0 : sProp 𝕄) = iprop(atPos ER (cell c cBar) 0 ∅ 0 ∗ reached ER (cell c cBar) 0) from rfl,
    show (pos c cBar 1 : sProp 𝕄) = iprop(atPos ER (cell c cBar) 1 ∅ 0 ∗ reached ER (cell c cBar) 1) from rfl]
  iintro ⟨#HE, ⟨⟨Hp, -⟩, Hc, Ht, Ht'⟩, ⟨Hs, Hs'⟩, ⟨%W, HO⟩⟩ Hk
  unfold barrierP
  iapply (Rounds.wp_signal 𝒱₀ ER (sched m) (c : Thread nD τ) none (dst := (next true c : Thread nD τ)) (sem := sig.barrier 0 rfl)
      (κ := K (next true c, cBar)) (r := 0) (d := false) (k' := 1)
      (by have h := sched_duties m (next true c) cBar 0 Nat.one_pos
          rw [show (((next true c : Thread nD τ), SemLoc.reg (sig.barrier 0 rfl)) : GSem nD τ sig) = cell (next true c) cBar from rfl, h]
          exact Finset.mem_univ _)
      (sched_amount m (next true c) cBar 0 false) 0 (due c (fun _ => 0) (fun _ => 0) + tallyAt (cell (next false c) cBar) 0 1) rfl (W := W))
      $$ [HO Ht Hs]
  · isplitr; · iapply (env_inv m K (next true c) cBar); iexact HE
    isplitl [HO]; · iexact HO
    isplitl [Ht]; · iexact Ht
    isplitl [Hs]
    · iapply g1
      isplitr; · iexact HE
      iexact Hs
    iapply (env_reached m K (next true c) cBar); iexact HE
  iintro HO
  iapply (Rounds.wp_signal 𝒱₀ ER (sched m) (c : Thread nD τ) none (dst := (next false c : Thread nD τ)) (sem := sig.barrier 0 rfl)
      (κ := K (next false c, cBar)) (r := 0) (d := true) (k' := 1)
      (by have h := sched_duties m (next false c) cBar 0 Nat.one_pos
          rw [show (((next false c : Thread nD τ), SemLoc.reg (sig.barrier 0 rfl)) : GSem nD τ sig) = cell (next false c) cBar from rfl, h]
          exact Finset.mem_univ _)
      (sched_amount m (next false c) cBar 0 true) 0 (due c (fun _ => 0) (fun _ => 0)) rfl (W := W))
      $$ [HO Ht' Hs']
  · isplitr; · iapply (env_inv m K (next false c) cBar); iexact HE
    isplitl [HO]; · iexact HO
    isplitl [Ht']; · iexact Ht'
    isplitl [Hs']
    · iapply g2
      isplitr; · iexact HE
      iexact Hs'
    iapply (env_reached m K (next false c) cBar); iexact HE
  iintro HO
  iapply (Rounds.wp_wait_rest_token 𝒱₀ ER (sched m) (c : Thread nD τ) none (κ := K (c, cBar)) (sm := csem cBar)
      (wpE_semWait_eq 𝒱₀ (c : Thread nD τ) none Set.univ (k := 2)) (Set.mem_univ _) 0
      (O := due c (fun _ => 0) (fun _ => 0)) (W := W) (R := 0) (m := 0) (k' := 2) (T := ∅)
      ((Nat.zero_add _).trans (sched_expect_bar m c).symm)) $$ [Hc HO Hp]
  · isplitr; · iapply (env_inv m K c cBar); iexact HE
    isplitl [Hc]; · iexact Hc
    isplitl [HO]; · iexact HO
    isplitr; · iapply hM; iexact HE
    iexact Hp
  iintro ⟨HO, Hat, Hr, Hp⟩
  ihave Hp := (Entails.of_eq (sched_rest_bar m c)) $$ Hp
  iapply Hk
  isplitl [Hat Hr]
  · isplitl [Hat]; · iexact Hat
    iexact Hr
  isplitl [Hp]; · iexact Hp
  iexists _; iexact HO

/-! ## The whole body -/

/-- What a device starts with. -/
def begin (c : Dev nD) : sProp 𝕄 :=
  iprop(barS c ∗ bigSep Finset.univ (lane0 m c))

/-- The slots of a device. -/
def slots (c : Dev nD) : sProp 𝕄 := bigSep Finset.univ fun l : Lane => iprop(slotAny c l 0 ∗ slotAny c l 1)

/-- What it ends with: every semaphore at zero, and the blocks of the result. -/
def finish (c : Dev nD) : sProp 𝕄 :=
  iprop((bigSep Finset.univ fun x : Cell => (semVal (cell c x) 0 : sProp 𝕄)) ∗ bigSep Finset.univ fun l => newOut m c l 30)

/-- The body of a device. -/
theorem wp_ring (c : Dev nD) (Q : PUnit → sProp 𝕄) :
    iprop(env m K ∗ begin m c ∗ slots c ∗ stg m c ∗ ∃ W, owes (c : Thread nD τ) (owed₀ c) W)
      ⊢ iprop(((finish m c ∗ slots c ∗ stg m c ∗ ∃ W, owes (c : Thread nD τ) 0 W) -∗ Q ⟨⟩) -∗ wpc c (ringP (way c)) Q) := by
  have e0 : (St c (fun _ => 30) (fun _ => 30) : sProp 𝕄) = iprop(∃ W, owes (c : Thread nD τ) 0 W) := by
    unfold St; rw [due_end c _ _ (fun _ => le_refl _) (fun _ => by omega)]
  have hf := fun P => wp_fills m K c P Q
  rw [bigSep_sep', bigSep_sep'] at hf
  have hs : ∀ P, iprop(env m K ∗ Inv m c 0) ⊢ iprop((Inv m c 30 -∗ wpc c P Q) -∗ wpc c (stepsP (way c) 30 0 P) Q) :=
    fun P => wp_steps m K c P Q 30 0 (by omega)
  unfold Inv at hs
  rw [e0] at hs
  have hl := fun P => wp_lasts m K c P Q
  unfold laneZ at hl
  rw [bigSep_sep', bigSep_sep', bigSep_sep', e0] at hl
  unfold begin finish slots
  rw [bigSep_sep']
  iintro ⟨#HE, ⟨Hb, H0⟩, ⟨Hs0, Hs1⟩, Hg, HO⟩ Hk
  unfold ringP
  iapply (wp_barrier m K c _ Q) $$ [Hb Hs1 HO]
  · isplitr; · iexact HE
    isplitl [Hb]; · iexact Hb
    isplitl [Hs1]; · iexact Hs1
    iexact HO
  iintro ⟨Hbar, Hd, HS⟩
  iapply (wp_prods m c 0 _ Q) $$ Hg
  iintro Hg
  iapply (hf _) $$ [H0 Hs0 Hd HS]
  · isplitr; · iexact HE
    isplitr [HS]
    · isplitl [H0]; · iexact H0
      isplitl [Hs0]; · iexact Hs0
      iexact Hd
    iexact HS
  iintro ⟨HA, HS⟩
  iapply (hs _) $$ [Hg HA HS]
  · isplitr; · iexact HE
    isplitl [Hg]; · iexact Hg
    isplitl [HA]; · iexact HA
    iexact HS
  iintro ⟨Hg, HA, HS⟩
  iapply (hl _) $$ [HA HS]
  · isplitr; · iexact HE
    isplitl [HA]; · iexact HA
    iexact HS
  iintro ⟨⟨HEs, Hsl, Hnew⟩, HO⟩
  imod (close_all m K c) $$ [Hbar HEs] with Hz
  · isplitr; · iexact HE
    isplitl [Hbar]; · iexact Hbar
    iexact HEs
  rw [wp_ret]
  imodintro
  iapply Hk
  isplitl [Hz Hnew]
  · isplitl [Hz]; · iexact Hz
    iexact Hnew
  isplitl [Hsl]; · iexact Hsl
  isplitl [Hg]; · iexact Hg
  iexact HO

end Cert.Ring

end
-- ==== Proof.Pieces.lean ====
/- The buffers in pieces: a direction's slots, and the result's blocks. -/
module

public import proofs.«01_k».proof.Proof.Body
public import Idealize.ShloMosaic.Lib.SparseCore.Launch
public import Idealize.ShloMosaic.Lib.Pipeline.ValueKit.Geometry

@[expose] public section

set_option maxRecDepth 100000

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## The slots of a direction -/

/-- The elements of a direction's buffer. -/
abbrev BufIdx (d : Bool) : Type := (bufM d).view.ty.Idx

/-- The elements of a slot's block. -/
def slotSet (d : Bool) (p : Fin 4 × Fin 2) : Finset (BufIdx d) := (slotM d p.2 p.1).view.set

theorem mem_slot (i : S2x4x256x1024.Idx) (s : Fin 2) (j : Fin 4) :
    i ∈ (slotR s j).set ↔ (i 0 : ℕ) = s ∧ (i 1 : ℕ) = j := by
  unfold slotR
  rw [Rect.mem_set_unit]
  constructor
  · intro h
    have h0 := h 0
    have h1 := h 1
    have e0 : (s : ℕ) ≤ i 0 ∧ (i 0 : ℕ) < s + 1 := h0
    have e1 : (j : ℕ) ≤ i 1 ∧ (i 1 : ℕ) < j + 1 := h1
    omega
  · rintro ⟨h0, h1⟩ a
    match a with
    | 0 => show (s : ℕ) ≤ i 0 ∧ (i 0 : ℕ) < s + 1; omega
    | 1 => show (j : ℕ) ≤ i 1 ∧ (i 1 : ℕ) < j + 1; omega
    | 2 => exact ⟨Nat.zero_le _, by have := (i 2).isLt; show (i 2 : ℕ) < 0 + 256; simpa using this⟩
    | 3 => exact ⟨Nat.zero_le _, by have := (i 3).isLt; show (i 3 : ℕ) < 0 + 1024; simpa using this⟩

/-- The coordinates of an element of a direction's buffer. -/
def coords (d : Bool) : BufIdx d → S2x4x256x1024.Idx := match d with
  | false => fun i => i
  | true => fun i => i

theorem mem_slotSet (d : Bool) (i : BufIdx d) (p : Fin 4 × Fin 2) :
    i ∈ slotSet d p ↔ (coords d i 0 : ℕ) = p.2 ∧ (coords d i 1 : ℕ) = p.1 := by
  unfold slotSet; rw [slot_set]
  cases d
  · exact ValueKit.mem_set_slice_whole_iff cc0_scratch0 (slotR p.2 p.1) i (mem_slot i p.2 p.1)
  · exact ValueKit.mem_set_slice_whole_iff cc0_scratch1 (slotR p.2 p.1) i (mem_slot i p.2 p.1)

theorem pair_ne {p p' : Fin 4 × Fin 2} (h : p ≠ p') {a b : ℕ} (h1 : a = p.2 ∧ b = p.1) (h2 : a = p'.2 ∧ b = p'.1) : False :=
  h (Prod.ext (Fin.ext (h1.2.symm.trans h2.2)) (Fin.ext (h1.1.symm.trans h2.1)))

/-- Two slots' blocks share nothing. -/
theorem slotSet_disjoint (d : Bool) (p p' : Fin 4 × Fin 2) (h : p ≠ p') : Disjoint (slotSet d p) (slotSet d p') := by
  rw [Finset.disjoint_left]
  intro i h1 h2; rw [mem_slotSet] at h1 h2; exact pair_ne h h1 h2

/-- The slots' blocks are the whole buffer. -/
theorem slotSet_cover (d : Bool) : Finset.univ.biUnion (slotSet d) = Finset.univ := by
  refine Finset.eq_univ_iff_forall.mpr fun i => Finset.mem_biUnion.mpr ?_
  exact ⟨(⟨_, (coords d i 1).isLt⟩, ⟨_, (coords d i 0).isLt⟩), Finset.mem_univ _, (mem_slotSet d i _).mpr ⟨rfl, rfl⟩⟩

/-- A direction's buffer of a device, with any contents. -/
def bufAny (c : Dev nD) (d : Bool) : sProp 𝕄 :=
  iprop(∃ f : Buf (Elt F) ((bufM d).view.loc (c : Thread nD τ)), (bufM d).view.loc (c : Thread nD τ) ↦{fullShare} f)

/-- The blocks of a direction, one by one. -/
def slotPairs (c : Dev nD) (d : Bool) : sProp 𝕄 :=
  bigSep Finset.univ fun p : Fin 4 × Fin 2 => slotAny c (d, p.1) p.2

/-- A block with given contents is a block with some. -/
theorem slotAny_intro (c : Dev nD) (l : Lane) (s : Fin 2) (f : Buf (Elt F) ((slotM l.1 s l.2).view.loc (c : Thread nD τ))) :
    ((slotM l.1 s l.2).view.loc (c : Thread nD τ) ↦[(slotM l.1 s l.2).view.set]{fullShare} f : sProp 𝕄) ⊢ slotAny c l s := by
  unfold slotAny
  iintro H; iexists f; iexact H

/-- A direction's buffer falls into its blocks. -/
theorem buf_split (c : Dev nD) (d : Bool) : bufAny (F := F) c d ⊢ slotPairs c d := by
  unfold bufAny slotPairs
  iintro ⟨%f, H⟩
  have h : ((bufM d).view.loc (c : Thread nD τ) ↦{fullShare} f : sProp 𝕄) ⊢ bigSep Finset.univ fun p : Fin 4 × Fin 2 => slotAny c (d, p.1) p.2 := by
    rw [← slotSet_cover d]
    refine (Entails.of_eq (pointsTo_biUnion (ℓ := (bufM d).view.loc (c : Thread nD τ)) Finset.univ (slotSet d)
      fun p _ p' _ h => slotSet_disjoint d p p' h)).trans (bigSep_mono fun p _ => ?_)
    exact slotAny_intro c (d, p.1) p.2 f
  iapply h; iexact H

/-- The blocks make up the buffer again. -/
theorem buf_join (c : Dev nD) (d : Bool) : slotPairs (F := F) c d ⊢ bufAny c d := by
  unfold bufAny slotPairs slotAny
  refine (BI.bigSep_exists_pi Finset.univ (fun (p : Fin 4 × Fin 2) (f : Buf (Elt F) ((bufM d).view.loc (c : Thread nD τ))) =>
    ((bufM d).view.loc (c : Thread nD τ) ↦[slotSet d p]{fullShare} f : sProp 𝕄))).trans ?_
  iintro ⟨%fs, H⟩
  have h := pointsTo_biUnion_join (Ix := ℕ) (Name := ℕ) (U := UU) (Lvl := ℕ) (q := fullShare) (ℓ := (bufM d).view.loc (c : Thread nD τ)) Finset.univ (slotSet d) fs (fs (0, 0))
    fun p _ p' _ h => slotSet_disjoint d p p' h
  rw [slotSet_cover] at h
  ihave H := h $$ H
  icases H with ⟨%g, -, H⟩
  iexists g; iexact H

/-- All the blocks, direction by direction. -/
theorem slots_eq (c : Dev nD) : (slots c : sProp 𝕄) = iprop(slotPairs c false ∗ slotPairs c true) := by
  unfold slots slotPairs
  rw [bigSep_univ_prod]
  refine (bigSep_univ_eq_bigSepL [false, true] (by decide) (by decide) _).trans ?_
  rw [bigSepL_cons_cons, bigSepL_singleton]
  have h : ∀ d : Bool, (bigSep Finset.univ fun j : Fin 4 => iprop(slotAny (F := F) c (d, j) 0 ∗ slotAny c (d, j) 1))
      = bigSep Finset.univ fun p : Fin 4 × Fin 2 => slotAny c (d, p.1) p.2 := by
    intro d
    rw [bigSep_univ_prod]
    refine bigSep_congr fun j _ => ?_
    refine Eq.symm ((bigSep_univ_eq_bigSepL [(0 : Fin 2), 1] (by decide) (by decide) _).trans ?_)
    rw [bigSepL_cons_cons, bigSepL_singleton]; rfl
  rw [h false, h true]; rfl

/-! ## The result's blocks -/

/-- The result's chunks of the last sixteen row indices are all there are, -/
theorem chunk_onto (c : Dev nD) (d : Bool) (t : ℕ) (ht : t < 16) : ∃ i, 14 ≤ i ∧ i < 30 ∧ chunkN c d (i + 1) = t := by
  have h : ∀ (c : Dev nD) (d : Bool) (t : Fin 16), ∃ i : Fin 16, chunkN c d ((i : ℕ) + 14 + 1) = t := by decide +kernel
  obtain ⟨i, hi⟩ := h c d ⟨t, ht⟩
  exact ⟨i + 14, by omega, by omega, hi⟩

/-- and each comes once. -/
theorem chunk_once (c : Dev nD) (d : Bool) (i i' : ℕ) (h : 14 ≤ i ∧ i < 30) (h' : 14 ≤ i' ∧ i' < 30)
    (e : chunkN c d (i + 1) = chunkN c d (i' + 1)) : i = i' := by
  have hc := c.isLt
  unfold chunkN at e
  cases d <;> simp only at e <;> omega

/-- The rectangle of a block of the result. -/
def outR (c : Dev nD) (l : Lane) (k : ℕ) : Rect S4096x8192 :=
  Rect.unit (s := S4096x8192) ![(way c).row l.1 k, colOf l.1 l.2] S256x1024.size ((way c).inbO l.1 l.2 k)

/-- The elements of a rectangle of the result. -/
def rectSet (r : Rect S4096x8192) : Finset (main_v1 : Ref sig .tc).ty.Idx := ((View.whole (main_v1 : Ref sig .tc)).slice r).set

/-- The elements of a block of the result. -/
def outSet (c : Dev nD) (p : Lane × ℕ) : Finset (main_v1 : Ref sig .tc).ty.Idx := rectSet (outR c p.1 (p.2 + 1))

theorem mem_outSet (c : Dev nD) (p : Lane × ℕ) (hp : p.2 < 30) (i : S4096x8192.Idx) :
    i ∈ outSet c p ↔ (i 0 : ℕ) / 256 = chunkN c p.1.1 (p.2 + 1) ∧ (i 1 : ℕ) / 1024 = (bif p.1.1 then 4 else 0) + (p.1.2 : ℕ) := by
  unfold outSet outR rectSet
  refine ValueKit.mem_set_slice_whole_iff main_v1 _ i ?_
  rw [Rect.mem_set_unit, way_row c _ _ (by omega)]
  have hcol : colOf p.1.1 p.1.2 = 1024 * ((bif p.1.1 then 4 else 0) + (p.1.2 : ℕ)) := by
    unfold colOf; cases p.1.1 <;> simp only [cond_true, cond_false] <;> omega
  rw [hcol]
  generalize chunkN c p.1.1 (p.2 + 1) = a
  generalize (bif p.1.1 then 4 else 0) + (p.1.2 : ℕ) = b
  constructor
  · intro h
    have e0 : 256 * a ≤ i 0 ∧ (i 0 : ℕ) < 256 * a + 256 := h 0
    have e1 : 1024 * b ≤ i 1 ∧ (i 1 : ℕ) < 1024 * b + 1024 := h 1
    omega
  · rintro ⟨h0, h1⟩ x
    match x with
    | 0 => show 256 * a ≤ i 0 ∧ (i 0 : ℕ) < 256 * a + 256; omega
    | 1 => show 1024 * b ≤ i 1 ∧ (i 1 : ℕ) < 1024 * b + 1024; omega

/-- The blocks of all lanes in the steps that copy out. -/
def outIdx : Finset (Lane × ℕ) := Finset.univ ×ˢ Finset.Ico 14 30

theorem mem_outIdx {p : Lane × ℕ} : p ∈ outIdx ↔ 14 ≤ p.2 ∧ p.2 < 30 := by
  unfold outIdx; rw [Finset.mem_product, Finset.mem_Ico]; exact ⟨fun h => h.2, fun h => ⟨Finset.mem_univ _, h⟩⟩

theorem lane_eq_of {l l' : Lane} (h : (bif l.1 then 4 else 0) + (l.2 : ℕ) = (bif l'.1 then 4 else 0) + (l'.2 : ℕ)) : l = l' := by
  revert l l'; decide

theorem lane_of (n : ℕ) (hn : n < 8) : ∃ l : Lane, n = (bif l.1 then 4 else 0) + (l.2 : ℕ) := by
  have h : ∀ n : Fin 8, ∃ l : Lane, (n : ℕ) = (bif l.1 then 4 else 0) + (l.2 : ℕ) := by decide
  exact h ⟨n, hn⟩

/-- Two of them share nothing. -/
theorem outSet_disjoint (c : Dev nD) (p : Lane × ℕ) (hp : p ∈ outIdx) (p' : Lane × ℕ) (hp' : p' ∈ outIdx) (h : p ≠ p') :
    Disjoint (outSet c p) (outSet c p') := by
  rw [mem_outIdx] at hp hp'
  rw [Finset.disjoint_left]
  intro i h1 h2
  rw [mem_outSet c p hp.2] at h1
  rw [mem_outSet c p' hp'.2] at h2
  have hl : p.1 = p'.1 := lane_eq_of (h1.2.symm.trans h2.2)
  have hk : p.2 = p'.2 := chunk_once c p.1.1 _ _ hp hp' (by rw [← h1.1, h2.1, hl])
  exact h (Prod.ext hl hk)

/-- Together they are the whole result. -/
theorem outSet_cover (c : Dev nD) : outIdx.biUnion (outSet c) = Finset.univ := by
  refine Finset.eq_univ_iff_forall.mpr fun i => Finset.mem_biUnion.mpr ?_
  have h0 : ((i : S4096x8192.Idx) 0 : ℕ) < 4096 := ((i : S4096x8192.Idx) 0).isLt
  have h1 : ((i : S4096x8192.Idx) 1 : ℕ) < 8192 := ((i : S4096x8192.Idx) 1).isLt
  obtain ⟨l, hl⟩ := lane_of (((i : S4096x8192.Idx) 1 : ℕ) / 1024) (by omega)
  obtain ⟨k, hk, hk', e⟩ := chunk_onto c l.1 (((i : S4096x8192.Idx) 0 : ℕ) / 256) (by omega)
  exact ⟨(l, k), mem_outIdx.mpr ⟨hk, hk'⟩, (mem_outSet c (l, k) hk' i).mpr ⟨e.symm, hl⟩⟩

/-- The result of a device holds the blocks its lanes computed. -/
def Done (c : Dev nD) (f : Buf (Elt F) ((c : Thread nD τ).loc main_v1)) : Prop :=
  ∀ (l : Lane) (i : ℕ), 14 ≤ i → i < 30 → (outM (way c) l.1 l.2 (i + 1)).view.read (Elt F) f = blk m (i + 1) c l

/-- The result as the run found it falls into the lanes' blocks. -/
theorem out_split (c : Dev nD) :
    ((c : Thread nD τ).loc main_v1 ↦{fullShare} m ((c : Thread nD τ).loc main_v1) : sProp 𝕄) ⊢ bigSep Finset.univ fun l : Lane => oldOut m c l 0 := by
  have h := pointsTo_biUnion (Ix := ℕ) (Name := ℕ) (U := UU) (Lvl := ℕ) (q := fullShare) (ℓ := (c : Thread nD τ).loc main_v1)
    (f := m ((c : Thread nD τ).loc main_v1)) outIdx (outSet c) (outSet_disjoint c)
  rw [outSet_cover] at h
  refine (Entails.of_eq h).trans ?_
  unfold outIdx
  rw [SparseCore.bigSep_product]
  exact Entails.refl _

/-- Contents that agree under a view with contents written through it read as what was written. -/
theorem read_of_written {sp : Space} {s : Shape} {e : EltTy} (v : View sig .tc sp s e) (f g : v.ty.Contents (Elt F)) (w : s.Idx → Elt F e)
    (h : ∀ x, g (v.emb x) = v.write (Elt F) f w Finset.univ (v.emb x)) : v.read (Elt F) g = w := by
  funext x
  rw [View.read_apply, h x, ← View.read_apply, View.read_write_univ]

theorem exists_weaken {α : Type} (P Q : α → Prop) (Φ : α → sProp 𝕄) (h : ∀ g, P g → Q g) :
    iprop(∃ g, ⌜P g⌝ ∗ Φ g) ⊢ iprop(∃ g, ⌜Q g⌝ ∗ Φ g) := by
  iintro ⟨%g, %hg, H⟩
  iexists g
  isplitr
  · ipureintro; exact h g hg
  · iexact H

/-- The lanes' blocks make up a result that holds them. -/
theorem out_join (c : Dev nD) :
    (bigSep Finset.univ fun l : Lane => newOut m c l 30 : sProp 𝕄)
      ⊢ iprop(∃ f : Buf (Elt F) ((c : Thread nD τ).loc main_v1), ⌜Done m c f⌝ ∗ (c : Thread nD τ).loc main_v1 ↦{fullShare} f) := by
  have h := pointsTo_biUnion_join (Ix := ℕ) (Name := ℕ) (U := UU) (Lvl := ℕ) (q := fullShare) (ℓ := (c : Thread nD τ).loc main_v1) outIdx (outSet c)
    (fun p => (outM (way c) p.1.1 p.1.2 (p.2 + 1)).view.write (Elt F)
      (m ((outM (way c) p.1.1 p.1.2 (p.2 + 1)).view.loc (c : Thread nD τ))) (blk m (p.2 + 1) c p.1) Finset.univ)
    (m ((c : Thread nD τ).loc main_v1)) (outSet_disjoint c)
  rw [outSet_cover] at h
  have h' : (bigSep Finset.univ fun l : Lane => newOut m c l 30 : sProp 𝕄) = bigSep outIdx (fun p => outAt m c p.1 (p.2 + 1) (blk m (p.2 + 1) c p.1)) := by
    unfold outIdx; rw [SparseCore.bigSep_product]; rfl
  rw [h']
  refine BI.Entails.trans h (exists_weaken _ _ _ fun g hg => ?_)
  intro l i h14 h30
  exact read_of_written (outM (way c) l.1 l.2 (i + 1)).view _ g _ fun x =>
    hg (l, i) (mem_outIdx.mpr ⟨h14, h30⟩) ((outM (way c) l.1 l.2 (i + 1)).view.emb x) (View.emb_mem_set _ x)

end Cert.Ring

end
-- ==== Proof.Deal.lean ====
/- The shares of the ghost state: each device's tokens dealt round the ring, its credits, and its cells opened. -/
module

public import proofs.«01_k».proof.Proof.Pieces

@[expose] public section

set_option maxRecDepth 100000

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## The tokens -/

/-- Every cell of the ring. -/
def ringCells : Finset (GSem nD τ sig) := Finset.univ.map ⟨fun cx : Dev nD × Cell => cell cx.1 cx.2, cell_injective⟩

/-- The tokens of a cell: of every round, every payer's. -/
def cellToks (cx : Dev nD × Cell) : Finset (GSem nD τ sig × ℕ × Bool) :=
  (Finset.range (rounds cx.2) ×ˢ who cx.2).map ⟨fun rd => (cell cx.1 cx.2, rd.1, rd.2), fun a b h => by
    have h := congrArg Prod.snd h
    exact Prod.ext (congrArg Prod.fst h) (congrArg Prod.snd h)⟩

theorem cellToks_disjoint (a b : Dev nD × Cell) (h : a ≠ b) : Disjoint (cellToks a) (cellToks b) := by
  rw [Finset.disjoint_left]
  intro x ha hb
  obtain ⟨r, -, rfl⟩ := Finset.mem_map.mp ha
  obtain ⟨r', -, e⟩ := Finset.mem_map.mp hb
  exact h (cell_injective (congrArg Prod.fst e).symm)

/-- Every token of the ring. -/
def ringToks : Finset (GSem nD τ sig × ℕ × Bool) := Finset.univ.biUnion cellToks

/-- The tokens of a device's own cells. -/
def toks (c : Dev nD) : sProp 𝕄 :=
  bigSep Finset.univ fun x : Cell => bigSep (Finset.range (rounds x) ×ˢ who x) fun rd => dutyTok ER (cell c x) rd.1 rd.2

theorem ringToks_eq :
    (bigSep ringToks fun x => (dutyTok ER x.1 x.2.1 x.2.2 : sProp 𝕄)) = bigSep Finset.univ fun c : Dev nD => toks c := by
  unfold ringToks
  rw [bigSep_biUnion_eq _ _ _ (fun a _ b _ h => cellToks_disjoint a b h), bigSep_univ_prod]
  refine bigSep_congr fun c _ => bigSep_congr fun x _ => ?_
  unfold cellToks
  rw [bigSep_map]
  rfl

/-- Two and two by turns. -/
theorem weave (a b A B : sProp 𝕄) : iprop(b ∗ a ∗ A ∗ B) = iprop((a ∗ A) ∗ b ∗ B) := by
  have h1 : iprop(b ∗ a ∗ A ∗ B) ⊢ iprop((a ∗ A) ∗ b ∗ B) := by
    iintro ⟨Hb, Ha, HA, HB⟩
    isplitl [Ha HA]
    · isplitl [Ha] <;> iassumption
    · isplitl [Hb] <;> iassumption
  have h2 : iprop((a ∗ A) ∗ b ∗ B) ⊢ iprop(b ∗ a ∗ A ∗ B) := by
    iintro ⟨⟨Ha, HA⟩, Hb, HB⟩
    isplitl [Hb]; · iexact Hb
    isplitl [Ha]; · iexact Ha
    isplitl [HA] <;> iassumption
  exact BI.Entails.antisymm h1 h2

/-- One after another at two cells by turns, or first the one and then the other. -/
theorem by_turns (Φ : Fin 2 → ℕ → sProp 𝕄) (n : ℕ) :
    (bigSep (Finset.Ico 0 (2 * n)) fun i => Φ (par i) (i / 2)) = iprop((bigSep (Finset.range n) (Φ 0)) ∗ bigSep (Finset.range n) (Φ 1)) := by
  induction n with
  | zero =>
    rw [Finset.range_zero, bigSep_empty, bigSep_empty, Nat.mul_zero, Finset.Ico_self, bigSep_empty]
    exact BI.Entails.antisymm emp_sep.2 emp_sep.1
  | succ n ih =>
    rw [show 2 * (n + 1) = 2 * n + 1 + 1 by omega, ico_last _ _ (Nat.zero_le _), ico_last _ _ (Nat.zero_le _), ih,
      Finset.range_eq_Ico, Finset.range_eq_Ico, ico_last _ _ (Nat.zero_le _), ico_last _ _ (Nat.zero_le _)]
    have h0 : par (2 * n) = 0 := by apply Fin.ext; rw [par_val]; show 2 * n % 2 = 0; omega
    have h1 : par (2 * n + 1) = 1 := by apply Fin.ext; rw [par_val]; show (2 * n + 1) % 2 = 1; omega
    rw [h0, h1, show (2 * n) / 2 = n by omega, show (2 * n + 1) / 2 = n by omega]
    exact weave _ _ _ _

/-- The tokens of a lane's own cells. -/
def ownRecv (c : Dev nD) (l : Lane) : sProp 𝕄 :=
  bigSep (Finset.Ico 0 30) fun i => dutyTok ER (cell c (cRecv l (par (i + 1)))) (i / 2) false
def ownCred (c : Dev nD) (l : Lane) : sProp 𝕄 := bigSep (Finset.Ico 0 29) fun i => dutyTok ER (cell c (cCred l)) i false

/-- The tokens of one payer. -/
theorem one_payer (g : GSem nD τ sig) (n : ℕ) :
    (bigSep (Finset.range n ×ˢ ({false} : Finset Bool)) fun rd => (dutyTok ER g rd.1 rd.2 : sProp 𝕄))
      = bigSep (Finset.range n) fun r => dutyTok ER g r false := by
  rw [SparseCore.bigSep_product]
  exact bigSep_congr fun r _ => bigSep_singleton

/-- Two the other way round. -/
theorem swap_eq (P Q : sProp 𝕄) : iprop(P ∗ Q) = iprop(Q ∗ P) := by
  have h : ∀ P Q : sProp 𝕄, iprop(P ∗ Q) ⊢ iprop(Q ∗ P) := fun P Q => by
    iintro ⟨H, H'⟩
    isplitl [H'] <;> iassumption
  exact BI.Entails.antisymm (h P Q) (h Q P)

/-- The tokens of a device's cells by lanes. -/
theorem toks_lanes (c : Dev nD) : (toks c : sProp 𝕄) =
    iprop((dutyTok ER (cell c cBar) 0 false ∗ dutyTok ER (cell c cBar) 0 true)
      ∗ bigSep Finset.univ fun l => iprop(tokSend c l 0 ∗ ownRecv c l ∗ ownCred c l ∗ tokOut c l 0)) := by
  unfold toks
  rw [cells_lanes]
  have hb : (bigSep (Finset.range (rounds cBar) ×ˢ who cBar) fun rd => (dutyTok ER (cell c cBar) rd.1 rd.2 : sProp 𝕄))
      = iprop(dutyTok ER (cell c cBar) 0 false ∗ dutyTok ER (cell c cBar) 0 true) := by
    rw [bigSep_eq_bigSepL_of_eq [((0 : ℕ), false), (0, true)] (by decide) (by decide), bigSepL_cons_cons, bigSepL_singleton]
    rfl
  rw [hb]
  congr 1
  refine bigSep_congr fun l _ => ?_
  have hs := by_turns (F := F) (fun p r => dutyTok ER (cell c (cSend l p)) r false) 15
  have hr := by_turns (F := F) (fun p r => dutyTok ER (cell c (cRecv l (p + 1))) r false) 15
  have ho : (tokOut c l 0 : sProp 𝕄) = bigSep (Finset.range 16) fun r => dutyTok ER (cell c (cOut l)) r false := by
    unfold tokOut
    rw [show Finset.Ico (max 0 14) 30 = (Finset.range 16).map ⟨fun i => i + 14, fun a b h => Nat.add_right_cancel h⟩ from by decide, bigSep_map]
    exact bigSep_congr fun r _ => by show dutyTok ER _ (r + 14 - 14) false = _; rw [Nat.add_sub_cancel]
  have hr' : (ownRecv c l : sProp 𝕄) = iprop((bigSep (Finset.range 15) fun r => dutyTok ER (cell c (cRecv l 0)) r false)
      ∗ bigSep (Finset.range 15) fun r => dutyTok ER (cell c (cRecv l 1)) r false) := by
    unfold ownRecv
    have e : ∀ i, par (i + 1) = par i + 1 := fun i => by
      apply Fin.ext; rw [par_val, Fin.val_add, par_val]; show (i + 1) % 2 = (i % 2 + 1) % 2; omega
    simp only [e]
    exact hr.trans (swap_eq _ _)
  have hc : (ownCred c l : sProp 𝕄) = bigSep (Finset.range 29) fun r => dutyTok ER (cell c (cCred l)) r false := by
    unfold ownCred; rw [Finset.range_eq_Ico]
  rw [hr', hc, ho, show (tokSend c l 0 : sProp 𝕄) = _ from hs]
  show iprop(((bigSep (Finset.range 15 ×ˢ ({false} : Finset Bool)) fun rd => dutyTok ER (cell c (cSend l 0)) rd.1 rd.2)
      ∗ bigSep (Finset.range 15 ×ˢ ({false} : Finset Bool)) fun rd => dutyTok ER (cell c (cSend l 1)) rd.1 rd.2)
    ∗ ((bigSep (Finset.range 15 ×ˢ ({false} : Finset Bool)) fun rd => dutyTok ER (cell c (cRecv l 0)) rd.1 rd.2)
      ∗ bigSep (Finset.range 15 ×ˢ ({false} : Finset Bool)) fun rd => dutyTok ER (cell c (cRecv l 1)) rd.1 rd.2)
    ∗ (bigSep (Finset.range 29 ×ˢ ({false} : Finset Bool)) fun rd => dutyTok ER (cell c (cCred l)) rd.1 rd.2)
    ∗ bigSep (Finset.range 16 ×ˢ ({false} : Finset Bool)) fun rd => dutyTok ER (cell c (cOut l)) rd.1 rd.2) = _
  simp only [one_payer]

/-- The tokens a device pays with. -/
def payToks (c : Dev nD) : sProp 𝕄 :=
  iprop((dutyTok ER (cell (next true c) cBar) 0 false ∗ dutyTok ER (cell (next false c) cBar) 0 true)
    ∗ bigSep Finset.univ fun l => iprop(tokSend c l 0 ∗ tokRecv c l 0 ∗ tokCred c l 0 ∗ tokOut c l 0))

/-- A share of each device given, for each lane, to the neighbour on one side. -/
theorem deal (Φ : Dev nD → Lane → sProp 𝕄) (d : Lane → Bool) :
    (bigSep Finset.univ fun c => bigSep Finset.univ fun l => Φ c l)
      = bigSep Finset.univ fun c => bigSep Finset.univ fun l => Φ (next (d l) c) l := by
  rw [← bigSep_univ_prod (fun p : Dev nD × Lane => Φ p.1 p.2), ← bigSep_univ_prod (fun p : Dev nD × Lane => Φ (next (d p.2) p.1) p.2)]
  exact bigSep_univ_equiv ⟨fun p : Dev nD × Lane => (next (d p.2) p.1, p.2), fun p => (next (!d p.2) p.1, p.2),
    fun p => Prod.ext (next_back _ _) rfl, fun p => Prod.ext (back_next _ _) rfl⟩ fun p => Φ p.1 p.2

/-- The tokens of every device dealt round the ring. -/
theorem toks_around : (bigSep Finset.univ fun c : Dev nD => (toks c : sProp 𝕄)) = bigSep Finset.univ fun c => payToks c := by
  simp only [toks_lanes, payToks, bigSep_sep']
  rw [deal (F := F) (fun c l => ownRecv c l) (fun l => l.1), deal (F := F) (fun c l => ownCred c l) (fun l => !l.1),
    bigSep_univ_equiv (turn true) (fun c => (dutyTok ER (cell c cBar) 0 false : sProp 𝕄)),
    bigSep_univ_equiv (turn false) (fun c => (dutyTok ER (cell c cBar) 0 true : sProp 𝕄))]
  rfl

/-! ## The credits -/

/-- What the others owe a device. -/
def mine (c : Dev nD) : CellTallies nD τ sig ℕ :=
  (∑ l : Lane, ((∑ i ∈ Finset.Ico 0 30, tallyAt (cell c (cRecv l (par (i + 1)))) i NB) + ∑ i ∈ Finset.Ico 0 29, tallyAt (cell c (cCred l)) i 1))
    + tallyAt (cell c cBar) 0 1 + tallyAt (cell c cBar) 0 1

/-- All that is owed is owed to someone. -/
theorem owed_mine : ∑ c, owed₀ c = ∑ c, mine c := by
  have hb : ∀ d, ∑ c, (tallyAt (cell (next d c) cBar) 0 1 : CellTallies nD τ sig ℕ) = ∑ c, tallyAt (cell c cBar) 0 1 := fun d =>
    Equiv.sum_comp (turn d) fun c => (tallyAt (cell c cBar) 0 1 : CellTallies nD τ sig ℕ)
  have hl : ∀ (f : Dev nD → Lane → CellTallies nD τ sig ℕ) (d : Lane → Bool), ∑ c, ∑ l, f (next (d l) c) l = ∑ c, ∑ l, f c l := fun f d => by
    rw [Finset.sum_comm, Finset.sum_comm (f := f)]
    exact Finset.sum_congr rfl fun l _ => Equiv.sum_comp (turn (d l)) fun c => f c l
  have hr := hl (fun c l => ∑ i ∈ Finset.Ico 0 30, tallyAt (cell c (cRecv l (par (i + 1)))) i NB) fun l => l.1
  have hc := hl (fun c l => ∑ i ∈ Finset.Ico 0 29, tallyAt (cell c (cCred l)) i 1) fun l => !l.1
  have ho : ∀ c, owed₀ c = ∑ l : Lane, (∑ i ∈ Finset.Ico 0 30, tallyAt (cell (next l.1 c) (cRecv l (par (i + 1)))) i NB)
      + ∑ l : Lane, (∑ i ∈ Finset.Ico 0 29, tallyAt (cell (next (!l.1) c) (cCred l)) i 1)
      + tallyAt (cell (next false c) cBar) 0 1 + tallyAt (cell (next true c) cBar) 0 1 := fun c => by
    rw [← Finset.sum_add_distrib]; rfl
  have hm : ∀ c, mine c = ∑ l : Lane, (∑ i ∈ Finset.Ico 0 30, tallyAt (cell c (cRecv l (par (i + 1)))) i NB)
      + ∑ l : Lane, (∑ i ∈ Finset.Ico 0 29, tallyAt (cell c (cCred l)) i 1)
      + tallyAt (cell c cBar) 0 1 + tallyAt (cell c cBar) 0 1 := fun c => by
    rw [← Finset.sum_add_distrib]; rfl
  rw [Finset.sum_congr rfl fun c _ => ho c, Finset.sum_congr rfl fun c _ => hm c]
  rw [Finset.sum_add_distrib, Finset.sum_add_distrib, Finset.sum_add_distrib, Finset.sum_add_distrib, Finset.sum_add_distrib,
    Finset.sum_add_distrib, hb, hb, hr, hc]

/-- What is owed a device lies at its own cells. -/
theorem mine_own (c : Dev nD) (g : GSem nD τ sig) (h : mine c g ≠ 0) : g.1 = (c : Thread nD τ) := by
  obtain ⟨u, hu⟩ := Finsupp.ne_iff.mp h
  have hu : 0 < mine c g u := Nat.pos_of_ne_zero hu
  unfold mine at hu
  rw [Pi.add_apply, Finsupp.add_apply, Pi.add_apply, Finsupp.add_apply] at hu
  rcases pos_or hu with hu | hu
  · rcases pos_or hu with hu | hu
    · obtain ⟨l, -, hu⟩ := sum_pos _ _ g u hu
      rw [Pi.add_apply, Finsupp.add_apply] at hu
      rcases pos_or hu with hu | hu
      · obtain ⟨i, -, hu⟩ := sum_pos _ _ g u hu
        rw [(tally_pos hu).1]
      · obtain ⟨i, -, hu⟩ := sum_pos _ _ g u hu
        rw [(tally_pos hu).1]
    · rw [(tally_pos hu).1]
  · rw [(tally_pos hu).1]

/-- A device's credits. -/
def creds (c : Dev nD) : sProp 𝕄 :=
  iprop((bigSep Finset.univ fun l => iprop(crRecv c l 0 ∗ crCred c l 0)) ∗ cred (tallyAt (cell c cBar) 0 2))

theorem cred_add_eq (A B : CellTallies nD τ sig ℕ) : (cred (A + B) : sProp 𝕄) = iprop(cred A ∗ cred B) :=
  BI.Entails.antisymm (cred_add _ _).1 (cred_add _ _).2

theorem creds_eq (c : Dev nD) : (Pipeline.launchCred owed₀ c : sProp 𝕄) = creds c := by
  rw [Pipeline.launchCred_of_sum owed₀ mine owed_mine mine_own]
  unfold mine creds crRecv crCred
  rw [add_assoc, tallyAt_add, cred_add_eq, Pipeline.cred_finsetSum]
  congr 1
  refine bigSep_congr fun l _ => ?_
  rw [cred_add_eq, Pipeline.cred_finsetSum, Pipeline.cred_finsetSum]

/-! ## The cells opened -/

/-- A device's share of the ghost state at first. -/
def G (c : Dev nD) : sProp 𝕄 :=
  iprop((bigSep Finset.univ fun x => roundState ER (sched m) (cell c x) 0)
    ∗ (bigSep Finset.univ fun x => iprop(atPos ER (cell c x) 0 ∅ 0 ∗ reached ER (cell c x) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun x : Cell => Φ (cell c x) := by
    unfold ringCells; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq (ringToks_eq (F := F))) $$ Htok
  unfold G; simp only [bigSep_sep']
  isplitl [Hst']; · iexact Hst'
  isplitl [Hat' Hr']
  · isplitl [Hat'] <;> iassumption
  iexact Htok'

/-- The kernel's own semaphores and the barrier's are its cells. -/
theorem sems_eq (c : Dev nD) :
    (bigSep Finset.univ fun x : Cell => (semVal (cell c x) 0 : sProp 𝕄))
      = iprop(unscopedSems0 c ∗ Pipeline.ownSems0 (Ix := ℕ) (Name := ℕ) (U := UU) (Lvl := ℕ) (Val := Elt F) (τ := τ) osem c) := by
  unfold unscopedSems0 Pipeline.ownSems0
  rw [bigSep_univ_sum, bigSep_eq_bigSepL_of_eq (S := Finset.univ) [(0 : Fin 1)] (by decide) (by decide),
    bigSep_eq_bigSepL_of_eq [csem cBar] (by decide) (by decide)]
  rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun x => iprop(∃ κ : ℕ, cellInv ER (sched m) κ (cell c x)))
          ∗ (bigSep Finset.univ fun x => iprop(atPos ER (cell c x) 0 ∅ 0 ∗ reached ER (cell c x) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun x : Cell => semVal (cell c x) 0) ∗ bigSep Finset.univ fun x : Cell => roundState ER (sched m) (cell c x) 0)
      ⊢ (|={Set.univ}=> bigSep Finset.univ fun x => iprop(∃ κ : ℕ, cellInv ER (sched m) κ (cell c x)) : sProp 𝕄) from by
        rw [← bigSep_sep']
        exact (bigSep_mono fun x _ => (Rounds.body_intro ER (sched m) (cell c x)).trans inv_alloc).trans (bigSep_fupd _ _)) $$ [Hv Hst] with Hinv
  · isplitl [Hv] <;> iassumption
  imodintro
  isplitl [Hinv]; · iexact Hinv
  isplitl [Hat]; · iexact Hat
  iexact Htok

/-- A device's share once the cells are open. -/
def G' (c : Dev nD) : sProp 𝕄 :=
  iprop(∃ K : Dev nD × Cell → ℕ, recs m K ∗ (bigSep Finset.univ fun x => pos c x 0) ∗ payToks c)

/-- What all may copy goes to each. -/
theorem spread {I : Type} [DecidableEq I] (S : Finset I) (R : sProp 𝕄) [BI.Persistent R] (Φ : I → sProp 𝕄) :
    iprop(R ∗ bigSep S Φ) ⊢ bigSep S fun i => iprop(R ∗ Φ i) :=
  (sep_mono_left (BI.bigSep_of_persistent S R)).trans (Entails.of_eq (bigSep_sep' S (fun _ => R) Φ).symm)

/-- A device's share from the records, its places and its tokens. -/
theorem share_intro (K : Dev nD × Cell → ℕ) (c : Dev nD) :
    iprop(recs m K ∗ (bigSep Finset.univ fun x : Cell => (atPos ER (cell c x) 0 ∅ 0 : sProp 𝕄)) ∗ payToks c) ⊢ G' m c := by
  have hr : recs m K ⊢ bigSep Finset.univ fun x : Cell => (reached ER (cell c x) 0 : sProp 𝕄) := by
    unfold recs
    iintro ⟨-, H⟩
    have h : (bigSep Finset.univ fun cx : Dev nD × Cell => (reached ER (cell cx.1 cx.2) 0 : sProp 𝕄))
        ⊢ bigSep Finset.univ fun x : Cell => (reached ER (cell c x) 0 : sProp 𝕄) := by
      rw [bigSep_univ_prod]
      exact bigSep_elim (Φ := fun c : Dev nD => bigSep Finset.univ fun x : Cell => (reached ER (cell c x) 0 : sProp 𝕄)) (Finset.mem_univ c)
    iapply h
    iexact H
  unfold G' pos
  simp only [bigSep_sep']
  iintro ⟨#HR, Hat, Ht⟩
  iexists K
  isplitr; · iexact HR
  isplitr [Ht]
  · isplitl [Hat]; · iexact Hat
    iapply hr
    iexact HR
  · iexact Ht

theorem regroup :
    (bigSep Finset.univ fun c : Dev nD => iprop((bigSep Finset.univ fun x => iprop(∃ κ : ℕ, cellInv ER (sched m) κ (cell c x)))
          ∗ (bigSep Finset.univ fun x => iprop(atPos ER (cell c x) 0 ∅ 0 ∗ reached ER (cell c x) 0)) ∗ toks c) : sProp 𝕄)
      ⊢ bigSep Finset.univ (G' m) := by
  rw [bigSep_sep', bigSep_sep', ← bigSep_univ_prod (fun cx : Dev nD × Cell => iprop(∃ κ : ℕ, cellInv ER (sched m) κ (cell cx.1 cx.2))),
    bigSep_congr (s := Finset.univ) (fun (c : Dev nD) _ => bigSep_sep' Finset.univ (fun x : Cell => (atPos ER (cell c x) 0 ∅ 0 : sProp 𝕄)) (fun x => reached ER (cell c x) 0)),
    bigSep_sep', ← bigSep_univ_prod (fun cx : Dev nD × Cell => (reached ER (cell cx.1 cx.2) 0 : sProp 𝕄)), toks_around]
  iintro ⟨HI, ⟨Hat, #HR⟩, Htok⟩
  ihave HK := (BI.bigSep_exists_pi Finset.univ (fun (cx : Dev nD × Cell) (κ : ℕ) => (cellInv ER (sched m) κ (cell cx.1 cx.2) : sProp 𝕄))) $$ HI
  icases HK with ⟨%K, #HI⟩
  have h : iprop(recs m K ∗ (bigSep Finset.univ fun c : Dev nD => bigSep Finset.univ fun x : Cell => (atPos ER (cell c x) 0 ∅ 0 : sProp 𝕄))
      ∗ bigSep Finset.univ fun c : Dev nD => payToks c) ⊢ bigSep Finset.univ (G' m) := by
    rw [← bigSep_sep']
    exact (spread _ (recs m K) _).trans (bigSep_mono fun c _ => share_intro m K c)
  iapply h
  isplitr
  · unfold recs; isplitl; · iexact HI
    iexact HR
  · isplitl [Hat] <;> iassumption

/-- The cells of every device opened at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What a device begins with -/

/-- From its places, its tokens, its credits and the old result. -/
theorem begin_intro (c : Dev nD) :
    iprop((bigSep Finset.univ fun x => pos c x 0) ∗ payToks c ∗ creds c ∗ bigSep Finset.univ fun l => oldOut m c l 0) ⊢ begin m c := by
  rw [cells_lanes]
  unfold payToks creds begin barS
  have h : iprop((bigSep Finset.univ fun l : Lane => iprop((pos c (cSend l 0) 0 ∗ pos c (cSend l 1) 0) ∗ (pos c (cRecv l 0) 0 ∗ pos c (cRecv l 1) 0) ∗ pos c (cCred l) 0 ∗ pos c (cOut l) 0))
      ∗ (bigSep Finset.univ fun l => iprop(tokSend c l 0 ∗ tokRecv c l 0 ∗ tokCred c l 0 ∗ tokOut c l 0))
      ∗ (bigSep Finset.univ fun l => iprop(crRecv c l 0 ∗ crCred c l 0)) ∗ bigSep Finset.univ fun l => oldOut m c l 0)
      ⊢ bigSep Finset.univ (lane0 m c) := by
    rw [← bigSep_sep', ← bigSep_sep', ← bigSep_sep']
    refine bigSep_mono fun l _ => ?_
    unfold lane0 sendPos recvPos crd
    show iprop(((pos c (cSend l 0) 0 ∗ pos c (cSend l 1) 0) ∗ (pos c (cRecv l 0) 0 ∗ pos c (cRecv l 1) 0) ∗ pos c (cCred l) 0 ∗ pos c (cOut l) 0)
        ∗ (tokSend c l 0 ∗ tokRecv c l 0 ∗ tokCred c l 0 ∗ tokOut c l 0) ∗ (crRecv c l 0 ∗ crCred c l 0) ∗ oldOut m c l 0)
      ⊢ iprop((pos c (cSend l 0) 0 ∗ pos c (cSend l 1) 0) ∗ (pos c (cRecv l 1) 0 ∗ pos c (cRecv l 0) 0) ∗ pos c (cOut l) 0 ∗ tokCred c l 0
        ∗ tokOut c l 0 ∗ crRecv c l 0 ∗ oldOut m c l 0 ∗ tokSend c l 0 ∗ tokRecv c l 0 ∗ (pos c (cCred l) 0 ∗ crCred c l 0))
    iintro ⟨⟨Hs, ⟨Hr0, Hr1⟩, Hc, Ho⟩, ⟨Ts, Tr, Tc, To⟩, ⟨Cr, Cc⟩, Old⟩
    isplitl [Hs]; · iexact Hs
    isplitl [Hr0 Hr1]; · isplitl [Hr1] <;> iassumption
    isplitl [Ho]; · iexact Ho
    isplitl [Tc]; · iexact Tc
    isplitl [To]; · iexact To
    isplitl [Cr]; · iexact Cr
    isplitl [Old]; · iexact Old
    isplitl [Ts]; · iexact Ts
    isplitl [Tr]; · iexact Tr
    isplitl [Hc] <;> iassumption
  iintro ⟨⟨Hb, Hl⟩, ⟨⟨Tf, Tt⟩, Ht⟩, ⟨Hc, Hcb⟩, Old⟩
  isplitl [Hb Hcb Tf Tt]
  · isplitl [Hb]; · iexact Hb
    isplitl [Hcb]; · iexact Hcb
    isplitl [Tf] <;> iassumption
  iapply h
  isplitl [Hl]; · iexact Hl
  isplitl [Ht]; · iexact Ht
  isplitl [Hc] <;> iassumption

end Cert.Ring
-- ==== Proof.Launch.lean ====
/- The launch: every device runs the ring, and the whole program ends with the blocks of the result in place. -/
module

public import proofs.«01_k».proof.Proof.Deal
public import proofs.«01_k».proof.Proof.Gen.KernelIdeal.Points
public import Idealize.ShloMosaic.Lib.Pipeline.CollectiveSegs

@[expose] public section

set_option maxRecDepth 100000

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-- The state at the start: some memory, every counter at zero. -/
def s₀ : MemSt nD τ sig (Elt F) := ⟨m, fun _ => 0, ρ⟩

/-- The ghost state at the start. -/
def u₀ : UU := (initOf (Pipeline.cells cfgs cellOf_inj) (Pipeline.launchToks cfgs cellOf_inj), initOf ringCells ringToks)

/-- What a device's body starts from, beside its two buffers. -/
def start (c : Dev nD) : sProp 𝕄 := iprop(∃ K, env m K ∗ begin m c)

def bufs (c : Dev nD) : sProp 𝕄 := iprop(bufAny c false ∗ bufAny c true)

/-- The result of a device with all its blocks in place. -/
def made (c : Dev nD) : sProp 𝕄 := iprop(∃ f, ⌜Done m c f⌝ ∗ ((c : Thread nD τ).loc main_v1 ↦{fullShare} f))

def Φ₀ (c : Dev nD) : sProp 𝕄 := iprop(start m c ∗ bufs c)
def Φ₁ (c : Dev nD) : sProp 𝕄 := iprop((bigSep Finset.univ fun x : Cell => (semVal (cell c x) 0 : sProp 𝕄)) ∗ bufs c ∗ made m c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xst m c
    | ⟨1, _⟩ => wst m c
  Φ t := match t with
    | ⟨0, _⟩ => Φ₀ m c
    | ⟨_ + 1, _⟩ => Φ₁ m c
  q _ := fullShare
  owed t := match t with
    | ⟨0, _⟩ => owed₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A whole buffer owned at some contents is its points-to. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stgE (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt 0 t₀.castSucc
    ∗ (∃ d, stgE c cc0_stg0_0 ((dats m ρ 0 c).before (0 : Fin 2) t₀ d))
    ∗ (∃ d, stgE c cc0_stg1_0 ((dats m ρ 0 c).before (1 : Fin 2) t₀ d)))

def bodyPost (c : Dev nD) : sProp 𝕄 :=
  iprop(Φ₁ m c ∗ (dats m ρ 0 c).owesAt 0 t₀.succ ∗ stgE c cc0_stg0_0 (xst m c) ∗ stgE c cc0_stg1_0 (wst m c))

theorem before_x (c : Dev nD) (d) : (dats m ρ 0 c).before (0 : Fin 2) t₀ d = xst m c := by
  unfold Dat.before; rw [if_pos (fetch0_0 t₀)]; rfl
theorem before_w (c : Dev nD) (d) : (dats m ρ 0 c).before (1 : Fin 2) t₀ d = wst m c := by
  unfold Dat.before; rw [if_pos (fetch0_1 t₀)]; rfl

/-- The staging buffers as the body finds them. -/
theorem stg_intro (c : Dev nD) :
    iprop((∃ d, stgE c cc0_stg0_0 ((dats m ρ 0 c).before (0 : Fin 2) t₀ d)) ∗ ∃ d, stgE c cc0_stg1_0 ((dats m ρ 0 c).before (1 : Fin 2) t₀ d))
      ⊢ stg m c := by
  simp only [before_x, before_w]
  unfold stg
  iintro ⟨⟨%d, %f, %hf, Hx⟩, ⟨%e, %g, %hg, Hw⟩⟩
  subst hf hg
  isplitl [Hx] <;> iassumption

/-- All a device gives back. -/
theorem post_intro (c : Dev nD) :
    iprop(finish m c ∗ slots c ∗ stg m c ∗ ∃ W, owes (c : Thread nD τ) 0 W) ⊢ bodyPost m ρ c := by
  rw [slots_eq]
  unfold bodyPost Φ₁ Dat.owesAt Pipeline.owesWithin finish bufs stg made
  rw [show (dats m ρ 0 c).owed t₀.succ = 0 from rfl]
  iintro ⟨⟨Hz, Ho⟩, ⟨H0, H1⟩, ⟨Hx, Hw⟩, %W, HO⟩
  isplitl [Hz Ho H0 H1]
  · isplitl [Hz]; · iexact Hz
    isplitl [H0 H1]
    · isplitl [H0]
      · iapply (buf_join (F := F) c false); iexact H0
      · iapply (buf_join (F := F) c true); iexact H1
    · iapply (out_join m c); iexact Ho
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hw

/-- The body of a device, from what it is given to what it gives back. -/
theorem sound_body (c : Dev nD) :
    bodyPre m ρ c ⊢ wpc c (ringP (way c)) (fun _ => bodyPost m ρ c) := by
  have hs := stg_intro m ρ c
  unfold bodyPre Φ₀ start bufs Dat.owesAt Pipeline.owesWithin
  rw [show (dats m ρ 0 c).owed t₀.castSucc = owed₀ c from rfl]
  iintro ⟨⟨⟨%K, #He, Hb⟩, H0, H1⟩, ⟨%W, %hW, HO⟩, Hx, Hw⟩
  have hr := wp_ring m K c (fun _ => bodyPost m ρ c)
  rw [slots_eq] at hr
  iapply hr $$ [Hb H0 H1 HO Hx Hw]
  · isplitr; · iexact He
    isplitl [Hb]; · iexact Hb
    isplitl [H0 H1]
    · isplitl [H0]
      · iapply (buf_split (F := F) c false); iexact H0
      · iapply (buf_split (F := F) c true); iexact H1
    isplitl [Hx Hw]
    · iapply hs
      isplitl [Hx] <;> iassumption
    · iexists W; iexact HO
  · rw [← slots_eq]
    iintro H
    iapply (post_intro m ρ c)
    iexact H

/-- The library's obligation on a device's body. -/
theorem body_obligation (c : Dev nD) : BodyObligation (dats m ρ 0 c) (defs₀ (F := F)) 𝒱₀ 0 Set.univ := fun t => by
  rw [fin_N t]
  rw [bigSep_W0, bigSep_W0]
  simp only [owns_whole_eq]
  have hb : defs₀ (F := F) Proc.tc 0 (t₀, cfg0.slots t₀) = .op .deviceId fun c => ringP (wayW c) := body_eq
  rw [hb, wp_deviceId]
  have hs := sound_body m ρ c
  rw [← wayW_eq] at hs
  generalize ringP (F := F) (wayW c) = P at hs ⊢
  exact hs

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  have hu : (Pipeline.unscopedRestP Pipeline.Prefetch.none cfg0.spec c (fun b => m ((c : Thread nD τ).loc b)) : sProp 𝕄)
      ⊢ ((c : Thread nD τ).loc main_v1 ↦{fullShare} m ((c : Thread nD τ).loc main_v1)) := by
    exact Entails.of_eq (unscopedRest0_eq c _)
  rw [creds_eq]
  unfold start G' env
  iintro ⟨Hv, #Hlev, Hcr, -, %K, #HR, Hp, Ht⟩
  ihave Hv := hu $$ Hv
  ihave Ho := (out_split m c) $$ Hv
  imodintro
  isplitl
  · iexists K
    isplitr
    · isplitr; · iexact HR
      iexact Hlev
    iapply (begin_intro m c)
    isplitl [Hp]; · iexact Hp
    isplitl [Ht]; · iexact Ht
    isplitl [Hcr]; · iexact Hcr
    iexact Ho
  · iempintro

theorem bufs_eq (c : Dev nD) : (Pipeline.scopedRest cfg0.spec c : sProp 𝕄) = bufs c := by
  rw [scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, bufs_eq]
  unfold Φ₀
  iintro ⟨Hs, -, Hb⟩
  isplitl [Hs] <;> iassumption

/-- What a device ends with, beside its buffers and its own semaphores. -/
def last (c : Dev nD) : sProp 𝕄 := iprop(unscopedSems0 c ∗ made m c)

theorem phi1_exit (c : Dev nD) :
    (dats m ρ 0 c).Φ (Fin.last cfg0.N) ⊢ iprop(last m c ∗ Pipeline.ownSems0 osem c ∗ Pipeline.scopedRest cfg0.spec c) := by
  rw [show (dats m ρ 0 c).Φ (Fin.last cfg0.N) = Φ₁ m c from rfl, bufs_eq]
  unfold Φ₁ last
  rw [sems_eq]
  iintro ⟨⟨Hu, Ho⟩, Hb, Hm⟩
  isplitl [Hu Hm]
  · isplitl [Hu] <;> iassumption
  isplitl [Ho] <;> iassumption

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide +kernel) _ (by
      rcases t with ⟨_ | _, ht⟩
      · exact Or.inl rfl
      · exact Or.inr rfl)

/-- The last state of the memory agrees with what a device holds. -/
theorem last_read (c : Dev nD) (s' : Phys nD τ sig (Elt F)) :
    iprop(last m c ∗ emp ∗ SI s') ⊢ (|={Set.univ}=> iprop(⌜(∀ sm : SemLoc sig, sm.isScoped .tc = false → s'.mem.sem ((c.tc : Thread nD τ), sm) = 0)
      ∧ Done m c (s'.mem.mem ((c : Thread nD τ).loc main_v1))⌝ ∗ SI s') : sProp 𝕄) := by
  unfold last made
  iintro ⟨⟨Hu, %f, %hf, Hf⟩, -, HSI⟩
  ihave %hm := (SI_pointsTo_agree (Ix := ℕ) (Name := ℕ) (U := UU) (Lvl := ℕ) (st := s') (q := fullShare) (ℓ := (c : Thread nD τ).loc main_v1) (f := f) (I := Finset.univ)) $$ [HSI Hf]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    refine ⟨hs, ?_⟩
    rw [show s'.mem.mem ((c : Thread nD τ).loc main_v1) = f from funext fun i => hm i (Finset.mem_univ i)]
    exact hf
  · iexact HSI

/-! ## The run -/

/-- What holds at the end: every device's arguments as they were, and its result made of its blocks. -/
def End : PUnit × MemSt nD τ sig (Elt F) → Prop := fun r =>
  ∀ c : Dev nD, (∀ w : Fin cfg0.W, r.2.mem ((cfg0.win w).arr.view.loc (c : Thread nD τ)) = (dats m ρ 0 c).arrAt w cfg0.N)
    ∧ Done m c (r.2.mem ((c : Thread nD τ).loc main_v1))

/-- From any memory with every counter at zero, every fair run of the sixteen devices ends without a fault, every
    counter at zero again, the arguments unchanged and the result of each device made of its blocks. -/
theorem run_main : θ_run defs (onTc (τ := τ) (main (F := F))) (s₀ m ρ) (fun r => End m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := last m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ Done m c (s.mem ((c : Thread nD τ).loc main_v1)))
    (hY := last_read m)
    (hQ := fun _ h hs => ⟨fun c => ⟨(h c).1, (h c).2.2.2⟩, sem_eq_zero hs fun c => (h c).2.2.1⟩)

/-- The arguments at the end are what they were. -/
theorem arg_x (c : Dev nD) : (dats m ρ 0 c).arrAt (0 : Fin 2) cfg0.N = m ((cfg0.win (0 : Fin 2)).arr.view.loc (c : Thread nD τ)) :=
  (dats m ρ 0 c).arrAt_in (0 : Fin 2) rfl _
theorem arg_w (c : Dev nD) : (dats m ρ 0 c).arrAt (1 : Fin 2) cfg0.N = m ((cfg0.win (1 : Fin 2)).arr.view.loc (c : Thread nD τ)) :=
  (dats m ρ 0 c).arrAt_in (1 : Fin 2) rfl _

end Cert.Ring
-- ==== Proof.Value.lean ====
/- What the kernel computes, at the ideal values: every device's result is the activation of the whole product. -/
module

public import proofs.«01_k».proof.Proof.Pieces
public import Idealize.ShloMosaic.Lib.MatmulPlain
public import Idealize.ShloMosaic.Lib.StackMember
public import Idealize.ShloMosaic.Lib.KernelVsHost
public import Idealize.ShloMosaic.Lib.Pipeline.Value
public import Idealize.ShloMosaic.Lib.Layout
public import Idealize.ShloMosaic.Lib.ValueIdx

@[expose] public section

set_option maxRecDepth 100000

noncomputable section

namespace Cert.Ring

open Idealize.ShloMosaic Idealize.ShloMosaic.TcCoe Idealize.ShloMosaic.ValueIdx
open Cert.KernelIdeal Cert.KernelIdeal.Gen
open scoped BigOperators

variable (m : (ℓ : Loc nD τ sig) → Buf (Elt Ideal) ℓ)

/-! ## A device's part of the product -/

/-- A device's columns of `x`, as an array of numbers. -/
def xI (c : Dev nD) : Vec Ideal S4096x256 .f32 := xst m c

/-- A device's rows of `w`, as an array of numbers. -/
def wI (c : Dev nD) : Vec Ideal S256x8192 .f32 := wst m c

/-- The entry of the product that a device's columns of `x` and rows of `w` give. -/
def entry (c : Dev nD) (row : Fin 4096) (col : Fin 8192) : EReal :=
  ∑ k : Fin 256, xI m c (ix2 row k) * wI m c (ix2 k col)

/-- A row of the chunk of row index `k`. -/
def rowAt (c : Dev nD) (d : Bool) (k : ℕ) (r : Fin 256) : Fin 4096 :=
  ⟨256 * chunkN c d k + r, by have := chunkN_lt c d k; have := r.isLt; omega⟩

/-- A column of a lane's block. -/
def colAt (l : Lane) (q : Fin 1024) : Fin 8192 :=
  ⟨colOf l.1 l.2 + q, by have := colOf_le l.1 l.2; have := q.isLt; omega⟩

/-- The rows of a chunk, entry by entry. -/
theorem xAt_apply (c : Dev nD) (k : ℕ) (hk : k ≤ 30) (d : Bool) (f : Vec Ideal S4096x256 .f32) (r p : Fin 256) :
    xAt (way c) k d f (ix2 r p) = f (ix2 (rowAt c d k r) p) := by
  unfold xAt
  rw [View.readAt_apply]
  show f _ = f _
  congr 1
  funext a
  apply Fin.ext
  match a with
  | ⟨0, _⟩ => show (way c).row d k + 1 * (r : ℕ) = 256 * chunkN c d k + r; rw [way_row c d k hk]; omega
  | ⟨1, _⟩ => show 0 + 1 * (p : ℕ) = p; omega

/-- A half of the weights' columns, entry by entry. -/
theorem wAt_apply (d : Bool) (f : Vec Ideal S256x8192 .f32) (p : Fin 256) (q : Fin 4096) (q' : Fin 8192)
    (h : (q' : ℕ) = (bif d then 4096 else 0) + q) : wAt d f (ix2 p q) = f (ix2 p q') := by
  cases d
  all_goals
    unfold wAt
    dsimp only
    rw [View.readAt_apply]
    show f _ = f _
    congr 1
    funext a
    apply Fin.ext
  · match a with
    | ⟨0, _⟩ => show 0 + 1 * (p : ℕ) = p; omega
    | ⟨1, _⟩ => show 0 + 1 * (q : ℕ) = q'; rw [h]; show _ = 0 + (q : ℕ); omega
  · match a with
    | ⟨0, _⟩ => show 0 + 1 * (p : ℕ) = p; omega
    | ⟨1, _⟩ => show 4096 + 1 * (q : ℕ) = q'; rw [h]; show _ = 4096 + (q : ℕ); omega

/-- The product of a chunk, entry by entry. -/
theorem prodP_apply (vx : Vec Ideal S256x256 .f32) (vw : Vec Ideal S256x4096 .f32) (r : Fin 256) (q : Fin 4096) :
    prodP vx vw (ix2 r q) = ∑ k : Fin 256, vx (ix2 r k) * vw (ix2 k q) := by
  unfold prodP
  rw [shapeCast_self, shapeCast_self, matmul_zero_eq_dotGeneral]
  exact StackMember.dotGeneral_plain_apply none vx vw r q

/-- A lane's block of a device's product, entry by entry. -/
theorem part_apply (c : Dev nD) (k : ℕ) (hk : k ≤ 30) (l : Lane) (r : Fin 256) (q : Fin 1024) :
    part m c k l (ix2 r q) = entry m c (rowAt c l.1 k r) (colAt l q) := by
  have hj := l.2.isLt
  have hq := q.isLt
  show extractStridedSlice S256x1024 ![0, (l.2 : ℕ) * 1024] (prodP (xAt (way c) k l.1 (xI m c)) (wAt l.1 (wI m c))) (slices_col l.2) _ = _
  unfold entry
  rw [extractStridedSlice_apply _ _ _ (ix2 r q) (ix2 r (⟨(l.2 : ℕ) * 1024 + q, by omega⟩ : Fin 4096)) (fun a => by
    match a with
    | ⟨0, _⟩ => show (r : ℕ) = 0 + r; omega
    | ⟨1, _⟩ => rfl), prodP_apply]
  refine Finset.sum_congr rfl fun p _ => ?_
  rw [xAt_apply c k hk l.1 (xI m c), wAt_apply l.1 (wI m c) p _ (colAt l q) (by show colOf l.1 l.2 + (q : ℕ) = _ + ((l.2 : ℕ) * 1024 + q); unfold colOf; omega)]

/-! ## The sum around the ring -/

/-- The chunk a lane hands on keeps its rows: what is the chunk of row index `k` upstream is that of `k + 1` here. -/
theorem rowAt_next (c : Dev nD) (d : Bool) (k : ℕ) (hk : k < 30) (r : Fin 256) : rowAt (next (!d) c) d k r = rowAt c d (k + 1) r := by
  have h : ∀ (c : Dev nD) (d : Bool) (k : Fin 30), chunkN (next (!d) c) d k = chunkN c d (k + 1) := by decide +kernel
  apply Fin.ext
  show 256 * chunkN (next (!d) c) d k + (r : ℕ) = 256 * chunkN c d (k + 1) + r
  rw [h c d ⟨k, hk⟩]

/-- While sums are made, a block is the sum of the entries of the devices it has passed. -/
theorem blk_sum (l : Lane) (r : Fin 256) (q : Fin 1024) : ∀ (k : ℕ) (hk : k ≤ 14) (c : Dev nD),
    blk m k c l (ix2 r q) = ∑ n ∈ Finset.range (k + 1), entry m ((next (!l.1))^[n] c) (rowAt c l.1 k r) (colAt l q)
  | 0, _, c => by
    show part m c 0 l (ix2 r q) = _
    rw [part_apply m c 0 (by omega), Finset.sum_range_one]; rfl
  | k + 1, hk, c => by
    rw [blk_add m k (by omega), Finset.sum_range_succ', ValueIdx.addf_apply, blk_sum l r q k (by omega), part_apply m c (k + 1) (by omega),
      rowAt_next c l.1 k (by omega)]
    rfl

/-- The entry of the whole product: the sum over all devices. -/
def total (row : Fin 4096) (col : Fin 8192) : EReal := ∑ c : Dev nD, entry m c row col

theorem back_bij (d : Bool) (c : Dev nD) : Function.Bijective fun n : Fin 16 => (next (!d))^[(n : ℕ)] c := by
  have h : ∀ (d : Bool) (c : Dev nD), (∀ a b : Fin 16, (next (!d))^[(a : ℕ)] c = (next (!d))^[(b : ℕ)] c → a = b)
      ∧ ∀ e : Dev nD, ∃ n : Fin 16, (next (!d))^[(n : ℕ)] c = e := by decide +kernel
  exact ⟨fun a b e => (h d c).1 a b e, fun e => (h d c).2 e⟩

/-- Sixteen steps back around the ring visit every device once. -/
theorem sum_around (d : Bool) (c : Dev nD) (f : Dev nD → EReal) :
    ∑ n ∈ Finset.range 16, f ((next (!d))^[n] c) = ∑ e : Dev nD, f e := by
  rw [Finset.sum_range]
  exact (back_bij d c).sum_comp f

/-- The activation of one entry. -/
def act (y : Ideal .f32) : Ideal .f32 := siluP (F := Ideal) (fun _ => y) (ix2 (0 : Fin 256) (0 : Fin 1024))

theorem siluP_apply (v : FVec Ideal S256x1024 .f32) (i : S256x1024.Idx) : siluP v i = act (v i) := rfl

/-- Once activated, a block holds the activation of the whole product's entries. -/
theorem blk_done (l : Lane) (r : Fin 256) (q : Fin 1024) : ∀ (i : ℕ) (hi : i < 16) (c : Dev nD),
    blk m (i + 15) c l (ix2 r q) = act (total m (rowAt c l.1 (i + 15) r) (colAt l q))
  | 0, _, c => by
    show blk m 15 c l (ix2 r q) = _
    rw [blk_act, siluP_apply, ValueIdx.addf_apply, blk_sum m l r q 14 (by omega), part_apply m c 15 (by omega), rowAt_next c l.1 14 (by omega)]
    show act (_ + entry m c (rowAt c l.1 15 r) (colAt l q)) = act (total m (rowAt c l.1 15 r) (colAt l q))
    congr 1
    unfold total
    rw [← sum_around l.1 c, Finset.sum_range_succ' _ 15]
    rfl
  | i + 1, hi, c => by
    show blk m (i + 15 + 1) c l (ix2 r q) = _
    rw [blk_pass m (i + 15) (by omega), blk_done l r q i (by omega), rowAt_next c l.1 (i + 15) (by omega)]

/-- A block of the result, entry by entry. -/
theorem outM_read (W : Way) (l : Lane) (k : ℕ) (f : Vec Ideal S4096x8192 .f32) (r : Fin 256) (q : Fin 1024) (row : Fin 4096) (col : Fin 8192)
    (hr : (row : ℕ) = W.row l.1 k + r) (hc : (col : ℕ) = colOf l.1 l.2 + q) :
    (outM W l.1 l.2 k).view.read (Elt Ideal) f (ix2 r q) = f (ix2 row col) := by
  unfold outM
  show f _ = f _
  congr 1
  funext a
  apply Fin.ext
  match a with
  | ⟨0, _⟩ => show W.row l.1 k + 1 * (r : ℕ) = row; omega
  | ⟨1, _⟩ => show colOf l.1 l.2 + 1 * (q : ℕ) = col; omega

/-- A result that holds its lanes' blocks holds, everywhere, the activation of the whole product. -/
theorem done_apply (c : Dev nD) (f : Buf (Elt Ideal) ((c : Thread nD τ).loc main_v1)) (h : Done m c f) (row : Fin 4096) (col : Fin 8192) :
    (f : Vec Ideal S4096x8192 .f32) (ix2 row col) = act (total m row col) := by
  have hr := row.isLt
  have hc := col.isLt
  obtain ⟨l, hl⟩ := lane_of ((col : ℕ) / 1024) (by omega)
  obtain ⟨i, h14, h30, hi⟩ := chunk_onto c l.1 ((row : ℕ) / 256) (by omega)
  have hcol : colOf l.1 l.2 = 1024 * ((col : ℕ) / 1024) := by
    rw [hl]; unfold colOf; cases l.1 <;> simp only [cond_true, cond_false] <;> omega
  obtain ⟨i, rfl⟩ : ∃ i', i = i' + 14 := ⟨i - 14, by omega⟩
  let r : Fin 256 := ⟨(row : ℕ) % 256, Nat.mod_lt _ (by decide)⟩
  let q : Fin 1024 := ⟨(col : ℕ) % 1024, Nat.mod_lt _ (by decide)⟩
  have erow : rowAt c l.1 (i + 15) r = row := Fin.ext (by
    show 256 * chunkN c l.1 (i + 14 + 1) + (row : ℕ) % 256 = row
    rw [hi]; omega)
  have ecol : colAt l q = col := Fin.ext (by
    show colOf l.1 l.2 + (col : ℕ) % 1024 = col
    rw [hcol]; omega)
  have e := congrFun (h l (i + 14) h14 h30) (ix2 r q)
  rw [show i + 14 + 1 = i + 15 from rfl, blk_done m l r q i (by omega) c, erow, ecol] at e
  refine (outM_read (way c) l (i + 15) f r q row col ?_ ?_).symm.trans e
  · rw [way_row c l.1 _ (by omega), show i + 15 = i + 14 + 1 from rfl, hi]
    show (row : ℕ) = 256 * ((row : ℕ) / 256) + (row : ℕ) % 256
    omega
  · rw [hcol]
    show (col : ℕ) = 1024 * ((col : ℕ) / 1024) + (col : ℕ) % 1024
    omega

/-! ## The devices' parts make up the whole product -/

/-- What a device holds of `x` is its argument. -/
theorem xI_eq (c : Dev nD) : xI m c = m ((c : Thread nD τ).loc main_arg0) := by
  have h : (fun a => win0_0.index (0 : Fin 1) a * main_arg0.ty.shape.size a) = fun _ => 0 := funext fun a => by fin_cases a <;> decide
  exact Memref.read_access_unit_zero (Elt Ideal) main_arg0 h (fun a => by rw [congrFun h a]; simp) _

/-- What a device holds of `w` is its argument. -/
theorem wI_eq (c : Dev nD) : wI m c = m ((c : Thread nD τ).loc main_arg1) := by
  have h : (fun a => win0_1.index (0 : Fin 1) a * main_arg1.ty.shape.size a) = fun _ => 0 := funext fun a => by fin_cases a <;> decide
  exact Memref.read_access_unit_zero (Elt Ideal) main_arg1 h (fun a => by rw [congrFun h a]; simp) _

/-- Sums over the devices and over a device's positions are sums over all positions. -/
theorem sum_blocks (f : Fin 4096 → EReal) :
    ∑ c : Fin 16, ∑ k : Fin 256, f ⟨(c : ℕ) * 256 + k, by have := c.isLt; have := k.isLt; omega⟩ = ∑ k : Fin 4096, f k := by
  rw [← Equiv.sum_comp (finProdFinEquiv (m := 16) (n := 256)) f, Fintype.sum_prod_type]
  refine Finset.sum_congr rfl fun c _ => Finset.sum_congr rfl fun k _ => congrArg f (Fin.ext ?_)
  show (c : ℕ) * 256 + k = k + 256 * c
  omega

/-- Where each device's arguments are its blocks of `x` and `w`, the devices' entries add up to the product's. -/
theorem total_eq (x : Vec Ideal ⟨2, ![4096, 4096]⟩ .f32) (w : Vec Ideal ⟨2, ![4096, 8192]⟩ .f32)
    (hx : ∀ c : Dev nD, m ((c : Thread nD τ).loc main_arg0) = Layout.block ⟨2, ![4096, 256]⟩ ⟨2, ![4096, 4096]⟩ 1 16 c x)
    (hw : ∀ c : Dev nD, m ((c : Thread nD τ).loc main_arg1) = Layout.block ⟨2, ![256, 8192]⟩ ⟨2, ![4096, 8192]⟩ 0 16 c w)
    (row : Fin 4096) (col : Fin 8192) : total m row col = ∑ k : Fin 4096, x (ix2 row k) * w (ix2 k col) := by
  rw [← sum_blocks fun k => x (ix2 row k) * w (ix2 k col)]
  unfold total entry
  refine Finset.sum_congr rfl fun c _ => Finset.sum_congr rfl fun k _ => ?_
  rw [xI_eq, wI_eq, hx c, hw c]
  show x _ * w _ = x _ * w _
  congr 2
  · funext a; apply Fin.ext
    match a with
    | ⟨0, _⟩ => rfl
    | ⟨1, _⟩ => rfl
  · funext a; apply Fin.ext
    match a with
    | ⟨0, _⟩ => rfl
    | ⟨1, _⟩ => rfl

/-- The activation, as the reference writes it. -/
theorem act_eq (y : EReal) : act y = Ideal.div y (Ideal.ofBits .f32 0x3F800000#32
    + Ideal.exp (-(min (Ideal.ofBits .f32 0x42700000#32) (max (Ideal.ofBits .f32 0xC2700000#32) y)))) := by
  have h : act y = Ideal.div y (Ideal.ofBits .f32 0x3F800000#32
    + Ideal.exp (Ideal.ofBits .f32 0x00000000#32 - (min (Ideal.ofBits .f32 0x42700000#32) (max (Ideal.ofBits .f32 0xC2700000#32) y)))) := rfl
  rw [h, Ideal.ofBits_zero_f32, zero_sub]

end Cert.Ring

end
-- ==== Proof.lean ====
/- The claims of this certificate. The run itself is `Cert.Ring.run_main` (Proof/Launch.lean), made once for any float
   values: the frames of the two kernel programs are read off it, for their texts are the same. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

set_option maxRecDepth 100000

noncomputable section

namespace Cert.Proof

open Idealize.ShloMosaic Idealize.SL.Sem

section
open Cert.KernelIdeal
variable {F : FTy → Type} [FloatOps F]

/-- What a frame says of the end of a run: on every device both arguments are as they were, and every counter is zero. -/
def Kept (m : (ℓ : Loc nD τ sig) → Buf (Elt F) ℓ) : PUnit × MemSt nD τ sig (Elt F) → Prop := fun r =>
  (∀ c : Dev nD, r.2.mem (c.tc.loc main_arg0) = m (c.tc.loc main_arg0) ∧ r.2.mem (c.tc.loc main_arg1) = m (c.tc.loc main_arg1))
    ∧ r.2.sem = fun _ => 0

/-- The program keeps its arguments and leaves every counter zero, whatever the float values are. -/
theorem kept (m : (ℓ : Loc nD τ sig) → Buf (Elt F) ℓ) (ρ : Dev nD → PrngReg) :
    θ_run defs (onTc (τ := τ) (main (F := F))) (Cert.Ring.s₀ m ρ) (Kept m) :=
  (θ_run defs _ _).mono (fun _ h => ⟨fun c => ⟨((h.1 c).1 0).trans (Cert.Ring.arg_x m ρ c), ((h.1 c).1 1).trans (Cert.Ring.arg_w m ρ c)⟩, h.2⟩)
    (Cert.Ring.run_main m ρ)

/-- The frame of the idealised program. -/
theorem frame_kernelIdeal : Cert.quiescent_KernelIdeal := fun m ρ _ => kept m ρ

end

section
open Cert.Kernel

/-- The two programs have the same text, so what `Kept` says of a run of the one is the frame of the other. -/
theorem same (m : (ℓ : Loc nD τ sig) → Buf (Elt Bits) ℓ) (ρ : Dev nD → PrngReg) :
    (θ_run Cert.KernelIdeal.defs (onTc (τ := Cert.KernelIdeal.τ) (Cert.KernelIdeal.main (F := Bits))) (Cert.Ring.s₀ m ρ) (Kept m)) =
    (θ_run Cert.Kernel.defs (onTc (τ := τ) (Cert.Kernel.main (F := Bits))) ⟨m, fun _ => 0, ρ⟩ (fun r =>
      (∀ c : Dev nD, r.2.mem (c.tc.loc main_arg0) = m (c.tc.loc main_arg0)
        ∧ r.2.mem (c.tc.loc main_arg1) = m (c.tc.loc main_arg1)) ∧ r.2.sem = fun _ => 0)) := by
  chain_rfl

/-- The frame of the program on float words. -/
theorem frame_kernel : Cert.quiescent_Kernel := fun m ρ _ => (same m ρ).mp (kept m ρ)

end

/-- The frame of the reference: host operations alone, with no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- No operation was replaced in passing to the ideal values, so there is nothing to preserve. -/
theorem preserves : Cert.preserves_Kernel_KernelIdeal := trivial

/-! ## The value -/

open Idealize.ShloMosaic.ValueIdx

/-- The result both programs compute: the activation of the product, entry by entry. -/
def answer (x : Vec Ideal ⟨2, ![4096, 4096]⟩ .f32) (w : Vec Ideal ⟨2, ![4096, 8192]⟩ .f32) : Vec Ideal ⟨2, ![4096, 8192]⟩ .f32 :=
  fun j => Cert.Ring.act (∑ k : Fin 4096, x (ix2 (j 0) k) * w (ix2 k (j 1)))

section
open Cert.ReferenceIdeal

/-- The reference's product, entry by entry. -/
theorem dot_apply (x : FVec Ideal S4096x4096 .f32) (w : FVec Ideal S4096x8192 .f32) (j : S4096x8192.Idx) :
    Host.dotGeneral dot_S4096x4096_S4096x8192_S4096x8192_1_0_0_1_n_n none x w j
      = ∑ k : Fin 4096, x (ix2 (j 0) k) * w (ix2 k (j 1)) := by
  rw [eq_ix2 j]
  exact StackMember.dotGeneral_plain_apply none x w (j 0) (j 1)

/-- The reference's operations compute the answer. -/
theorem reference_eq (x : FVec Ideal S4096x4096 .f32) (w : FVec Ideal S4096x8192 .f32) :
    Host.divf (Host.dotGeneral dot_S4096x4096_S4096x8192_S4096x8192_1_0_0_1_n_n none x w)
      (addf (broadcastInDim S4096x8192 ![] Facts₀.bcast_S_S4096x8192 (constant S_ .f32 0x3F800000#32))
        (Host.exp (Host.negf (minimumf (broadcastInDim S4096x8192 ![] Facts₀.bcast_S_S4096x8192 (id (constant S_ .f32 0x42700000#32)))
          (maximumf (broadcastInDim S4096x8192 ![] Facts₀.bcast_S_S4096x8192 (id (constant S_ .f32 0xC2700000#32)))
            (Host.dotGeneral dot_S4096x4096_S4096x8192_S4096x8192_1_0_0_1_n_n none x w)))))) = answer x w := by
  have hd : Host.dotGeneral dot_S4096x4096_S4096x8192_S4096x8192_1_0_0_1_n_n none x w
      = fun j => ∑ k : Fin 4096, x (ix2 (j 0) k) * w (ix2 k (j 1)) := funext (dot_apply x w)
  rw [hd]
  funext j
  exact (Cert.Ring.act_eq _).symm

end

/-- A result that holds its lanes' blocks is the answer. -/
theorem kernel_eq (m : (ℓ : Loc Cert.KernelIdeal.nD Cert.KernelIdeal.τ Cert.KernelIdeal.sig) → Buf (Elt Ideal) ℓ)
    (x : Vec Ideal ⟨2, ![4096, 4096]⟩ .f32) (w : Vec Ideal ⟨2, ![4096, 8192]⟩ .f32)
    (hx : ∀ c : Dev Cert.KernelIdeal.nD, m (c.tc.loc Cert.KernelIdeal.main_arg0) = Layout.block ⟨2, ![4096, 256]⟩ ⟨2, ![4096, 4096]⟩ 1 16 c x)
    (hw : ∀ c : Dev Cert.KernelIdeal.nD, m (c.tc.loc Cert.KernelIdeal.main_arg1) = Layout.block ⟨2, ![256, 8192]⟩ ⟨2, ![4096, 8192]⟩ 0 16 c w)
    (c : Dev Cert.KernelIdeal.nD) (f : Vec Ideal ⟨2, ![4096, 8192]⟩ .f32) (h : Cert.Ring.Done m c f) : f = answer x w := by
  funext j
  rw [eq_ix2 j]
  exact (Cert.Ring.done_apply m c f h (j 0) (j 1)).trans (congrArg Cert.Ring.act (Cert.Ring.total_eq m x w hx hw (j 0) (j 1)))

/-- Run on its blocks of the reference's arguments, every device ends with the reference's result. -/
theorem algebraic : Cert.algebraic_KernelIdeal_ReferenceIdeal := by
  intro m ρ m' ρ' _ hm
  refine ⟨answer (m' ((0 : Dev Cert.ReferenceIdeal.nD).tc.loc Cert.ReferenceIdeal.main_arg0))
    (m' ((0 : Dev Cert.ReferenceIdeal.nD).tc.loc Cert.ReferenceIdeal.main_arg1)), ?_, ?_⟩
  · exact (θ_run Cert.KernelIdeal.defs _ _).mono
      (fun r h c => ⟨kernel_eq m _ _ (fun c => (hm c).1) (fun c => (hm c).2) c _ (h.1 c).2,
        ((h.1 c).1 0).trans (Cert.Ring.arg_x m ρ c), ((h.1 c).1 1).trans (Cert.Ring.arg_w m ρ c)⟩)
      (Cert.Ring.run_main m ρ)
  · exact (θ_run Cert.ReferenceIdeal.defs _ _).mono (fun r h => ⟨(h 0).1.trans (reference_eq _ _), (h 0).2⟩)
      (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_reference, preserves, algebraic⟩

end Cert.Proof

end
